-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : IVec S32x3x512x512 32) : IVec S_ 1 :=
  let main_c : IVec S_ 32 := constantI S_ 32 0#32
  let main_v0 : IVec S32x3x512x512 32 := broadcastInDim S32x3x512x512 ![] bcast_S_S32x3x512x512 main_c
  let main_v1 : IVec S32x3x512x512 1 := cmpi .sge main_arg0 main_v0
  let main_c_0 : IVec S_ 32 := constantI S_ 32 255#32
  let main_v2 : IVec S32x3x512x512 32 := broadcastInDim S32x3x512x512 ![] bcast_S_S32x3x512x512 main_c_0
  let main_v3 : IVec S32x3x512x512 1 := cmpi .sle main_arg0 main_v2
  let main_v4 : IVec S32x3x512x512 1 := andi main_v1 main_v3
  let main_c_1 : IVec S_ 1 := constantI S_ 1 1#1
  let main_v5 : IVec S_ 1 := (fun x v => Host.reduce IntOp.andi x v reducesTo_S32x3x512x512_S_d0_1_2_3 h_S_) main_v4 main_c_1
  main_v5
-- ==== Kernel.lean ====
abbrev S32x3x512x512 : Shape := ⟨4, ![32, 3, 512, 512]⟩
abbrev S96x512x512 : Shape := ⟨3, ![96, 512, 512]⟩
abbrev S32x512 : Shape := ⟨2, ![32, 512]⟩
abbrev S16x512 : Shape := ⟨2, ![16, 512]⟩
abbrev S65536 : Shape := ⟨1, ![65536]⟩
abbrev S4096 : Shape := ⟨1, ![4096]⟩
abbrev S256 : Shape := ⟨1, ![256]⟩
abbrev S_ : Shape := ⟨0, ![]⟩
abbrev S16 : Shape := ⟨1, ![16]⟩
abbrev S1x32x512 : Shape := ⟨3, ![1, 32, 512]⟩
abbrev S1x16 : Shape := ⟨2, ![1, 16]⟩
abbrev S1 : Shape := ⟨1, ![1]⟩
abbrev S1x16x512 : Shape := ⟨3, ![1, 16, 512]⟩

abbrev nBuf : Table → Nat
  | .hbm => 4
  | .local .scVector .smem => 1
  | .local .scVector .vmem => 7
  | _ => 0

abbrev bufTy : (tb : Table) → Fin (nBuf tb) → BufTy
  | .hbm, ⟨0, _⟩ => ⟨S32x3x512x512, .i32⟩
  | .hbm, ⟨1, _⟩ => ⟨S96x512x512, .i32⟩
  | .hbm, ⟨2, _⟩ => ⟨S96x512x512, .i32⟩
  | .hbm, ⟨3, _⟩ => ⟨S32x3x512x512, .i32⟩
  | .local .scVector .smem, ⟨0, _⟩ => ⟨S256, .i32⟩
  | .local .scVector .vmem, ⟨0, _⟩ => ⟨S32x512, .i32⟩
  | .local .scVector .vmem, ⟨1, _⟩ => ⟨S32x512, .i32⟩
  | .local .scVector .vmem, ⟨2, _⟩ => ⟨S16x512, .i32⟩
  | .local .scVector .vmem, ⟨3, _⟩ => ⟨S16x512, .i32⟩
  | .local .scVector .vmem, ⟨4, _⟩ => ⟨S65536, .i32⟩
  | .local .scVector .vmem, ⟨5, _⟩ => ⟨S4096, .i32⟩
  | .local .scVector .vmem, ⟨6, _⟩ => ⟨S4096, .i32⟩
  | _, _ => ⟨S32x3x512x512, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch6 : Ref sig .scVector := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch7 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c3_i32 : BitVec 32 := 3#32
  let v7 : BitVec 32 := Scalar.addi c0_i32_0 c3_i32
  let c1_i32_1 : BitVec 32 := 1#32
  ⟨c0_i32_0, v7, c1_i32_1⟩
def k0_off1 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c0_i32_4 : BitVec 32 := 0#32
  let c0_i32_5 : BitVec 32 := 0#32
  ![v9.toNat, 0, 0]
def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c32_i32 : BitVec 32 := 32#32
  let c0_i32_8 : BitVec 32 := 0#32
  ![v9.toNat, 32, 0]
@[reducible] def k0_t2_loop : Scf.Loop 32 :=
  let c0_i32_11 : BitVec 32 := 0#32
  let c256_i32_12 : BitVec 32 := 256#32
  let v18 : BitVec 32 := Scalar.addi c0_i32_11 c256_i32_12
  let c1_i32_13 : BitVec 32 := 1#32
  ⟨c0_i32_11, v18, c1_i32_13⟩
def k0_off3 (k0_t2 : Fin k0_t2_loop.trips) : Fin 1 → Nat :=
  let c0_i32_572 : BitVec 32 := 0#32
  let c0_i32_11 : BitVec 32 := 0#32
  let c1_i32_13 : BitVec 32 := 1#32
  let arg17 : BitVec 32 := Scf.iv c0_i32_11 c1_i32_13 k0_t2
  let c1_i32_571 : BitVec 32 := 1#32
  let v454 : BitVec 32 := Scalar.muli arg17 c1_i32_571
  let v455 : BitVec 32 := Scalar.addi c0_i32_572 v454
  let c16_i32_573 : BitVec 32 := 16#32
  let v456 : BitVec 32 := Scalar.muli v455 c16_i32_573
  let v457 : Index := Scalar.indexCast v456
  ![v457.toNat]
@[reducible] def k0_t3_loop : Scf.Loop 32 :=
  let c0_i32_19 : BitVec 32 := 0#32
  let c256_i32_20 : BitVec 32 := 256#32
  let v23 : BitVec 32 := Scalar.addi c0_i32_19 c256_i32_20
  let c1_i32_21 : BitVec 32 := 1#32
  ⟨c0_i32_19, v23, c1_i32_21⟩
def k0_off4 (k0_t3 : Fin k0_t3_loop.trips) : Fin 2 → Nat :=
  let c0_i32_572 : BitVec 32 := 0#32
  let c0_i32_19 : BitVec 32 := 0#32
  let c1_i32_21 : BitVec 32 := 1#32
  let arg17 : BitVec 32 := Scf.iv c0_i32_19 c1_i32_21 k0_t3
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v460 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_574 : BitVec 32 := 0#32
  let v459 : BitVec 32 := Scalar.addi v458 c0_i32_574
  let v461 : Index := Scalar.indexCast v459
  ![v460.toNat, v461.toNat]

def k0_chk1 (v465 : IVec S16 32) : Prop :=
  (∀ a x, ((![v465] : Fin 1 → IVec S16 32) a x).toNat < S4096.size a)
theorem k0_idx1_inb : ∀ (v465 : IVec S16 32) (k0_hw1 : k0_chk1 v465), ∀ a x, ((![v465] : Fin 1 → IVec S16 32) a x).toNat < S4096.size a := fun v465 k0_hw1 => k0_hw1
def k0_off5 (k0_t3 : Fin k0_t3_loop.trips) : Fin 2 → Nat :=
  let c0_i32_572 : BitVec 32 := 0#32
  let c0_i32_19 : BitVec 32 := 0#32
  let c1_i32_21 : BitVec 32 := 1#32
  let arg17 : BitVec 32 := Scf.iv c0_i32_19 c1_i32_21 k0_t3
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v467 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_575 : BitVec 32 := 16#32
  let v466 : BitVec 32 := Scalar.addi v458 c16_i32_575
  let v468 : Index := Scalar.indexCast v466
  ![v467.toNat, v468.toNat]

def k0_chk2 (v472 : IVec S16 32) : Prop :=
  (∀ a x, ((![v472] : Fin 1 → IVec S16 32) a x).toNat < S4096.size a)
theorem k0_idx2_inb : ∀ (v472 : IVec S16 32) (k0_hw2 : k0_chk2 v472), ∀ a x, ((![v472] : Fin 1 → IVec S16 32) a x).toNat < S4096.size a := fun v472 k0_hw2 => k0_hw2
def k0_off6 (k0_t3 : Fin k0_t3_loop.trips) : Fin 2 → Nat :=
  let c0_i32_572 : BitVec 32 := 0#32
  let c0_i32_19 : BitVec 32 := 0#32
  let c1_i32_21 : BitVec 32 := 1#32
  let arg17 : BitVec 32 := Scf.iv c0_i32_19 c1_i32_21 k0_t3
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v474 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_577 : BitVec 32 := 32#32
  let v473 : BitVec 32 := Scalar.addi v458 c32_i32_577
  let v475 : Index := Scalar.indexCast v473
  ![v474.toNat, v475.toNat]

def k0_chk3 (v479 : IVec S16 32) : Prop :=
  (∀ a x, ((![v479] : Fin 1 → IVec S16 32) a x).toNat < S4096.size a)
theorem k0_idx3_inb : ∀ (v479 : IVec S16 32) (k0_hw3 : k0_chk3 v479), ∀ a x, ((![v479] : Fin 1 → IVec S16 32) a x).toNat < S4096.size a := fun v479 k0_hw3 => k0_hw3
def k0_off7 (k0_t3 : Fin k0_t3_loop.trips) : Fin 2 → Nat :=
  let c0_i32_572 : BitVec 32 := 0#32
  let c0_i32_19 : BitVec 32 := 0#32
  let c1_i32_21 : BitVec 32 := 1#32
  let arg17 : BitVec 32 := Scf.iv c0_i32_19 c1_i32_21 k0_t3
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v481 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_579 : BitVec 32 := 48#32
  let v480 : BitVec 32 := Scalar.addi v458 c48_i32_579
  let v482 : Index := Scalar.indexCast v480
  ![v481.toNat, v482.toNat]

def k0_chk4 (v486 : IVec S16 32) : Prop :=
  (∀ a x, ((![v486] : Fin 1 → IVec S16 32) a x).toNat < S4096.size a)
theorem k0_idx4_inb : ∀ (v486 : IVec S16 32) (k0_hw4 : k0_chk4 v486), ∀ a x, ((![v486] : Fin 1 → IVec S16 32) a x).toNat < S4096.size a := fun v486 k0_hw4 => k0_hw4
def k0_off8 (k0_t3 : Fin k0_t3_loop.trips) : Fin 1 → Nat :=
  let c0_i32_583 : BitVec 32 := 0#32
  let c0_i32_572 : BitVec 32 := 0#32
  let c0_i32_19 : BitVec 32 := 0#32
  let c1_i32_21 : BitVec 32 := 1#32
  let arg17 : BitVec 32 := Scf.iv c0_i32_19 c1_i32_21 k0_t3
  let c1_i32_571 : BitVec 32 := 1#32
  let v454 : BitVec 32 := Scalar.muli arg17 c1_i32_571
  let v455 : BitVec 32 := Scalar.addi c0_i32_572 v454
  let c16_i32_582 : BitVec 32 := 16#32
  let v496 : BitVec 32 := Scalar.muli v455 c16_i32_582
  let v497 : BitVec 32 := Scalar.addi c0_i32_583 v496
  let v498 : Index := Scalar.indexCast v497
  ![v498.toNat]
def k0_off9 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c64_i32 : BitVec 32 := 64#32
  let c0_i32_23 : BitVec 32 := 0#32
  ![v9.toNat, 64, 0]
@[reducible] def k0_t4_loop : Scf.Loop 32 :=
  let c0_i32_30 : BitVec 32 := 0#32
  let c256_i32_31 : BitVec 32 := 256#32
  let v32 : BitVec 32 := Scalar.addi c0_i32_30 c256_i32_31
  let c1_i32_32 : BitVec 32 := 1#32
  ⟨c0_i32_30, v32, c1_i32_32⟩
def k0_off10 (k0_t4 : Fin k0_t4_loop.trips) : Fin 2 → Nat :=
  let c0_i32_572 : BitVec 32 := 0#32
  let c0_i32_30 : BitVec 32 := 0#32
  let c1_i32_32 : BitVec 32 := 1#32
  let arg17 : BitVec 32 := Scf.iv c0_i32_30 c1_i32_32 k0_t4
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v460 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_574 : BitVec 32 := 0#32
  let v459 : BitVec 32 := Scalar.addi v458 c0_i32_574
  let v461 : Index := Scalar.indexCast v459
  ![v460.toNat, v461.toNat]

def k0_chk5 (v465 : IVec S16 32) : Prop :=
  (∀ a x, ((![v465] : Fin 1 → IVec S16 32) a x).toNat < S4096.size a)
theorem k0_idx5_inb : ∀ (v465 : IVec S16 32) (k0_hw5 : k0_chk5 v465), ∀ a x, ((![v465] : Fin 1 → IVec S16 32) a x).toNat < S4096.size a := fun v465 k0_hw5 => k0_hw5
def k0_off11 (k0_t4 : Fin k0_t4_loop.trips) : Fin 2 → Nat :=
  let c0_i32_572 : BitVec 32 := 0#32
  let c0_i32_30 : BitVec 32 := 0#32
  let c1_i32_32 : BitVec 32 := 1#32
  let arg17 : BitVec 32 := Scf.iv c0_i32_30 c1_i32_32 k0_t4
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v467 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_575 : BitVec 32 := 16#32
  let v466 : BitVec 32 := Scalar.addi v458 c16_i32_575
  let v468 : Index := Scalar.indexCast v466
  ![v467.toNat, v468.toNat]

def k0_chk6 (v472 : IVec S16 32) : Prop :=
  (∀ a x, ((![v472] : Fin 1 → IVec S16 32) a x).toNat < S4096.size a)
theorem k0_idx6_inb : ∀ (v472 : IVec S16 32) (k0_hw6 : k0_chk6 v472), ∀ a x, ((![v472] : Fin 1 → IVec S16 32) a x).toNat < S4096.size a := fun v472 k0_hw6 => k0_hw6
def k0_off12 (k0_t4 : Fin k0_t4_loop.trips) : Fin 2 → Nat :=
  let c0_i32_572 : BitVec 32 := 0#32
  let c0_i32_30 : BitVec 32 := 0#32
  let c1_i32_32 : BitVec 32 := 1#32
  let arg17 : BitVec 32 := Scf.iv c0_i32_30 c1_i32_32 k0_t4
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v474 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_577 : BitVec 32 := 32#32
  let v473 : BitVec 32 := Scalar.addi v458 c32_i32_577
  let v475 : Index := Scalar.indexCast v473
  ![v474.toNat, v475.toNat]

def k0_chk7 (v479 : IVec S16 32) : Prop :=
  (∀ a x, ((![v479] : Fin 1 → IVec S16 32) a x).toNat < S4096.size a)
theorem k0_idx7_inb : ∀ (v479 : IVec S16 32) (k0_hw7 : k0_chk7 v479), ∀ a x, ((![v479] : Fin 1 → IVec S16 32) a x).toNat < S4096.size a := fun v479 k0_hw7 => k0_hw7
def k0_off13 (k0_t4 : Fin k0_t4_loop.trips) : Fin 2 → Nat :=
  let c0_i32_572 : BitVec 32 := 0#32
  let c0_i32_30 : BitVec 32 := 0#32
  let c1_i32_32 : BitVec 32 := 1#32
  let arg17 : BitVec 32 := Scf.iv c0_i32_30 c1_i32_32 k0_t4
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v481 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_579 : BitVec 32 := 48#32
  let v480 : BitVec 32 := Scalar.addi v458 c48_i32_579
  let v482 : Index := Scalar.indexCast v480
  ![v481.toNat, v482.toNat]

def k0_chk8 (v486 : IVec S16 32) : Prop :=
  (∀ a x, ((![v486] : Fin 1 → IVec S16 32) a x).toNat < S4096.size a)
theorem k0_idx8_inb : ∀ (v486 : IVec S16 32) (k0_hw8 : k0_chk8 v486), ∀ a x, ((![v486] : Fin 1 → IVec S16 32) a x).toNat < S4096.size a := fun v486 k0_hw8 => k0_hw8
def k0_off14 (k0_t4 : Fin k0_t4_loop.trips) : Fin 1 → Nat :=
  let c4096_i32 : BitVec 32 := 4096#32
  let c0_i32_572 : BitVec 32 := 0#32
  let c0_i32_30 : BitVec 32 := 0#32
  let c1_i32_32 : BitVec 32 := 1#32
  let arg17 : BitVec 32 := Scf.iv c0_i32_30 c1_i32_32 k0_t4
  let c1_i32_571 : BitVec 32 := 1#32
  let v454 : BitVec 32 := Scalar.muli arg17 c1_i32_571
  let v455 : BitVec 32 := Scalar.addi c0_i32_572 v454
  let c16_i32_582 : BitVec 32 := 16#32
  let v496 : BitVec 32 := Scalar.muli v455 c16_i32_582
  let v497 : BitVec 32 := Scalar.addi c4096_i32 v496
  let v498 : Index := Scalar.indexCast v497
  ![v498.toNat]
def k0_off15 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c96_i32 : BitVec 32 := 96#32
  let c0_i32_34 : BitVec 32 := 0#32
  ![v9.toNat, 96, 0]
@[reducible] def k0_t5_loop : Scf.Loop 32 :=
  let c0_i32_41 : BitVec 32 := 0#32
  let c256_i32_42 : BitVec 32 := 256#32
  let v41 : BitVec 32 := Scalar.addi c0_i32_41 c256_i32_42
  let c1_i32_43 : BitVec 32 := 1#32
  ⟨c0_i32_41, v41, c1_i32_43⟩
def k0_off16 (k0_t5 : Fin k0_t5_loop.trips) : Fin 2 → Nat :=
  let c0_i32_572 : BitVec 32 := 0#32
  let c0_i32_41 : BitVec 32 := 0#32
  let c1_i32_43 : BitVec 32 := 1#32
  let arg17 : BitVec 32 := Scf.iv c0_i32_41 c1_i32_43 k0_t5
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v460 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_574 : BitVec 32 := 0#32
  let v459 : BitVec 32 := Scalar.addi v458 c0_i32_574
  let v461 : Index := Scalar.indexCast v459
  ![v460.toNat, v461.toNat]

def k0_chk9 (v465 : IVec S16 32) : Prop :=
  (∀ a x, ((![v465] : Fin 1 → IVec S16 32) a x).toNat < S4096.size a)
theorem k0_idx9_inb : ∀ (v465 : IVec S16 32) (k0_hw9 : k0_chk9 v465), ∀ a x, ((![v465] : Fin 1 → IVec S16 32) a x).toNat < S4096.size a := fun v465 k0_hw9 => k0_hw9
def k0_off17 (k0_t5 : Fin k0_t5_loop.trips) : Fin 2 → Nat :=
  let c0_i32_572 : BitVec 32 := 0#32
  let c0_i32_41 : BitVec 32 := 0#32
  let c1_i32_43 : BitVec 32 := 1#32
  let arg17 : BitVec 32 := Scf.iv c0_i32_41 c1_i32_43 k0_t5
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v467 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_575 : BitVec 32 := 16#32
  let v466 : BitVec 32 := Scalar.addi v458 c16_i32_575
  let v468 : Index := Scalar.indexCast v466
  ![v467.toNat, v468.toNat]

def k0_chk10 (v472 : IVec S16 32) : Prop :=
  (∀ a x, ((![v472] : Fin 1 → IVec S16 32) a x).toNat < S4096.size a)
theorem k0_idx10_inb : ∀ (v472 : IVec S16 32) (k0_hw10 : k0_chk10 v472), ∀ a x, ((![v472] : Fin 1 → IVec S16 32) a x).toNat < S4096.size a := fun v472 k0_hw10 => k0_hw10
def k0_off18 (k0_t5 : Fin k0_t5_loop.trips) : Fin 2 → Nat :=
  let c0_i32_572 : BitVec 32 := 0#32
  let c0_i32_41 : BitVec 32 := 0#32
  let c1_i32_43 : BitVec 32 := 1#32
  let arg17 : BitVec 32 := Scf.iv c0_i32_41 c1_i32_43 k0_t5
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v474 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_577 : BitVec 32 := 32#32
  let v473 : BitVec 32 := Scalar.addi v458 c32_i32_577
  let v475 : Index := Scalar.indexCast v473
  ![v474.toNat, v475.toNat]

def k0_chk11 (v479 : IVec S16 32) : Prop :=
  (∀ a x, ((![v479] : Fin 1 → IVec S16 32) a x).toNat < S4096.size a)
theorem k0_idx11_inb : ∀ (v479 : IVec S16 32) (k0_hw11 : k0_chk11 v479), ∀ a x, ((![v479] : Fin 1 → IVec S16 32) a x).toNat < S4096.size a := fun v479 k0_hw11 => k0_hw11
def k0_off19 (k0_t5 : Fin k0_t5_loop.trips) : Fin 2 → Nat :=
  let c0_i32_572 : BitVec 32 := 0#32
  let c0_i32_41 : BitVec 32 := 0#32
  let c1_i32_43 : BitVec 32 := 1#32
  let arg17 : BitVec 32 := Scf.iv c0_i32_41 c1_i32_43 k0_t5
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v481 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_579 : BitVec 32 := 48#32
  let v480 : BitVec 32 := Scalar.addi v458 c48_i32_579
  let v482 : Index := Scalar.indexCast v480
  ![v481.toNat, v482.toNat]

def k0_chk12 (v486 : IVec S16 32) : Prop :=
  (∀ a x, ((![v486] : Fin 1 → IVec S16 32) a x).toNat < S4096.size a)
theorem k0_idx12_inb : ∀ (v486 : IVec S16 32) (k0_hw12 : k0_chk12 v486), ∀ a x, ((![v486] : Fin 1 → IVec S16 32) a x).toNat < S4096.size a := fun v486 k0_hw12 => k0_hw12
def k0_off20 (k0_t5 : Fin k0_t5_loop.trips) : Fin 1 → Nat :=
  let c8192_i32 : BitVec 32 := 8192#32
  let c0_i32_572 : BitVec 32 := 0#32
  let c0_i32_41 : BitVec 32 := 0#32
  let c1_i32_43 : BitVec 32 := 1#32
  let arg17 : BitVec 32 := Scf.iv c0_i32_41 c1_i32_43 k0_t5
  let c1_i32_571 : BitVec 32 := 1#32
  let v454 : BitVec 32 := Scalar.muli arg17 c1_i32_571
  let v455 : BitVec 32 := Scalar.addi c0_i32_572 v454
  let c16_i32_582 : BitVec 32 := 16#32
  let v496 : BitVec 32 := Scalar.muli v455 c16_i32_582
  let v497 : BitVec 32 := Scalar.addi c8192_i32 v496
  let v498 : Index := Scalar.indexCast v497
  ![v498.toNat]
def k0_off21 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c128_i32 : BitVec 32 := 128#32
  let c0_i32_45 : BitVec 32 := 0#32
  ![v9.toNat, 128, 0]
@[reducible] def k0_t6_loop : Scf.Loop 32 :=
  let c0_i32_52 : BitVec 32 := 0#32
  let c256_i32_53 : BitVec 32 := 256#32
  let v50 : BitVec 32 := Scalar.addi c0_i32_52 c256_i32_53
  let c1_i32_54 : BitVec 32 := 1#32
  ⟨c0_i32_52, v50, c1_i32_54⟩
def k0_off22 (k0_t6 : Fin k0_t6_loop.trips) : Fin 2 → Nat :=
  let c0_i32_572 : BitVec 32 := 0#32
  let c0_i32_52 : BitVec 32 := 0#32
  let c1_i32_54 : BitVec 32 := 1#32
  let arg17 : BitVec 32 := Scf.iv c0_i32_52 c1_i32_54 k0_t6
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v460 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_574 : BitVec 32 := 0#32
  let v459 : BitVec 32 := Scalar.addi v458 c0_i32_574
  let v461 : Index := Scalar.indexCast v459
  ![v460.toNat, v461.toNat]

def k0_chk13 (v465 : IVec S16 32) : Prop :=
  (∀ a x, ((![v465] : Fin 1 → IVec S16 32) a x).toNat < S4096.size a)
theorem k0_idx13_inb : ∀ (v465 : IVec S16 32) (k0_hw13 : k0_chk13 v465), ∀ a x, ((![v465] : Fin 1 → IVec S16 32) a x).toNat < S4096.size a := fun v465 k0_hw13 => k0_hw13
def k0_off23 (k0_t6 : Fin k0_t6_loop.trips) : Fin 2 → Nat :=
  let c0_i32_572 : BitVec 32 := 0#32
  let c0_i32_52 : BitVec 32 := 0#32
  let c1_i32_54 : BitVec 32 := 1#32
  let arg17 : BitVec 32 := Scf.iv c0_i32_52 c1_i32_54 k0_t6
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v467 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_575 : BitVec 32 := 16#32
  let v466 : BitVec 32 := Scalar.addi v458 c16_i32_575
  let v468 : Index := Scalar.indexCast v466
  ![v467.toNat, v468.toNat]

def k0_chk14 (v472 : IVec S16 32) : Prop :=
  (∀ a x, ((![v472] : Fin 1 → IVec S16 32) a x).toNat < S4096.size a)
theorem k0_idx14_inb : ∀ (v472 : IVec S16 32) (k0_hw14 : k0_chk14 v472), ∀ a x, ((![v472] : Fin 1 → IVec S16 32) a x).toNat < S4096.size a := fun v472 k0_hw14 => k0_hw14
def k0_off24 (k0_t6 : Fin k0_t6_loop.trips) : Fin 2 → Nat :=
  let c0_i32_572 : BitVec 32 := 0#32
  let c0_i32_52 : BitVec 32 := 0#32
  let c1_i32_54 : BitVec 32 := 1#32
  let arg17 : BitVec 32 := Scf.iv c0_i32_52 c1_i32_54 k0_t6
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v474 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_577 : BitVec 32 := 32#32
  let v473 : BitVec 32 := Scalar.addi v458 c32_i32_577
  let v475 : Index := Scalar.indexCast v473
  ![v474.toNat, v475.toNat]

def k0_chk15 (v479 : IVec S16 32) : Prop :=
  (∀ a x, ((![v479] : Fin 1 → IVec S16 32) a x).toNat < S4096.size a)
theorem k0_idx15_inb : ∀ (v479 : IVec S16 32) (k0_hw15 : k0_chk15 v479), ∀ a x, ((![v479] : Fin 1 → IVec S16 32) a x).toNat < S4096.size a := fun v479 k0_hw15 => k0_hw15
def k0_off25 (k0_t6 : Fin k0_t6_loop.trips) : Fin 2 → Nat :=
  let c0_i32_572 : BitVec 32 := 0#32
  let c0_i32_52 : BitVec 32 := 0#32
  let c1_i32_54 : BitVec 32 := 1#32
  let arg17 : BitVec 32 := Scf.iv c0_i32_52 c1_i32_54 k0_t6
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v481 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_579 : BitVec 32 := 48#32
  let v480 : BitVec 32 := Scalar.addi v458 c48_i32_579
  let v482 : Index := Scalar.indexCast v480
  ![v481.toNat, v482.toNat]

def k0_chk16 (v486 : IVec S16 32) : Prop :=
  (∀ a x, ((![v486] : Fin 1 → IVec S16 32) a x).toNat < S4096.size a)
theorem k0_idx16_inb : ∀ (v486 : IVec S16 32) (k0_hw16 : k0_chk16 v486), ∀ a x, ((![v486] : Fin 1 → IVec S16 32) a x).toNat < S4096.size a := fun v486 k0_hw16 => k0_hw16
def k0_off26 (k0_t6 : Fin k0_t6_loop.trips) : Fin 1 → Nat :=
  let c12288_i32 : BitVec 32 := 12288#32
  let c0_i32_572 : BitVec 32 := 0#32
  let c0_i32_52 : BitVec 32 := 0#32
  let c1_i32_54 : BitVec 32 := 1#32
  let arg17 : BitVec 32 := Scf.iv c0_i32_52 c1_i32_54 k0_t6
  let c1_i32_571 : BitVec 32 := 1#32
  let v454 : BitVec 32 := Scalar.muli arg17 c1_i32_571
  let v455 : BitVec 32 := Scalar.addi c0_i32_572 v454
  let c16_i32_582 : BitVec 32 := 16#32
  let v496 : BitVec 32 := Scalar.muli v455 c16_i32_582
  let v497 : BitVec 32 := Scalar.addi c12288_i32 v496
  let v498 : Index := Scalar.indexCast v497
  ![v498.toNat]
def k0_off27 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c160_i32 : BitVec 32 := 160#32
  let c0_i32_56 : BitVec 32 := 0#32
  ![v9.toNat, 160, 0]
@[reducible] def k0_t7_loop : Scf.Loop 32 :=
  let c0_i32_63 : BitVec 32 := 0#32
  let c256_i32_64 : BitVec 32 := 256#32
  let v59 : BitVec 32 := Scalar.addi c0_i32_63 c256_i32_64
  let c1_i32_65 : BitVec 32 := 1#32
  ⟨c0_i32_63, v59, c1_i32_65⟩
def k0_off28 (k0_t7 : Fin k0_t7_loop.trips) : Fin 2 → Nat :=
  let c0_i32_572 : BitVec 32 := 0#32
  let c0_i32_63 : BitVec 32 := 0#32
  let c1_i32_65 : BitVec 32 := 1#32
  let arg17 : BitVec 32 := Scf.iv c0_i32_63 c1_i32_65 k0_t7
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v460 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_574 : BitVec 32 := 0#32
  let v459 : BitVec 32 := Scalar.addi v458 c0_i32_574
  let v461 : Index := Scalar.indexCast v459
  ![v460.toNat, v461.toNat]

def k0_chk17 (v465 : IVec S16 32) : Prop :=
  (∀ a x, ((![v465] : Fin 1 → IVec S16 32) a x).toNat < S4096.size a)
theorem k0_idx17_inb : ∀ (v465 : IVec S16 32) (k0_hw17 : k0_chk17 v465), ∀ a x, ((![v465] : Fin 1 → IVec S16 32) a x).toNat < S4096.size a := fun v465 k0_hw17 => k0_hw17
def k0_off29 (k0_t7 : Fin k0_t7_loop.trips) : Fin 2 → Nat :=
  let c0_i32_572 : BitVec 32 := 0#32
  let c0_i32_63 : BitVec 32 := 0#32
  let c1_i32_65 : BitVec 32 := 1#32
  let arg17 : BitVec 32 := Scf.iv c0_i32_63 c1_i32_65 k0_t7
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v467 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_575 : BitVec 32 := 16#32
  let v466 : BitVec 32 := Scalar.addi v458 c16_i32_575
  let v468 : Index := Scalar.indexCast v466
  ![v467.toNat, v468.toNat]

def k0_chk18 (v472 : IVec S16 32) : Prop :=
  (∀ a x, ((![v472] : Fin 1 → IVec S16 32) a x).toNat < S4096.size a)
theorem k0_idx18_inb : ∀ (v472 : IVec S16 32) (k0_hw18 : k0_chk18 v472), ∀ a x, ((![v472] : Fin 1 → IVec S16 32) a x).toNat < S4096.size a := fun v472 k0_hw18 => k0_hw18
def k0_off30 (k0_t7 : Fin k0_t7_loop.trips) : Fin 2 → Nat :=
  let c0_i32_572 : BitVec 32 := 0#32
  let c0_i32_63 : BitVec 32 := 0#32
  let c1_i32_65 : BitVec 32 := 1#32
  let arg17 : BitVec 32 := Scf.iv c0_i32_63 c1_i32_65 k0_t7
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v474 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_577 : BitVec 32 := 32#32
  let v473 : BitVec 32 := Scalar.addi v458 c32_i32_577
  let v475 : Index := Scalar.indexCast v473
  ![v474.toNat, v475.toNat]

def k0_chk19 (v479 : IVec S16 32) : Prop :=
  (∀ a x, ((![v479] : Fin 1 → IVec S16 32) a x).toNat < S4096.size a)
theorem k0_idx19_inb : ∀ (v479 : IVec S16 32) (k0_hw19 : k0_chk19 v479), ∀ a x, ((![v479] : Fin 1 → IVec S16 32) a x).toNat < S4096.size a := fun v479 k0_hw19 => k0_hw19
def k0_off31 (k0_t7 : Fin k0_t7_loop.trips) : Fin 2 → Nat :=
  let c0_i32_572 : BitVec 32 := 0#32
  let c0_i32_63 : BitVec 32 := 0#32
  let c1_i32_65 : BitVec 32 := 1#32
  let arg17 : BitVec 32 := Scf.iv c0_i32_63 c1_i32_65 k0_t7
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v481 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_579 : BitVec 32 := 48#32
  let v480 : BitVec 32 := Scalar.addi v458 c48_i32_579
  let v482 : Index := Scalar.indexCast v480
  ![v481.toNat, v482.toNat]

def k0_chk20 (v486 : IVec S16 32) : Prop :=
  (∀ a x, ((![v486] : Fin 1 → IVec S16 32) a x).toNat < S4096.size a)
theorem k0_idx20_inb : ∀ (v486 : IVec S16 32) (k0_hw20 : k0_chk20 v486), ∀ a x, ((![v486] : Fin 1 → IVec S16 32) a x).toNat < S4096.size a := fun v486 k0_hw20 => k0_hw20
def k0_off32 (k0_t7 : Fin k0_t7_loop.trips) : Fin 1 → Nat :=
  let c16384_i32 : BitVec 32 := 16384#32
  let c0_i32_572 : BitVec 32 := 0#32
  let c0_i32_63 : BitVec 32 := 0#32
  let c1_i32_65 : BitVec 32 := 1#32
  let arg17 : BitVec 32 := Scf.iv c0_i32_63 c1_i32_65 k0_t7
  let c1_i32_571 : BitVec 32 := 1#32
  let v454 : BitVec 32 := Scalar.muli arg17 c1_i32_571
  let v455 : BitVec 32 := Scalar.addi c0_i32_572 v454
  let c16_i32_582 : BitVec 32 := 16#32
  let v496 : BitVec 32 := Scalar.muli v455 c16_i32_582
  let v497 : BitVec 32 := Scalar.addi c16384_i32 v496
  let v498 : Index := Scalar.indexCast v497
  ![v498.toNat]
def k0_off33 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c192_i32 : BitVec 32 := 192#32
  let c0_i32_67 : BitVec 32 := 0#32
  ![v9.toNat, 192, 0]
@[reducible] def k0_t8_loop : Scf.Loop 32 :=
  let c0_i32_74 : BitVec 32 := 0#32
  let c256_i32_75 : BitVec 32 := 256#32
  let v68 : BitVec 32 := Scalar.addi c0_i32_74 c256_i32_75
  let c1_i32_76 : BitVec 32 := 1#32
  ⟨c0_i32_74, v68, c1_i32_76⟩
def k0_off34 (k0_t8 : Fin k0_t8_loop.trips) : Fin 2 → Nat :=
  let c0_i32_572 : BitVec 32 := 0#32
  let c0_i32_74 : BitVec 32 := 0#32
  let c1_i32_76 : BitVec 32 := 1#32
  let arg17 : BitVec 32 := Scf.iv c0_i32_74 c1_i32_76 k0_t8
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v460 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_574 : BitVec 32 := 0#32
  let v459 : BitVec 32 := Scalar.addi v458 c0_i32_574
  let v461 : Index := Scalar.indexCast v459
  ![v460.toNat, v461.toNat]

def k0_chk21 (v465 : IVec S16 32) : Prop :=
  (∀ a x, ((![v465] : Fin 1 → IVec S16 32) a x).toNat < S4096.size a)
theorem k0_idx21_inb : ∀ (v465 : IVec S16 32) (k0_hw21 : k0_chk21 v465), ∀ a x, ((![v465] : Fin 1 → IVec S16 32) a x).toNat < S4096.size a := fun v465 k0_hw21 => k0_hw21
def k0_off35 (k0_t8 : Fin k0_t8_loop.trips) : Fin 2 → Nat :=
  let c0_i32_572 : BitVec 32 := 0#32
  let c0_i32_74 : BitVec 32 := 0#32
  let c1_i32_76 : BitVec 32 := 1#32
  let arg17 : BitVec 32 := Scf.iv c0_i32_74 c1_i32_76 k0_t8
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v467 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_575 : BitVec 32 := 16#32
  let v466 : BitVec 32 := Scalar.addi v458 c16_i32_575
  let v468 : Index := Scalar.indexCast v466
  ![v467.toNat, v468.toNat]

def k0_chk22 (v472 : IVec S16 32) : Prop :=
  (∀ a x, ((![v472] : Fin 1 → IVec S16 32) a x).toNat < S4096.size a)
theorem k0_idx22_inb : ∀ (v472 : IVec S16 32) (k0_hw22 : k0_chk22 v472), ∀ a x, ((![v472] : Fin 1 → IVec S16 32) a x).toNat < S4096.size a := fun v472 k0_hw22 => k0_hw22
def k0_off36 (k0_t8 : Fin k0_t8_loop.trips) : Fin 2 → Nat :=
  let c0_i32_572 : BitVec 32 := 0#32
  let c0_i32_74 : BitVec 32 := 0#32
  let c1_i32_76 : BitVec 32 := 1#32
  let arg17 : BitVec 32 := Scf.iv c0_i32_74 c1_i32_76 k0_t8
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v474 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_577 : BitVec 32 := 32#32
  let v473 : BitVec 32 := Scalar.addi v458 c32_i32_577
  let v475 : Index := Scalar.indexCast v473
  ![v474.toNat, v475.toNat]

def k0_chk23 (v479 : IVec S16 32) : Prop :=
  (∀ a x, ((![v479] : Fin 1 → IVec S16 32) a x).toNat < S4096.size a)
theorem k0_idx23_inb : ∀ (v479 : IVec S16 32) (k0_hw23 : k0_chk23 v479), ∀ a x, ((![v479] : Fin 1 → IVec S16 32) a x).toNat < S4096.size a := fun v479 k0_hw23 => k0_hw23
def k0_off37 (k0_t8 : Fin k0_t8_loop.trips) : Fin 2 → Nat :=
  let c0_i32_572 : BitVec 32 := 0#32
  let c0_i32_74 : BitVec 32 := 0#32
  let c1_i32_76 : BitVec 32 := 1#32
  let arg17 : BitVec 32 := Scf.iv c0_i32_74 c1_i32_76 k0_t8
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v481 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_579 : BitVec 32 := 48#32
  let v480 : BitVec 32 := Scalar.addi v458 c48_i32_579
  let v482 : Index := Scalar.indexCast v480
  ![v481.toNat, v482.toNat]

def k0_chk24 (v486 : IVec S16 32) : Prop :=
  (∀ a x, ((![v486] : Fin 1 → IVec S16 32) a x).toNat < S4096.size a)
theorem k0_idx24_inb : ∀ (v486 : IVec S16 32) (k0_hw24 : k0_chk24 v486), ∀ a x, ((![v486] : Fin 1 → IVec S16 32) a x).toNat < S4096.size a := fun v486 k0_hw24 => k0_hw24
def k0_off38 (k0_t8 : Fin k0_t8_loop.trips) : Fin 1 → Nat :=
  let c20480_i32 : BitVec 32 := 20480#32
  let c0_i32_572 : BitVec 32 := 0#32
  let c0_i32_74 : BitVec 32 := 0#32
  let c1_i32_76 : BitVec 32 := 1#32
  let arg17 : BitVec 32 := Scf.iv c0_i32_74 c1_i32_76 k0_t8
  let c1_i32_571 : BitVec 32 := 1#32
  let v454 : BitVec 32 := Scalar.muli arg17 c1_i32_571
  let v455 : BitVec 32 := Scalar.addi c0_i32_572 v454
  let c16_i32_582 : BitVec 32 := 16#32
  let v496 : BitVec 32 := Scalar.muli v455 c16_i32_582
  let v497 : BitVec 32 := Scalar.addi c20480_i32 v496
  let v498 : Index := Scalar.indexCast v497
  ![v498.toNat]
def k0_off39 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c224_i32 : BitVec 32 := 224#32
  let c0_i32_78 : BitVec 32 := 0#32
  ![v9.toNat, 224, 0]
@[reducible] def k0_t9_loop : Scf.Loop 32 :=
  let c0_i32_85 : BitVec 32 := 0#32
  let c256_i32_86 : BitVec 32 := 256#32
  let v77 : BitVec 32 := Scalar.addi c0_i32_85 c256_i32_86
  let c1_i32_87 : BitVec 32 := 1#32
  ⟨c0_i32_85, v77, c1_i32_87⟩
def k0_off40 (k0_t9 : Fin k0_t9_loop.trips) : Fin 2 → Nat :=
  let c0_i32_572 : BitVec 32 := 0#32
  let c0_i32_85 : BitVec 32 := 0#32
  let c1_i32_87 : BitVec 32 := 1#32
  let arg17 : BitVec 32 := Scf.iv c0_i32_85 c1_i32_87 k0_t9
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v460 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_574 : BitVec 32 := 0#32
  let v459 : BitVec 32 := Scalar.addi v458 c0_i32_574
  let v461 : Index := Scalar.indexCast v459
  ![v460.toNat, v461.toNat]

def k0_chk25 (v465 : IVec S16 32) : Prop :=
  (∀ a x, ((![v465] : Fin 1 → IVec S16 32) a x).toNat < S4096.size a)
theorem k0_idx25_inb : ∀ (v465 : IVec S16 32) (k0_hw25 : k0_chk25 v465), ∀ a x, ((![v465] : Fin 1 → IVec S16 32) a x).toNat < S4096.size a := fun v465 k0_hw25 => k0_hw25
def k0_off41 (k0_t9 : Fin k0_t9_loop.trips) : Fin 2 → Nat :=
  let c0_i32_572 : BitVec 32 := 0#32
  let c0_i32_85 : BitVec 32 := 0#32
  let c1_i32_87 : BitVec 32 := 1#32
  let arg17 : BitVec 32 := Scf.iv c0_i32_85 c1_i32_87 k0_t9
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v467 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_575 : BitVec 32 := 16#32
  let v466 : BitVec 32 := Scalar.addi v458 c16_i32_575
  let v468 : Index := Scalar.indexCast v466
  ![v467.toNat, v468.toNat]

def k0_chk26 (v472 : IVec S16 32) : Prop :=
  (∀ a x, ((![v472] : Fin 1 → IVec S16 32) a x).toNat < S4096.size a)
theorem k0_idx26_inb : ∀ (v472 : IVec S16 32) (k0_hw26 : k0_chk26 v472), ∀ a x, ((![v472] : Fin 1 → IVec S16 32) a x).toNat < S4096.size a := fun v472 k0_hw26 => k0_hw26
def k0_off42 (k0_t9 : Fin k0_t9_loop.trips) : Fin 2 → Nat :=
  let c0_i32_572 : BitVec 32 := 0#32
  let c0_i32_85 : BitVec 32 := 0#32
  let c1_i32_87 : BitVec 32 := 1#32
  let arg17 : BitVec 32 := Scf.iv c0_i32_85 c1_i32_87 k0_t9
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v474 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_577 : BitVec 32 := 32#32
  let v473 : BitVec 32 := Scalar.addi v458 c32_i32_577
  let v475 : Index := Scalar.indexCast v473
  ![v474.toNat, v475.toNat]

def k0_chk27 (v479 : IVec S16 32) : Prop :=
  (∀ a x, ((![v479] : Fin 1 → IVec S16 32) a x).toNat < S4096.size a)
theorem k0_idx27_inb : ∀ (v479 : IVec S16 32) (k0_hw27 : k0_chk27 v479), ∀ a x, ((![v479] : Fin 1 → IVec S16 32) a x).toNat < S4096.size a := fun v479 k0_hw27 => k0_hw27
def k0_off43 (k0_t9 : Fin k0_t9_loop.trips) : Fin 2 → Nat :=
  let c0_i32_572 : BitVec 32 := 0#32
  let c0_i32_85 : BitVec 32 := 0#32
  let c1_i32_87 : BitVec 32 := 1#32
  let arg17 : BitVec 32 := Scf.iv c0_i32_85 c1_i32_87 k0_t9
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v481 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_579 : BitVec 32 := 48#32
  let v480 : BitVec 32 := Scalar.addi v458 c48_i32_579
  let v482 : Index := Scalar.indexCast v480
  ![v481.toNat, v482.toNat]

def k0_chk28 (v486 : IVec S16 32) : Prop :=
  (∀ a x, ((![v486] : Fin 1 → IVec S16 32) a x).toNat < S4096.size a)
theorem k0_idx28_inb : ∀ (v486 : IVec S16 32) (k0_hw28 : k0_chk28 v486), ∀ a x, ((![v486] : Fin 1 → IVec S16 32) a x).toNat < S4096.size a := fun v486 k0_hw28 => k0_hw28
def k0_off44 (k0_t9 : Fin k0_t9_loop.trips) : Fin 1 → Nat :=
  let c24576_i32 : BitVec 32 := 24576#32
  let c0_i32_572 : BitVec 32 := 0#32
  let c0_i32_85 : BitVec 32 := 0#32
  let c1_i32_87 : BitVec 32 := 1#32
  let arg17 : BitVec 32 := Scf.iv c0_i32_85 c1_i32_87 k0_t9
  let c1_i32_571 : BitVec 32 := 1#32
  let v454 : BitVec 32 := Scalar.muli arg17 c1_i32_571
  let v455 : BitVec 32 := Scalar.addi c0_i32_572 v454
  let c16_i32_582 : BitVec 32 := 16#32
  let v496 : BitVec 32 := Scalar.muli v455 c16_i32_582
  let v497 : BitVec 32 := Scalar.addi c24576_i32 v496
  let v498 : Index := Scalar.indexCast v497
  ![v498.toNat]
def k0_off45 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c256_i32_89 : BitVec 32 := 256#32
  let c0_i32_90 : BitVec 32 := 0#32
  ![v9.toNat, 256, 0]
@[reducible] def k0_t10_loop : Scf.Loop 32 :=
  let c0_i32_97 : BitVec 32 := 0#32
  let c256_i32_98 : BitVec 32 := 256#32
  let v86 : BitVec 32 := Scalar.addi c0_i32_97 c256_i32_98
  let c1_i32_99 : BitVec 32 := 1#32
  ⟨c0_i32_97, v86, c1_i32_99⟩
def k0_off46 (k0_t10 : Fin k0_t10_loop.trips) : Fin 2 → Nat :=
  let c0_i32_572 : BitVec 32 := 0#32
  let c0_i32_97 : BitVec 32 := 0#32
  let c1_i32_99 : BitVec 32 := 1#32
  let arg17 : BitVec 32 := Scf.iv c0_i32_97 c1_i32_99 k0_t10
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v460 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_574 : BitVec 32 := 0#32
  let v459 : BitVec 32 := Scalar.addi v458 c0_i32_574
  let v461 : Index := Scalar.indexCast v459
  ![v460.toNat, v461.toNat]

def k0_chk29 (v465 : IVec S16 32) : Prop :=
  (∀ a x, ((![v465] : Fin 1 → IVec S16 32) a x).toNat < S4096.size a)
theorem k0_idx29_inb : ∀ (v465 : IVec S16 32) (k0_hw29 : k0_chk29 v465), ∀ a x, ((![v465] : Fin 1 → IVec S16 32) a x).toNat < S4096.size a := fun v465 k0_hw29 => k0_hw29
def k0_off47 (k0_t10 : Fin k0_t10_loop.trips) : Fin 2 → Nat :=
  let c0_i32_572 : BitVec 32 := 0#32
  let c0_i32_97 : BitVec 32 := 0#32
  let c1_i32_99 : BitVec 32 := 1#32
  let arg17 : BitVec 32 := Scf.iv c0_i32_97 c1_i32_99 k0_t10
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v467 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_575 : BitVec 32 := 16#32
  let v466 : BitVec 32 := Scalar.addi v458 c16_i32_575
  let v468 : Index := Scalar.indexCast v466
  ![v467.toNat, v468.toNat]

def k0_chk30 (v472 : IVec S16 32) : Prop :=
  (∀ a x, ((![v472] : Fin 1 → IVec S16 32) a x).toNat < S4096.size a)
theorem k0_idx30_inb : ∀ (v472 : IVec S16 32) (k0_hw30 : k0_chk30 v472), ∀ a x, ((![v472] : Fin 1 → IVec S16 32) a x).toNat < S4096.size a := fun v472 k0_hw30 => k0_hw30
def k0_off48 (k0_t10 : Fin k0_t10_loop.trips) : Fin 2 → Nat :=
  let c0_i32_572 : BitVec 32 := 0#32
  let c0_i32_97 : BitVec 32 := 0#32
  let c1_i32_99 : BitVec 32 := 1#32
  let arg17 : BitVec 32 := Scf.iv c0_i32_97 c1_i32_99 k0_t10
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v474 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_577 : BitVec 32 := 32#32
  let v473 : BitVec 32 := Scalar.addi v458 c32_i32_577
  let v475 : Index := Scalar.indexCast v473
  ![v474.toNat, v475.toNat]

def k0_chk31 (v479 : IVec S16 32) : Prop :=
  (∀ a x, ((![v479] : Fin 1 → IVec S16 32) a x).toNat < S4096.size a)
theorem k0_idx31_inb : ∀ (v479 : IVec S16 32) (k0_hw31 : k0_chk31 v479), ∀ a x, ((![v479] : Fin 1 → IVec S16 32) a x).toNat < S4096.size a := fun v479 k0_hw31 => k0_hw31
def k0_off49 (k0_t10 : Fin k0_t10_loop.trips) : Fin 2 → Nat :=
  let c0_i32_572 : BitVec 32 := 0#32
  let c0_i32_97 : BitVec 32 := 0#32
  let c1_i32_99 : BitVec 32 := 1#32
  let arg17 : BitVec 32 := Scf.iv c0_i32_97 c1_i32_99 k0_t10
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v481 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_579 : BitVec 32 := 48#32
  let v480 : BitVec 32 := Scalar.addi v458 c48_i32_579
  let v482 : Index := Scalar.indexCast v480
  ![v481.toNat, v482.toNat]

def k0_chk32 (v486 : IVec S16 32) : Prop :=
  (∀ a x, ((![v486] : Fin 1 → IVec S16 32) a x).toNat < S4096.size a)
theorem k0_idx32_inb : ∀ (v486 : IVec S16 32) (k0_hw32 : k0_chk32 v486), ∀ a x, ((![v486] : Fin 1 → IVec S16 32) a x).toNat < S4096.size a := fun v486 k0_hw32 => k0_hw32
def k0_off50 (k0_t10 : Fin k0_t10_loop.trips) : Fin 1 → Nat :=
  let c28672_i32 : BitVec 32 := 28672#32
  let c0_i32_572 : BitVec 32 := 0#32
  let c0_i32_97 : BitVec 32 := 0#32
  let c1_i32_99 : BitVec 32 := 1#32
  let arg17 : BitVec 32 := Scf.iv c0_i32_97 c1_i32_99 k0_t10
  let c1_i32_571 : BitVec 32 := 1#32
  let v454 : BitVec 32 := Scalar.muli arg17 c1_i32_571
  let v455 : BitVec 32 := Scalar.addi c0_i32_572 v454
  let c16_i32_582 : BitVec 32 := 16#32
  let v496 : BitVec 32 := Scalar.muli v455 c16_i32_582
  let v497 : BitVec 32 := Scalar.addi c28672_i32 v496
  let v498 : Index := Scalar.indexCast v497
  ![v498.toNat]
def k0_off51 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c288_i32 : BitVec 32 := 288#32
  let c0_i32_101 : BitVec 32 := 0#32
  ![v9.toNat, 288, 0]
@[reducible] def k0_t11_loop : Scf.Loop 32 :=
  let c0_i32_108 : BitVec 32 := 0#32
  let c256_i32_109 : BitVec 32 := 256#32
  let v95 : BitVec 32 := Scalar.addi c0_i32_108 c256_i32_109
  let c1_i32_110 : BitVec 32 := 1#32
  ⟨c0_i32_108, v95, c1_i32_110⟩
def k0_off52 (k0_t11 : Fin k0_t11_loop.trips) : Fin 2 → Nat :=
  let c0_i32_572 : BitVec 32 := 0#32
  let c0_i32_108 : BitVec 32 := 0#32
  let c1_i32_110 : BitVec 32 := 1#32
  let arg17 : BitVec 32 := Scf.iv c0_i32_108 c1_i32_110 k0_t11
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v460 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_574 : BitVec 32 := 0#32
  let v459 : BitVec 32 := Scalar.addi v458 c0_i32_574
  let v461 : Index := Scalar.indexCast v459
  ![v460.toNat, v461.toNat]

def k0_chk33 (v465 : IVec S16 32) : Prop :=
  (∀ a x, ((![v465] : Fin 1 → IVec S16 32) a x).toNat < S4096.size a)
theorem k0_idx33_inb : ∀ (v465 : IVec S16 32) (k0_hw33 : k0_chk33 v465), ∀ a x, ((![v465] : Fin 1 → IVec S16 32) a x).toNat < S4096.size a := fun v465 k0_hw33 => k0_hw33
def k0_off53 (k0_t11 : Fin k0_t11_loop.trips) : Fin 2 → Nat :=
  let c0_i32_572 : BitVec 32 := 0#32
  let c0_i32_108 : BitVec 32 := 0#32
  let c1_i32_110 : BitVec 32 := 1#32
  let arg17 : BitVec 32 := Scf.iv c0_i32_108 c1_i32_110 k0_t11
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v467 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_575 : BitVec 32 := 16#32
  let v466 : BitVec 32 := Scalar.addi v458 c16_i32_575
  let v468 : Index := Scalar.indexCast v466
  ![v467.toNat, v468.toNat]

def k0_chk34 (v472 : IVec S16 32) : Prop :=
  (∀ a x, ((![v472] : Fin 1 → IVec S16 32) a x).toNat < S4096.size a)
theorem k0_idx34_inb : ∀ (v472 : IVec S16 32) (k0_hw34 : k0_chk34 v472), ∀ a x, ((![v472] : Fin 1 → IVec S16 32) a x).toNat < S4096.size a := fun v472 k0_hw34 => k0_hw34
def k0_off54 (k0_t11 : Fin k0_t11_loop.trips) : Fin 2 → Nat :=
  let c0_i32_572 : BitVec 32 := 0#32
  let c0_i32_108 : BitVec 32 := 0#32
  let c1_i32_110 : BitVec 32 := 1#32
  let arg17 : BitVec 32 := Scf.iv c0_i32_108 c1_i32_110 k0_t11
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v474 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_577 : BitVec 32 := 32#32
  let v473 : BitVec 32 := Scalar.addi v458 c32_i32_577
  let v475 : Index := Scalar.indexCast v473
  ![v474.toNat, v475.toNat]

def k0_chk35 (v479 : IVec S16 32) : Prop :=
  (∀ a x, ((![v479] : Fin 1 → IVec S16 32) a x).toNat < S4096.size a)
theorem k0_idx35_inb : ∀ (v479 : IVec S16 32) (k0_hw35 : k0_chk35 v479), ∀ a x, ((![v479] : Fin 1 → IVec S16 32) a x).toNat < S4096.size a := fun v479 k0_hw35 => k0_hw35
def k0_off55 (k0_t11 : Fin k0_t11_loop.trips) : Fin 2 → Nat :=
  let c0_i32_572 : BitVec 32 := 0#32
  let c0_i32_108 : BitVec 32 := 0#32
  let c1_i32_110 : BitVec 32 := 1#32
  let arg17 : BitVec 32 := Scf.iv c0_i32_108 c1_i32_110 k0_t11
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v481 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_579 : BitVec 32 := 48#32
  let v480 : BitVec 32 := Scalar.addi v458 c48_i32_579
  let v482 : Index := Scalar.indexCast v480
  ![v481.toNat, v482.toNat]

def k0_chk36 (v486 : IVec S16 32) : Prop :=
  (∀ a x, ((![v486] : Fin 1 → IVec S16 32) a x).toNat < S4096.size a)
theorem k0_idx36_inb : ∀ (v486 : IVec S16 32) (k0_hw36 : k0_chk36 v486), ∀ a x, ((![v486] : Fin 1 → IVec S16 32) a x).toNat < S4096.size a := fun v486 k0_hw36 => k0_hw36
def k0_off56 (k0_t11 : Fin k0_t11_loop.trips) : Fin 1 → Nat :=
  let c32768_i32 : BitVec 32 := 32768#32
  let c0_i32_572 : BitVec 32 := 0#32
  let c0_i32_108 : BitVec 32 := 0#32
  let c1_i32_110 : BitVec 32 := 1#32
  let arg17 : BitVec 32 := Scf.iv c0_i32_108 c1_i32_110 k0_t11
  let c1_i32_571 : BitVec 32 := 1#32
  let v454 : BitVec 32 := Scalar.muli arg17 c1_i32_571
  let v455 : BitVec 32 := Scalar.addi c0_i32_572 v454
  let c16_i32_582 : BitVec 32 := 16#32
  let v496 : BitVec 32 := Scalar.muli v455 c16_i32_582
  let v497 : BitVec 32 := Scalar.addi c32768_i32 v496
  let v498 : Index := Scalar.indexCast v497
  ![v498.toNat]
def k0_off57 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c320_i32 : BitVec 32 := 320#32
  let c0_i32_112 : BitVec 32 := 0#32
  ![v9.toNat, 320, 0]
@[reducible] def k0_t12_loop : Scf.Loop 32 :=
  let c0_i32_119 : BitVec 32 := 0#32
  let c256_i32_120 : BitVec 32 := 256#32
  let v104 : BitVec 32 := Scalar.addi c0_i32_119 c256_i32_120
  let c1_i32_121 : BitVec 32 := 1#32
  ⟨c0_i32_119, v104, c1_i32_121⟩
def k0_off58 (k0_t12 : Fin k0_t12_loop.trips) : Fin 2 → Nat :=
  let c0_i32_572 : BitVec 32 := 0#32
  let c0_i32_119 : BitVec 32 := 0#32
  let c1_i32_121 : BitVec 32 := 1#32
  let arg17 : BitVec 32 := Scf.iv c0_i32_119 c1_i32_121 k0_t12
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v460 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_574 : BitVec 32 := 0#32
  let v459 : BitVec 32 := Scalar.addi v458 c0_i32_574
  let v461 : Index := Scalar.indexCast v459
  ![v460.toNat, v461.toNat]

def k0_chk37 (v465 : IVec S16 32) : Prop :=
  (∀ a x, ((![v465] : Fin 1 → IVec S16 32) a x).toNat < S4096.size a)
theorem k0_idx37_inb : ∀ (v465 : IVec S16 32) (k0_hw37 : k0_chk37 v465), ∀ a x, ((![v465] : Fin 1 → IVec S16 32) a x).toNat < S4096.size a := fun v465 k0_hw37 => k0_hw37
def k0_off59 (k0_t12 : Fin k0_t12_loop.trips) : Fin 2 → Nat :=
  let c0_i32_572 : BitVec 32 := 0#32
  let c0_i32_119 : BitVec 32 := 0#32
  let c1_i32_121 : BitVec 32 := 1#32
  let arg17 : BitVec 32 := Scf.iv c0_i32_119 c1_i32_121 k0_t12
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v467 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_575 : BitVec 32 := 16#32
  let v466 : BitVec 32 := Scalar.addi v458 c16_i32_575
  let v468 : Index := Scalar.indexCast v466
  ![v467.toNat, v468.toNat]

def k0_chk38 (v472 : IVec S16 32) : Prop :=
  (∀ a x, ((![v472] : Fin 1 → IVec S16 32) a x).toNat < S4096.size a)
theorem k0_idx38_inb : ∀ (v472 : IVec S16 32) (k0_hw38 : k0_chk38 v472), ∀ a x, ((![v472] : Fin 1 → IVec S16 32) a x).toNat < S4096.size a := fun v472 k0_hw38 => k0_hw38
def k0_off60 (k0_t12 : Fin k0_t12_loop.trips) : Fin 2 → Nat :=
  let c0_i32_572 : BitVec 32 := 0#32
  let c0_i32_119 : BitVec 32 := 0#32
  let c1_i32_121 : BitVec 32 := 1#32
  let arg17 : BitVec 32 := Scf.iv c0_i32_119 c1_i32_121 k0_t12
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v474 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_577 : BitVec 32 := 32#32
  let v473 : BitVec 32 := Scalar.addi v458 c32_i32_577
  let v475 : Index := Scalar.indexCast v473
  ![v474.toNat, v475.toNat]

def k0_chk39 (v479 : IVec S16 32) : Prop :=
  (∀ a x, ((![v479] : Fin 1 → IVec S16 32) a x).toNat < S4096.size a)
theorem k0_idx39_inb : ∀ (v479 : IVec S16 32) (k0_hw39 : k0_chk39 v479), ∀ a x, ((![v479] : Fin 1 → IVec S16 32) a x).toNat < S4096.size a := fun v479 k0_hw39 => k0_hw39
def k0_off61 (k0_t12 : Fin k0_t12_loop.trips) : Fin 2 → Nat :=
  let c0_i32_572 : BitVec 32 := 0#32
  let c0_i32_119 : BitVec 32 := 0#32
  let c1_i32_121 : BitVec 32 := 1#32
  let arg17 : BitVec 32 := Scf.iv c0_i32_119 c1_i32_121 k0_t12
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v481 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_579 : BitVec 32 := 48#32
  let v480 : BitVec 32 := Scalar.addi v458 c48_i32_579
  let v482 : Index := Scalar.indexCast v480
  ![v481.toNat, v482.toNat]

def k0_chk40 (v486 : IVec S16 32) : Prop :=
  (∀ a x, ((![v486] : Fin 1 → IVec S16 32) a x).toNat < S4096.size a)
theorem k0_idx40_inb : ∀ (v486 : IVec S16 32) (k0_hw40 : k0_chk40 v486), ∀ a x, ((![v486] : Fin 1 → IVec S16 32) a x).toNat < S4096.size a := fun v486 k0_hw40 => k0_hw40
def k0_off62 (k0_t12 : Fin k0_t12_loop.trips) : Fin 1 → Nat :=
  let c36864_i32 : BitVec 32 := 36864#32
  let c0_i32_572 : BitVec 32 := 0#32
  let c0_i32_119 : BitVec 32 := 0#32
  let c1_i32_121 : BitVec 32 := 1#32
  let arg17 : BitVec 32 := Scf.iv c0_i32_119 c1_i32_121 k0_t12
  let c1_i32_571 : BitVec 32 := 1#32
  let v454 : BitVec 32 := Scalar.muli arg17 c1_i32_571
  let v455 : BitVec 32 := Scalar.addi c0_i32_572 v454
  let c16_i32_582 : BitVec 32 := 16#32
  let v496 : BitVec 32 := Scalar.muli v455 c16_i32_582
  let v497 : BitVec 32 := Scalar.addi c36864_i32 v496
  let v498 : Index := Scalar.indexCast v497
  ![v498.toNat]
def k0_off63 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c352_i32 : BitVec 32 := 352#32
  let c0_i32_123 : BitVec 32 := 0#32
  ![v9.toNat, 352, 0]
@[reducible] def k0_t13_loop : Scf.Loop 32 :=
  let c0_i32_130 : BitVec 32 := 0#32
  let c256_i32_131 : BitVec 32 := 256#32
  let v113 : BitVec 32 := Scalar.addi c0_i32_130 c256_i32_131
  let c1_i32_132 : BitVec 32 := 1#32
  ⟨c0_i32_130, v113, c1_i32_132⟩
def k0_off64 (k0_t13 : Fin k0_t13_loop.trips) : Fin 2 → Nat :=
  let c0_i32_572 : BitVec 32 := 0#32
  let c0_i32_130 : BitVec 32 := 0#32
  let c1_i32_132 : BitVec 32 := 1#32
  let arg17 : BitVec 32 := Scf.iv c0_i32_130 c1_i32_132 k0_t13
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v460 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_574 : BitVec 32 := 0#32
  let v459 : BitVec 32 := Scalar.addi v458 c0_i32_574
  let v461 : Index := Scalar.indexCast v459
  ![v460.toNat, v461.toNat]

def k0_chk41 (v465 : IVec S16 32) : Prop :=
  (∀ a x, ((![v465] : Fin 1 → IVec S16 32) a x).toNat < S4096.size a)
theorem k0_idx41_inb : ∀ (v465 : IVec S16 32) (k0_hw41 : k0_chk41 v465), ∀ a x, ((![v465] : Fin 1 → IVec S16 32) a x).toNat < S4096.size a := fun v465 k0_hw41 => k0_hw41
def k0_off65 (k0_t13 : Fin k0_t13_loop.trips) : Fin 2 → Nat :=
  let c0_i32_572 : BitVec 32 := 0#32
  let c0_i32_130 : BitVec 32 := 0#32
  let c1_i32_132 : BitVec 32 := 1#32
  let arg17 : BitVec 32 := Scf.iv c0_i32_130 c1_i32_132 k0_t13
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v467 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_575 : BitVec 32 := 16#32
  let v466 : BitVec 32 := Scalar.addi v458 c16_i32_575
  let v468 : Index := Scalar.indexCast v466
  ![v467.toNat, v468.toNat]

def k0_chk42 (v472 : IVec S16 32) : Prop :=
  (∀ a x, ((![v472] : Fin 1 → IVec S16 32) a x).toNat < S4096.size a)
theorem k0_idx42_inb : ∀ (v472 : IVec S16 32) (k0_hw42 : k0_chk42 v472), ∀ a x, ((![v472] : Fin 1 → IVec S16 32) a x).toNat < S4096.size a := fun v472 k0_hw42 => k0_hw42
def k0_off66 (k0_t13 : Fin k0_t13_loop.trips) : Fin 2 → Nat :=
  let c0_i32_572 : BitVec 32 := 0#32
  let c0_i32_130 : BitVec 32 := 0#32
  let c1_i32_132 : BitVec 32 := 1#32
  let arg17 : BitVec 32 := Scf.iv c0_i32_130 c1_i32_132 k0_t13
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v474 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_577 : BitVec 32 := 32#32
  let v473 : BitVec 32 := Scalar.addi v458 c32_i32_577
  let v475 : Index := Scalar.indexCast v473
  ![v474.toNat, v475.toNat]

def k0_chk43 (v479 : IVec S16 32) : Prop :=
  (∀ a x, ((![v479] : Fin 1 → IVec S16 32) a x).toNat < S4096.size a)
theorem k0_idx43_inb : ∀ (v479 : IVec S16 32) (k0_hw43 : k0_chk43 v479), ∀ a x, ((![v479] : Fin 1 → IVec S16 32) a x).toNat < S4096.size a := fun v479 k0_hw43 => k0_hw43
def k0_off67 (k0_t13 : Fin k0_t13_loop.trips) : Fin 2 → Nat :=
  let c0_i32_572 : BitVec 32 := 0#32
  let c0_i32_130 : BitVec 32 := 0#32
  let c1_i32_132 : BitVec 32 := 1#32
  let arg17 : BitVec 32 := Scf.iv c0_i32_130 c1_i32_132 k0_t13
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v481 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_579 : BitVec 32 := 48#32
  let v480 : BitVec 32 := Scalar.addi v458 c48_i32_579
  let v482 : Index := Scalar.indexCast v480
  ![v481.toNat, v482.toNat]

def k0_chk44 (v486 : IVec S16 32) : Prop :=
  (∀ a x, ((![v486] : Fin 1 → IVec S16 32) a x).toNat < S4096.size a)
theorem k0_idx44_inb : ∀ (v486 : IVec S16 32) (k0_hw44 : k0_chk44 v486), ∀ a x, ((![v486] : Fin 1 → IVec S16 32) a x).toNat < S4096.size a := fun v486 k0_hw44 => k0_hw44
def k0_off68 (k0_t13 : Fin k0_t13_loop.trips) : Fin 1 → Nat :=
  let c40960_i32 : BitVec 32 := 40960#32
  let c0_i32_572 : BitVec 32 := 0#32
  let c0_i32_130 : BitVec 32 := 0#32
  let c1_i32_132 : BitVec 32 := 1#32
  let arg17 : BitVec 32 := Scf.iv c0_i32_130 c1_i32_132 k0_t13
  let c1_i32_571 : BitVec 32 := 1#32
  let v454 : BitVec 32 := Scalar.muli arg17 c1_i32_571
  let v455 : BitVec 32 := Scalar.addi c0_i32_572 v454
  let c16_i32_582 : BitVec 32 := 16#32
  let v496 : BitVec 32 := Scalar.muli v455 c16_i32_582
  let v497 : BitVec 32 := Scalar.addi c40960_i32 v496
  let v498 : Index := Scalar.indexCast v497
  ![v498.toNat]
def k0_off69 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c384_i32 : BitVec 32 := 384#32
  let c0_i32_134 : BitVec 32 := 0#32
  ![v9.toNat, 384, 0]
@[reducible] def k0_t14_loop : Scf.Loop 32 :=
  let c0_i32_141 : BitVec 32 := 0#32
  let c256_i32_142 : BitVec 32 := 256#32
  let v122 : BitVec 32 := Scalar.addi c0_i32_141 c256_i32_142
  let c1_i32_143 : BitVec 32 := 1#32
  ⟨c0_i32_141, v122, c1_i32_143⟩
def k0_off70 (k0_t14 : Fin k0_t14_loop.trips) : Fin 2 → Nat :=
  let c0_i32_572 : BitVec 32 := 0#32
  let c0_i32_141 : BitVec 32 := 0#32
  let c1_i32_143 : BitVec 32 := 1#32
  let arg17 : BitVec 32 := Scf.iv c0_i32_141 c1_i32_143 k0_t14
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v460 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_574 : BitVec 32 := 0#32
  let v459 : BitVec 32 := Scalar.addi v458 c0_i32_574
  let v461 : Index := Scalar.indexCast v459
  ![v460.toNat, v461.toNat]

def k0_chk45 (v465 : IVec S16 32) : Prop :=
  (∀ a x, ((![v465] : Fin 1 → IVec S16 32) a x).toNat < S4096.size a)
theorem k0_idx45_inb : ∀ (v465 : IVec S16 32) (k0_hw45 : k0_chk45 v465), ∀ a x, ((![v465] : Fin 1 → IVec S16 32) a x).toNat < S4096.size a := fun v465 k0_hw45 => k0_hw45
def k0_off71 (k0_t14 : Fin k0_t14_loop.trips) : Fin 2 → Nat :=
  let c0_i32_572 : BitVec 32 := 0#32
  let c0_i32_141 : BitVec 32 := 0#32
  let c1_i32_143 : BitVec 32 := 1#32
  let arg17 : BitVec 32 := Scf.iv c0_i32_141 c1_i32_143 k0_t14
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v467 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_575 : BitVec 32 := 16#32
  let v466 : BitVec 32 := Scalar.addi v458 c16_i32_575
  let v468 : Index := Scalar.indexCast v466
  ![v467.toNat, v468.toNat]

def k0_chk46 (v472 : IVec S16 32) : Prop :=
  (∀ a x, ((![v472] : Fin 1 → IVec S16 32) a x).toNat < S4096.size a)
theorem k0_idx46_inb : ∀ (v472 : IVec S16 32) (k0_hw46 : k0_chk46 v472), ∀ a x, ((![v472] : Fin 1 → IVec S16 32) a x).toNat < S4096.size a := fun v472 k0_hw46 => k0_hw46
def k0_off72 (k0_t14 : Fin k0_t14_loop.trips) : Fin 2 → Nat :=
  let c0_i32_572 : BitVec 32 := 0#32
  let c0_i32_141 : BitVec 32 := 0#32
  let c1_i32_143 : BitVec 32 := 1#32
  let arg17 : BitVec 32 := Scf.iv c0_i32_141 c1_i32_143 k0_t14
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v474 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_577 : BitVec 32 := 32#32
  let v473 : BitVec 32 := Scalar.addi v458 c32_i32_577
  let v475 : Index := Scalar.indexCast v473
  ![v474.toNat, v475.toNat]

def k0_chk47 (v479 : IVec S16 32) : Prop :=
  (∀ a x, ((![v479] : Fin 1 → IVec S16 32) a x).toNat < S4096.size a)
theorem k0_idx47_inb : ∀ (v479 : IVec S16 32) (k0_hw47 : k0_chk47 v479), ∀ a x, ((![v479] : Fin 1 → IVec S16 32) a x).toNat < S4096.size a := fun v479 k0_hw47 => k0_hw47
def k0_off73 (k0_t14 : Fin k0_t14_loop.trips) : Fin 2 → Nat :=
  let c0_i32_572 : BitVec 32 := 0#32
  let c0_i32_141 : BitVec 32 := 0#32
  let c1_i32_143 : BitVec 32 := 1#32
  let arg17 : BitVec 32 := Scf.iv c0_i32_141 c1_i32_143 k0_t14
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v481 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_579 : BitVec 32 := 48#32
  let v480 : BitVec 32 := Scalar.addi v458 c48_i32_579
  let v482 : Index := Scalar.indexCast v480
  ![v481.toNat, v482.toNat]

def k0_chk48 (v486 : IVec S16 32) : Prop :=
  (∀ a x, ((![v486] : Fin 1 → IVec S16 32) a x).toNat < S4096.size a)
theorem k0_idx48_inb : ∀ (v486 : IVec S16 32) (k0_hw48 : k0_chk48 v486), ∀ a x, ((![v486] : Fin 1 → IVec S16 32) a x).toNat < S4096.size a := fun v486 k0_hw48 => k0_hw48
def k0_off74 (k0_t14 : Fin k0_t14_loop.trips) : Fin 1 → Nat :=
  let c45056_i32 : BitVec 32 := 45056#32
  let c0_i32_572 : BitVec 32 := 0#32
  let c0_i32_141 : BitVec 32 := 0#32
  let c1_i32_143 : BitVec 32 := 1#32
  let arg17 : BitVec 32 := Scf.iv c0_i32_141 c1_i32_143 k0_t14
  let c1_i32_571 : BitVec 32 := 1#32
  let v454 : BitVec 32 := Scalar.muli arg17 c1_i32_571
  let v455 : BitVec 32 := Scalar.addi c0_i32_572 v454
  let c16_i32_582 : BitVec 32 := 16#32
  let v496 : BitVec 32 := Scalar.muli v455 c16_i32_582
  let v497 : BitVec 32 := Scalar.addi c45056_i32 v496
  let v498 : Index := Scalar.indexCast v497
  ![v498.toNat]
def k0_off75 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c416_i32 : BitVec 32 := 416#32
  let c0_i32_145 : BitVec 32 := 0#32
  ![v9.toNat, 416, 0]
@[reducible] def k0_t15_loop : Scf.Loop 32 :=
  let c0_i32_152 : BitVec 32 := 0#32
  let c256_i32_153 : BitVec 32 := 256#32
  let v131 : BitVec 32 := Scalar.addi c0_i32_152 c256_i32_153
  let c1_i32_154 : BitVec 32 := 1#32
  ⟨c0_i32_152, v131, c1_i32_154⟩
def k0_off76 (k0_t15 : Fin k0_t15_loop.trips) : Fin 2 → Nat :=
  let c0_i32_572 : BitVec 32 := 0#32
  let c0_i32_152 : BitVec 32 := 0#32
  let c1_i32_154 : BitVec 32 := 1#32
  let arg17 : BitVec 32 := Scf.iv c0_i32_152 c1_i32_154 k0_t15
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v460 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_574 : BitVec 32 := 0#32
  let v459 : BitVec 32 := Scalar.addi v458 c0_i32_574
  let v461 : Index := Scalar.indexCast v459
  ![v460.toNat, v461.toNat]

def k0_chk49 (v465 : IVec S16 32) : Prop :=
  (∀ a x, ((![v465] : Fin 1 → IVec S16 32) a x).toNat < S4096.size a)
theorem k0_idx49_inb : ∀ (v465 : IVec S16 32) (k0_hw49 : k0_chk49 v465), ∀ a x, ((![v465] : Fin 1 → IVec S16 32) a x).toNat < S4096.size a := fun v465 k0_hw49 => k0_hw49
def k0_off77 (k0_t15 : Fin k0_t15_loop.trips) : Fin 2 → Nat :=
  let c0_i32_572 : BitVec 32 := 0#32
  let c0_i32_152 : BitVec 32 := 0#32
  let c1_i32_154 : BitVec 32 := 1#32
  let arg17 : BitVec 32 := Scf.iv c0_i32_152 c1_i32_154 k0_t15
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v467 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_575 : BitVec 32 := 16#32
  let v466 : BitVec 32 := Scalar.addi v458 c16_i32_575
  let v468 : Index := Scalar.indexCast v466
  ![v467.toNat, v468.toNat]

def k0_chk50 (v472 : IVec S16 32) : Prop :=
  (∀ a x, ((![v472] : Fin 1 → IVec S16 32) a x).toNat < S4096.size a)
theorem k0_idx50_inb : ∀ (v472 : IVec S16 32) (k0_hw50 : k0_chk50 v472), ∀ a x, ((![v472] : Fin 1 → IVec S16 32) a x).toNat < S4096.size a := fun v472 k0_hw50 => k0_hw50
def k0_off78 (k0_t15 : Fin k0_t15_loop.trips) : Fin 2 → Nat :=
  let c0_i32_572 : BitVec 32 := 0#32
  let c0_i32_152 : BitVec 32 := 0#32
  let c1_i32_154 : BitVec 32 := 1#32
  let arg17 : BitVec 32 := Scf.iv c0_i32_152 c1_i32_154 k0_t15
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v474 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_577 : BitVec 32 := 32#32
  let v473 : BitVec 32 := Scalar.addi v458 c32_i32_577
  let v475 : Index := Scalar.indexCast v473
  ![v474.toNat, v475.toNat]

def k0_chk51 (v479 : IVec S16 32) : Prop :=
  (∀ a x, ((![v479] : Fin 1 → IVec S16 32) a x).toNat < S4096.size a)
theorem k0_idx51_inb : ∀ (v479 : IVec S16 32) (k0_hw51 : k0_chk51 v479), ∀ a x, ((![v479] : Fin 1 → IVec S16 32) a x).toNat < S4096.size a := fun v479 k0_hw51 => k0_hw51
def k0_off79 (k0_t15 : Fin k0_t15_loop.trips) : Fin 2 → Nat :=
  let c0_i32_572 : BitVec 32 := 0#32
  let c0_i32_152 : BitVec 32 := 0#32
  let c1_i32_154 : BitVec 32 := 1#32
  let arg17 : BitVec 32 := Scf.iv c0_i32_152 c1_i32_154 k0_t15
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v481 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_579 : BitVec 32 := 48#32
  let v480 : BitVec 32 := Scalar.addi v458 c48_i32_579
  let v482 : Index := Scalar.indexCast v480
  ![v481.toNat, v482.toNat]

def k0_chk52 (v486 : IVec S16 32) : Prop :=
  (∀ a x, ((![v486] : Fin 1 → IVec S16 32) a x).toNat < S4096.size a)
theorem k0_idx52_inb : ∀ (v486 : IVec S16 32) (k0_hw52 : k0_chk52 v486), ∀ a x, ((![v486] : Fin 1 → IVec S16 32) a x).toNat < S4096.size a := fun v486 k0_hw52 => k0_hw52
def k0_off80 (k0_t15 : Fin k0_t15_loop.trips) : Fin 1 → Nat :=
  let c49152_i32 : BitVec 32 := 49152#32
  let c0_i32_572 : BitVec 32 := 0#32
  let c0_i32_152 : BitVec 32 := 0#32
  let c1_i32_154 : BitVec 32 := 1#32
  let arg17 : BitVec 32 := Scf.iv c0_i32_152 c1_i32_154 k0_t15
  let c1_i32_571 : BitVec 32 := 1#32
  let v454 : BitVec 32 := Scalar.muli arg17 c1_i32_571
  let v455 : BitVec 32 := Scalar.addi c0_i32_572 v454
  let c16_i32_582 : BitVec 32 := 16#32
  let v496 : BitVec 32 := Scalar.muli v455 c16_i32_582
  let v497 : BitVec 32 := Scalar.addi c49152_i32 v496
  let v498 : Index := Scalar.indexCast v497
  ![v498.toNat]
def k0_off81 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c448_i32 : BitVec 32 := 448#32
  let c0_i32_156 : BitVec 32 := 0#32
  ![v9.toNat, 448, 0]
@[reducible] def k0_t16_loop : Scf.Loop 32 :=
  let c0_i32_163 : BitVec 32 := 0#32
  let c256_i32_164 : BitVec 32 := 256#32
  let v140 : BitVec 32 := Scalar.addi c0_i32_163 c256_i32_164
  let c1_i32_165 : BitVec 32 := 1#32
  ⟨c0_i32_163, v140, c1_i32_165⟩
def k0_off82 (k0_t16 : Fin k0_t16_loop.trips) : Fin 2 → Nat :=
  let c0_i32_572 : BitVec 32 := 0#32
  let c0_i32_163 : BitVec 32 := 0#32
  let c1_i32_165 : BitVec 32 := 1#32
  let arg17 : BitVec 32 := Scf.iv c0_i32_163 c1_i32_165 k0_t16
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v460 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_574 : BitVec 32 := 0#32
  let v459 : BitVec 32 := Scalar.addi v458 c0_i32_574
  let v461 : Index := Scalar.indexCast v459
  ![v460.toNat, v461.toNat]

def k0_chk53 (v465 : IVec S16 32) : Prop :=
  (∀ a x, ((![v465] : Fin 1 → IVec S16 32) a x).toNat < S4096.size a)
theorem k0_idx53_inb : ∀ (v465 : IVec S16 32) (k0_hw53 : k0_chk53 v465), ∀ a x, ((![v465] : Fin 1 → IVec S16 32) a x).toNat < S4096.size a := fun v465 k0_hw53 => k0_hw53
def k0_off83 (k0_t16 : Fin k0_t16_loop.trips) : Fin 2 → Nat :=
  let c0_i32_572 : BitVec 32 := 0#32
  let c0_i32_163 : BitVec 32 := 0#32
  let c1_i32_165 : BitVec 32 := 1#32
  let arg17 : BitVec 32 := Scf.iv c0_i32_163 c1_i32_165 k0_t16
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v467 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_575 : BitVec 32 := 16#32
  let v466 : BitVec 32 := Scalar.addi v458 c16_i32_575
  let v468 : Index := Scalar.indexCast v466
  ![v467.toNat, v468.toNat]

def k0_chk54 (v472 : IVec S16 32) : Prop :=
  (∀ a x, ((![v472] : Fin 1 → IVec S16 32) a x).toNat < S4096.size a)
theorem k0_idx54_inb : ∀ (v472 : IVec S16 32) (k0_hw54 : k0_chk54 v472), ∀ a x, ((![v472] : Fin 1 → IVec S16 32) a x).toNat < S4096.size a := fun v472 k0_hw54 => k0_hw54
def k0_off84 (k0_t16 : Fin k0_t16_loop.trips) : Fin 2 → Nat :=
  let c0_i32_572 : BitVec 32 := 0#32
  let c0_i32_163 : BitVec 32 := 0#32
  let c1_i32_165 : BitVec 32 := 1#32
  let arg17 : BitVec 32 := Scf.iv c0_i32_163 c1_i32_165 k0_t16
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v474 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_577 : BitVec 32 := 32#32
  let v473 : BitVec 32 := Scalar.addi v458 c32_i32_577
  let v475 : Index := Scalar.indexCast v473
  ![v474.toNat, v475.toNat]

def k0_chk55 (v479 : IVec S16 32) : Prop :=
  (∀ a x, ((![v479] : Fin 1 → IVec S16 32) a x).toNat < S4096.size a)
theorem k0_idx55_inb : ∀ (v479 : IVec S16 32) (k0_hw55 : k0_chk55 v479), ∀ a x, ((![v479] : Fin 1 → IVec S16 32) a x).toNat < S4096.size a := fun v479 k0_hw55 => k0_hw55
def k0_off85 (k0_t16 : Fin k0_t16_loop.trips) : Fin 2 → Nat :=
  let c0_i32_572 : BitVec 32 := 0#32
  let c0_i32_163 : BitVec 32 := 0#32
  let c1_i32_165 : BitVec 32 := 1#32
  let arg17 : BitVec 32 := Scf.iv c0_i32_163 c1_i32_165 k0_t16
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v481 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_579 : BitVec 32 := 48#32
  let v480 : BitVec 32 := Scalar.addi v458 c48_i32_579
  let v482 : Index := Scalar.indexCast v480
  ![v481.toNat, v482.toNat]

def k0_chk56 (v486 : IVec S16 32) : Prop :=
  (∀ a x, ((![v486] : Fin 1 → IVec S16 32) a x).toNat < S4096.size a)
theorem k0_idx56_inb : ∀ (v486 : IVec S16 32) (k0_hw56 : k0_chk56 v486), ∀ a x, ((![v486] : Fin 1 → IVec S16 32) a x).toNat < S4096.size a := fun v486 k0_hw56 => k0_hw56
def k0_off86 (k0_t16 : Fin k0_t16_loop.trips) : Fin 1 → Nat :=
  let c53248_i32 : BitVec 32 := 53248#32
  let c0_i32_572 : BitVec 32 := 0#32
  let c0_i32_163 : BitVec 32 := 0#32
  let c1_i32_165 : BitVec 32 := 1#32
  let arg17 : BitVec 32 := Scf.iv c0_i32_163 c1_i32_165 k0_t16
  let c1_i32_571 : BitVec 32 := 1#32
  let v454 : BitVec 32 := Scalar.muli arg17 c1_i32_571
  let v455 : BitVec 32 := Scalar.addi c0_i32_572 v454
  let c16_i32_582 : BitVec 32 := 16#32
  let v496 : BitVec 32 := Scalar.muli v455 c16_i32_582
  let v497 : BitVec 32 := Scalar.addi c53248_i32 v496
  let v498 : Index := Scalar.indexCast v497
  ![v498.toNat]
def k0_off87 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c480_i32 : BitVec 32 := 480#32
  let c0_i32_167 : BitVec 32 := 0#32
  ![v9.toNat, 480, 0]
@[reducible] def k0_t17_loop : Scf.Loop 32 :=
  let c0_i32_174 : BitVec 32 := 0#32
  let c256_i32_175 : BitVec 32 := 256#32
  let v149 : BitVec 32 := Scalar.addi c0_i32_174 c256_i32_175
  let c1_i32_176 : BitVec 32 := 1#32
  ⟨c0_i32_174, v149, c1_i32_176⟩
def k0_off88 (k0_t17 : Fin k0_t17_loop.trips) : Fin 2 → Nat :=
  let c0_i32_572 : BitVec 32 := 0#32
  let c0_i32_174 : BitVec 32 := 0#32
  let c1_i32_176 : BitVec 32 := 1#32
  let arg17 : BitVec 32 := Scf.iv c0_i32_174 c1_i32_176 k0_t17
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v460 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_574 : BitVec 32 := 0#32
  let v459 : BitVec 32 := Scalar.addi v458 c0_i32_574
  let v461 : Index := Scalar.indexCast v459
  ![v460.toNat, v461.toNat]

def k0_chk57 (v465 : IVec S16 32) : Prop :=
  (∀ a x, ((![v465] : Fin 1 → IVec S16 32) a x).toNat < S4096.size a)
theorem k0_idx57_inb : ∀ (v465 : IVec S16 32) (k0_hw57 : k0_chk57 v465), ∀ a x, ((![v465] : Fin 1 → IVec S16 32) a x).toNat < S4096.size a := fun v465 k0_hw57 => k0_hw57
def k0_off89 (k0_t17 : Fin k0_t17_loop.trips) : Fin 2 → Nat :=
  let c0_i32_572 : BitVec 32 := 0#32
  let c0_i32_174 : BitVec 32 := 0#32
  let c1_i32_176 : BitVec 32 := 1#32
  let arg17 : BitVec 32 := Scf.iv c0_i32_174 c1_i32_176 k0_t17
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v467 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_575 : BitVec 32 := 16#32
  let v466 : BitVec 32 := Scalar.addi v458 c16_i32_575
  let v468 : Index := Scalar.indexCast v466
  ![v467.toNat, v468.toNat]

def k0_chk58 (v472 : IVec S16 32) : Prop :=
  (∀ a x, ((![v472] : Fin 1 → IVec S16 32) a x).toNat < S4096.size a)
theorem k0_idx58_inb : ∀ (v472 : IVec S16 32) (k0_hw58 : k0_chk58 v472), ∀ a x, ((![v472] : Fin 1 → IVec S16 32) a x).toNat < S4096.size a := fun v472 k0_hw58 => k0_hw58
def k0_off90 (k0_t17 : Fin k0_t17_loop.trips) : Fin 2 → Nat :=
  let c0_i32_572 : BitVec 32 := 0#32
  let c0_i32_174 : BitVec 32 := 0#32
  let c1_i32_176 : BitVec 32 := 1#32
  let arg17 : BitVec 32 := Scf.iv c0_i32_174 c1_i32_176 k0_t17
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v474 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_577 : BitVec 32 := 32#32
  let v473 : BitVec 32 := Scalar.addi v458 c32_i32_577
  let v475 : Index := Scalar.indexCast v473
  ![v474.toNat, v475.toNat]

def k0_chk59 (v479 : IVec S16 32) : Prop :=
  (∀ a x, ((![v479] : Fin 1 → IVec S16 32) a x).toNat < S4096.size a)
theorem k0_idx59_inb : ∀ (v479 : IVec S16 32) (k0_hw59 : k0_chk59 v479), ∀ a x, ((![v479] : Fin 1 → IVec S16 32) a x).toNat < S4096.size a := fun v479 k0_hw59 => k0_hw59
def k0_off91 (k0_t17 : Fin k0_t17_loop.trips) : Fin 2 → Nat :=
  let c0_i32_572 : BitVec 32 := 0#32
  let c0_i32_174 : BitVec 32 := 0#32
  let c1_i32_176 : BitVec 32 := 1#32
  let arg17 : BitVec 32 := Scf.iv c0_i32_174 c1_i32_176 k0_t17
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v481 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_579 : BitVec 32 := 48#32
  let v480 : BitVec 32 := Scalar.addi v458 c48_i32_579
  let v482 : Index := Scalar.indexCast v480
  ![v481.toNat, v482.toNat]

def k0_chk60 (v486 : IVec S16 32) : Prop :=
  (∀ a x, ((![v486] : Fin 1 → IVec S16 32) a x).toNat < S4096.size a)
theorem k0_idx60_inb : ∀ (v486 : IVec S16 32) (k0_hw60 : k0_chk60 v486), ∀ a x, ((![v486] : Fin 1 → IVec S16 32) a x).toNat < S4096.size a := fun v486 k0_hw60 => k0_hw60
def k0_off92 (k0_t17 : Fin k0_t17_loop.trips) : Fin 1 → Nat :=
  let c57344_i32 : BitVec 32 := 57344#32
  let c0_i32_572 : BitVec 32 := 0#32
  let c0_i32_174 : BitVec 32 := 0#32
  let c1_i32_176 : BitVec 32 := 1#32
  let arg17 : BitVec 32 := Scf.iv c0_i32_174 c1_i32_176 k0_t17
  let c1_i32_571 : BitVec 32 := 1#32
  let v454 : BitVec 32 := Scalar.muli arg17 c1_i32_571
  let v455 : BitVec 32 := Scalar.addi c0_i32_572 v454
  let c16_i32_582 : BitVec 32 := 16#32
  let v496 : BitVec 32 := Scalar.muli v455 c16_i32_582
  let v497 : BitVec 32 := Scalar.addi c57344_i32 v496
  let v498 : Index := Scalar.indexCast v497
  ![v498.toNat]
@[reducible] def k0_t18_loop : Scf.Loop 32 :=
  let c0_i32_182 : BitVec 32 := 0#32
  let c256_i32_183 : BitVec 32 := 256#32
  let v154 : BitVec 32 := Scalar.addi c0_i32_182 c256_i32_183
  let c1_i32_184 : BitVec 32 := 1#32
  ⟨c0_i32_182, v154, c1_i32_184⟩
def k0_off93 (k0_t18 : Fin k0_t18_loop.trips) : Fin 2 → Nat :=
  let c0_i32_572 : BitVec 32 := 0#32
  let c0_i32_182 : BitVec 32 := 0#32
  let c1_i32_184 : BitVec 32 := 1#32
  let arg17 : BitVec 32 := Scf.iv c0_i32_182 c1_i32_184 k0_t18
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v460 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_574 : BitVec 32 := 0#32
  let v459 : BitVec 32 := Scalar.addi v458 c0_i32_574
  let v461 : Index := Scalar.indexCast v459
  ![v460.toNat, v461.toNat]

def k0_chk61 (v465 : IVec S16 32) : Prop :=
  (∀ a x, ((![v465] : Fin 1 → IVec S16 32) a x).toNat < S4096.size a)
theorem k0_idx61_inb : ∀ (v465 : IVec S16 32) (k0_hw61 : k0_chk61 v465), ∀ a x, ((![v465] : Fin 1 → IVec S16 32) a x).toNat < S4096.size a := fun v465 k0_hw61 => k0_hw61
def k0_off94 (k0_t18 : Fin k0_t18_loop.trips) : Fin 2 → Nat :=
  let c0_i32_572 : BitVec 32 := 0#32
  let c0_i32_182 : BitVec 32 := 0#32
  let c1_i32_184 : BitVec 32 := 1#32
  let arg17 : BitVec 32 := Scf.iv c0_i32_182 c1_i32_184 k0_t18
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v467 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_575 : BitVec 32 := 16#32
  let v466 : BitVec 32 := Scalar.addi v458 c16_i32_575
  let v468 : Index := Scalar.indexCast v466
  ![v467.toNat, v468.toNat]

def k0_chk62 (v472 : IVec S16 32) : Prop :=
  (∀ a x, ((![v472] : Fin 1 → IVec S16 32) a x).toNat < S4096.size a)
theorem k0_idx62_inb : ∀ (v472 : IVec S16 32) (k0_hw62 : k0_chk62 v472), ∀ a x, ((![v472] : Fin 1 → IVec S16 32) a x).toNat < S4096.size a := fun v472 k0_hw62 => k0_hw62
def k0_off95 (k0_t18 : Fin k0_t18_loop.trips) : Fin 2 → Nat :=
  let c0_i32_572 : BitVec 32 := 0#32
  let c0_i32_182 : BitVec 32 := 0#32
  let c1_i32_184 : BitVec 32 := 1#32
  let arg17 : BitVec 32 := Scf.iv c0_i32_182 c1_i32_184 k0_t18
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v474 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_577 : BitVec 32 := 32#32
  let v473 : BitVec 32 := Scalar.addi v458 c32_i32_577
  let v475 : Index := Scalar.indexCast v473
  ![v474.toNat, v475.toNat]

def k0_chk63 (v479 : IVec S16 32) : Prop :=
  (∀ a x, ((![v479] : Fin 1 → IVec S16 32) a x).toNat < S4096.size a)
theorem k0_idx63_inb : ∀ (v479 : IVec S16 32) (k0_hw63 : k0_chk63 v479), ∀ a x, ((![v479] : Fin 1 → IVec S16 32) a x).toNat < S4096.size a := fun v479 k0_hw63 => k0_hw63
def k0_off96 (k0_t18 : Fin k0_t18_loop.trips) : Fin 2 → Nat :=
  let c0_i32_572 : BitVec 32 := 0#32
  let c0_i32_182 : BitVec 32 := 0#32
  let c1_i32_184 : BitVec 32 := 1#32
  let arg17 : BitVec 32 := Scf.iv c0_i32_182 c1_i32_184 k0_t18
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v481 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_579 : BitVec 32 := 48#32
  let v480 : BitVec 32 := Scalar.addi v458 c48_i32_579
  let v482 : Index := Scalar.indexCast v480
  ![v481.toNat, v482.toNat]

def k0_chk64 (v486 : IVec S16 32) : Prop :=
  (∀ a x, ((![v486] : Fin 1 → IVec S16 32) a x).toNat < S4096.size a)
theorem k0_idx64_inb : ∀ (v486 : IVec S16 32) (k0_hw64 : k0_chk64 v486), ∀ a x, ((![v486] : Fin 1 → IVec S16 32) a x).toNat < S4096.size a := fun v486 k0_hw64 => k0_hw64
def k0_off97 (k0_t18 : Fin k0_t18_loop.trips) : Fin 1 → Nat :=
  let c61440_i32 : BitVec 32 := 61440#32
  let c0_i32_572 : BitVec 32 := 0#32
  let c0_i32_182 : BitVec 32 := 0#32
  let c1_i32_184 : BitVec 32 := 1#32
  let arg17 : BitVec 32 := Scf.iv c0_i32_182 c1_i32_184 k0_t18
  let c1_i32_571 : BitVec 32 := 1#32
  let v454 : BitVec 32 := Scalar.muli arg17 c1_i32_571
  let v455 : BitVec 32 := Scalar.addi c0_i32_572 v454
  let c16_i32_582 : BitVec 32 := 16#32
  let v496 : BitVec 32 := Scalar.muli v455 c16_i32_582
  let v497 : BitVec 32 := Scalar.addi c61440_i32 v496
  let v498 : Index := Scalar.indexCast v497
  ![v498.toNat]
@[reducible] def k0_t19_loop : Scf.Loop 32 :=
  let c0_i32_186 : BitVec 32 := 0#32
  let c256_i32_187 : BitVec 32 := 256#32
  let v155 : BitVec 32 := Scalar.addi c0_i32_186 c256_i32_187
  let c1_i32_188 : BitVec 32 := 1#32
  ⟨c0_i32_186, v155, c1_i32_188⟩
def k0_off98 (k0_t19 : Fin k0_t19_loop.trips) : Fin 1 → Nat :=
  let c0_i32_572 : BitVec 32 := 0#32
  let c0_i32_186 : BitVec 32 := 0#32
  let c1_i32_188 : BitVec 32 := 1#32
  let arg17 : BitVec 32 := Scf.iv c0_i32_186 c1_i32_188 k0_t19
  let c1_i32_571 : BitVec 32 := 1#32
  let v454 : BitVec 32 := Scalar.muli arg17 c1_i32_571
  let v455 : BitVec 32 := Scalar.addi c0_i32_572 v454
  let c4_i32 : BitVec 32 := 4#32
  let v456 : BitVec 32 := Scalar.shli v455 c4_i32
  let v457 : Index := Scalar.indexCast v456
  ![v457.toNat]
def k0_off99 (k0_t19 : Fin k0_t19_loop.trips) : Fin 1 → Nat :=
  let c0_i32_572 : BitVec 32 := 0#32
  let c0_i32_186 : BitVec 32 := 0#32
  let c1_i32_188 : BitVec 32 := 1#32
  let arg17 : BitVec 32 := Scf.iv c0_i32_186 c1_i32_188 k0_t19
  let c1_i32_571 : BitVec 32 := 1#32
  let v454 : BitVec 32 := Scalar.muli arg17 c1_i32_571
  let v455 : BitVec 32 := Scalar.addi c0_i32_572 v454
  let v462 : Index := Scalar.indexCast v455
  ![v462.toNat]
@[reducible] def k0_t20_loop : Scf.Loop 32 :=
  let c0_i32_191 : BitVec 32 := 0#32
  let c256_i32_192 : BitVec 32 := 256#32
  let v156 : BitVec 32 := Scalar.addi c0_i32_191 c256_i32_192
  let c1_i32_193 : BitVec 32 := 1#32
  ⟨c0_i32_191, v156, c1_i32_193⟩
def k0_off100 (k0_t20 : Fin k0_t20_loop.trips) : Fin 1 → Nat :=
  let c0_i32_191 : BitVec 32 := 0#32
  let c1_i32_193 : BitVec 32 := 1#32
  let arg17 : BitVec 32 := Scf.iv c0_i32_191 c1_i32_193 k0_t20
  let v454 : Index := Scalar.indexCast arg17
  ![v454.toNat]
@[reducible] def k0_t21_loop : Scf.Loop 32 :=
  let c0_i32_199 : BitVec 32 := 0#32
  let c256_i32_200 : BitVec 32 := 256#32
  let v164 : BitVec 32 := Scalar.addi c0_i32_199 c256_i32_200
  let c1_i32_201 : BitVec 32 := 1#32
  ⟨c0_i32_199, v164, c1_i32_201⟩
def k0_off101 (k0_t21 : Fin k0_t21_loop.trips) : Fin 1 → Nat :=
  let c0_i32_199 : BitVec 32 := 0#32
  let c1_i32_201 : BitVec 32 := 1#32
  let arg17 : BitVec 32 := Scf.iv c0_i32_199 c1_i32_201 k0_t21
  let v454 : Index := Scalar.indexCast arg17
  ![v454.toNat]
def k0_off102 (k0_t21 : Fin k0_t21_loop.trips) : Fin 1 → Nat :=
  let c0_i32_199 : BitVec 32 := 0#32
  let c1_i32_201 : BitVec 32 := 1#32
  let arg17 : BitVec 32 := Scf.iv c0_i32_199 c1_i32_201 k0_t21
  let c4_i32 : BitVec 32 := 4#32
  let v462 : BitVec 32 := Scalar.shli arg17 c4_i32
  let v463 : Index := Scalar.indexCast v462
  ![v463.toNat]
@[reducible] def k0_t22_loop : Scf.Loop 32 :=
  let c0_i32_203 : BitVec 32 := 0#32
  let c128_i32_204 : BitVec 32 := 128#32
  let v166 : BitVec 32 := Scalar.addi c0_i32_203 c128_i32_204
  let c1_i32_205 : BitVec 32 := 1#32
  ⟨c0_i32_203, v166, c1_i32_205⟩
def k0_off103 (k0_t22 : Fin k0_t22_loop.trips) : Fin 1 → Nat :=
  let c0_i32_575 : BitVec 32 := 0#32
  let c0_i32_572 : BitVec 32 := 0#32
  let c0_i32_203 : BitVec 32 := 0#32
  let c1_i32_205 : BitVec 32 := 1#32
  let arg17 : BitVec 32 := Scf.iv c0_i32_203 c1_i32_205 k0_t22
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c0_i32_575 v459
  let v461 : Index := Scalar.indexCast v460
  ![v461.toNat]

def k0_chk65 (v479 : IVec S16 32) : Prop :=
  (∀ a x, ((![v479] : Fin 1 → IVec S16 32) a x).toNat < S4096.size a)
theorem k0_idx65_inb : ∀ (v479 : IVec S16 32) (k0_hw65 : k0_chk65 v479), ∀ a x, ((![v479] : Fin 1 → IVec S16 32) a x).toNat < S4096.size a := fun v479 k0_hw65 => k0_hw65
def k0_off104 (k0_t22 : Fin k0_t22_loop.trips) : Fin 2 → Nat :=
  let c0_i32_572 : BitVec 32 := 0#32
  let c0_i32_203 : BitVec 32 := 0#32
  let c1_i32_205 : BitVec 32 := 1#32
  let arg17 : BitVec 32 := Scf.iv c0_i32_203 c1_i32_205 k0_t22
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_580 : BitVec 32 := 0#32
  let v481 : BitVec 32 := Scalar.addi v458 c0_i32_580
  let v483 : Index := Scalar.indexCast v481
  ![v482.toNat, v483.toNat]

def k0_chk66 (v485 : IVec S16 32) : Prop :=
  (∀ a x, ((![v485] : Fin 1 → IVec S16 32) a x).toNat < S4096.size a)
theorem k0_idx66_inb : ∀ (v485 : IVec S16 32) (k0_hw66 : k0_chk66 v485), ∀ a x, ((![v485] : Fin 1 → IVec S16 32) a x).toNat < S4096.size a := fun v485 k0_hw66 => k0_hw66
def k0_off105 (k0_t22 : Fin k0_t22_loop.trips) : Fin 2 → Nat :=
  let c0_i32_572 : BitVec 32 := 0#32
  let c0_i32_203 : BitVec 32 := 0#32
  let c1_i32_205 : BitVec 32 := 1#32
  let arg17 : BitVec 32 := Scf.iv c0_i32_203 c1_i32_205 k0_t22
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_581 : BitVec 32 := 16#32
  let v487 : BitVec 32 := Scalar.addi v458 c16_i32_581
  let v489 : Index := Scalar.indexCast v487
  ![v488.toNat, v489.toNat]

def k0_chk67 (v491 : IVec S16 32) : Prop :=
  (∀ a x, ((![v491] : Fin 1 → IVec S16 32) a x).toNat < S4096.size a)
theorem k0_idx67_inb : ∀ (v491 : IVec S16 32) (k0_hw67 : k0_chk67 v491), ∀ a x, ((![v491] : Fin 1 → IVec S16 32) a x).toNat < S4096.size a := fun v491 k0_hw67 => k0_hw67
def k0_off106 (k0_t22 : Fin k0_t22_loop.trips) : Fin 2 → Nat :=
  let c0_i32_572 : BitVec 32 := 0#32
  let c0_i32_203 : BitVec 32 := 0#32
  let c1_i32_205 : BitVec 32 := 1#32
  let arg17 : BitVec 32 := Scf.iv c0_i32_203 c1_i32_205 k0_t22
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_582 : BitVec 32 := 32#32
  let v493 : BitVec 32 := Scalar.addi v458 c32_i32_582
  let v495 : Index := Scalar.indexCast v493
  ![v494.toNat, v495.toNat]

def k0_chk68 (v497 : IVec S16 32) : Prop :=
  (∀ a x, ((![v497] : Fin 1 → IVec S16 32) a x).toNat < S4096.size a)
theorem k0_idx68_inb : ∀ (v497 : IVec S16 32) (k0_hw68 : k0_chk68 v497), ∀ a x, ((![v497] : Fin 1 → IVec S16 32) a x).toNat < S4096.size a := fun v497 k0_hw68 => k0_hw68
def k0_off107 (k0_t22 : Fin k0_t22_loop.trips) : Fin 2 → Nat :=
  let c0_i32_572 : BitVec 32 := 0#32
  let c0_i32_203 : BitVec 32 := 0#32
  let c1_i32_205 : BitVec 32 := 1#32
  let arg17 : BitVec 32 := Scf.iv c0_i32_203 c1_i32_205 k0_t22
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_583 : BitVec 32 := 48#32
  let v499 : BitVec 32 := Scalar.addi v458 c48_i32_583
  let v501 : Index := Scalar.indexCast v499
  ![v500.toNat, v501.toNat]
def k0_off108 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c0_i32_207 : BitVec 32 := 0#32
  let c0_i32_208 : BitVec 32 := 0#32
  ![v9.toNat, 0, 0]
@[reducible] def k0_t23_loop : Scf.Loop 32 :=
  let c0_i32_211 : BitVec 32 := 0#32
  let c128_i32_212 : BitVec 32 := 128#32
  let v171 : BitVec 32 := Scalar.addi c0_i32_211 c128_i32_212
  let c1_i32_213 : BitVec 32 := 1#32
  ⟨c0_i32_211, v171, c1_i32_213⟩
def k0_off109 (k0_t23 : Fin k0_t23_loop.trips) : Fin 1 → Nat :=
  let c2048_i32 : BitVec 32 := 2048#32
  let c0_i32_572 : BitVec 32 := 0#32
  let c0_i32_211 : BitVec 32 := 0#32
  let c1_i32_213 : BitVec 32 := 1#32
  let arg17 : BitVec 32 := Scf.iv c0_i32_211 c1_i32_213 k0_t23
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c2048_i32 v459
  let v461 : Index := Scalar.indexCast v460
  ![v461.toNat]

def k0_chk69 (v479 : IVec S16 32) : Prop :=
  (∀ a x, ((![v479] : Fin 1 → IVec S16 32) a x).toNat < S4096.size a)
theorem k0_idx69_inb : ∀ (v479 : IVec S16 32) (k0_hw69 : k0_chk69 v479), ∀ a x, ((![v479] : Fin 1 → IVec S16 32) a x).toNat < S4096.size a := fun v479 k0_hw69 => k0_hw69
def k0_off110 (k0_t23 : Fin k0_t23_loop.trips) : Fin 2 → Nat :=
  let c0_i32_572 : BitVec 32 := 0#32
  let c0_i32_211 : BitVec 32 := 0#32
  let c1_i32_213 : BitVec 32 := 1#32
  let arg17 : BitVec 32 := Scf.iv c0_i32_211 c1_i32_213 k0_t23
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk70 (v485 : IVec S16 32) : Prop :=
  (∀ a x, ((![v485] : Fin 1 → IVec S16 32) a x).toNat < S4096.size a)
theorem k0_idx70_inb : ∀ (v485 : IVec S16 32) (k0_hw70 : k0_chk70 v485), ∀ a x, ((![v485] : Fin 1 → IVec S16 32) a x).toNat < S4096.size a := fun v485 k0_hw70 => k0_hw70
def k0_off111 (k0_t23 : Fin k0_t23_loop.trips) : Fin 2 → Nat :=
  let c0_i32_572 : BitVec 32 := 0#32
  let c0_i32_211 : BitVec 32 := 0#32
  let c1_i32_213 : BitVec 32 := 1#32
  let arg17 : BitVec 32 := Scf.iv c0_i32_211 c1_i32_213 k0_t23
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk71 (v491 : IVec S16 32) : Prop :=
  (∀ a x, ((![v491] : Fin 1 → IVec S16 32) a x).toNat < S4096.size a)
theorem k0_idx71_inb : ∀ (v491 : IVec S16 32) (k0_hw71 : k0_chk71 v491), ∀ a x, ((![v491] : Fin 1 → IVec S16 32) a x).toNat < S4096.size a := fun v491 k0_hw71 => k0_hw71
def k0_off112 (k0_t23 : Fin k0_t23_loop.trips) : Fin 2 → Nat :=
  let c0_i32_572 : BitVec 32 := 0#32
  let c0_i32_211 : BitVec 32 := 0#32
  let c1_i32_213 : BitVec 32 := 1#32
  let arg17 : BitVec 32 := Scf.iv c0_i32_211 c1_i32_213 k0_t23
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk72 (v497 : IVec S16 32) : Prop :=
  (∀ a x, ((![v497] : Fin 1 → IVec S16 32) a x).toNat < S4096.size a)
theorem k0_idx72_inb : ∀ (v497 : IVec S16 32) (k0_hw72 : k0_chk72 v497), ∀ a x, ((![v497] : Fin 1 → IVec S16 32) a x).toNat < S4096.size a := fun v497 k0_hw72 => k0_hw72
def k0_off113 (k0_t23 : Fin k0_t23_loop.trips) : Fin 2 → Nat :=
  let c0_i32_572 : BitVec 32 := 0#32
  let c0_i32_211 : BitVec 32 := 0#32
  let c1_i32_213 : BitVec 32 := 1#32
  let arg17 : BitVec 32 := Scf.iv c0_i32_211 c1_i32_213 k0_t23
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off114 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c16_i32 : BitVec 32 := 16#32
  let c0_i32_215 : BitVec 32 := 0#32
  ![v9.toNat, 16, 0]
@[reducible] def k0_t24_loop : Scf.Loop 32 :=
  let c0_i32_222 : BitVec 32 := 0#32
  let c128_i32_223 : BitVec 32 := 128#32
  let v180 : BitVec 32 := Scalar.addi c0_i32_222 c128_i32_223
  let c1_i32_224 : BitVec 32 := 1#32
  ⟨c0_i32_222, v180, c1_i32_224⟩
def k0_off115 (k0_t24 : Fin k0_t24_loop.trips) : Fin 1 → Nat :=
  let c4096_i32 : BitVec 32 := 4096#32
  let c0_i32_572 : BitVec 32 := 0#32
  let c0_i32_222 : BitVec 32 := 0#32
  let c1_i32_224 : BitVec 32 := 1#32
  let arg17 : BitVec 32 := Scf.iv c0_i32_222 c1_i32_224 k0_t24
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c4096_i32 v459
  let v461 : Index := Scalar.indexCast v460
  ![v461.toNat]

def k0_chk73 (v479 : IVec S16 32) : Prop :=
  (∀ a x, ((![v479] : Fin 1 → IVec S16 32) a x).toNat < S4096.size a)
theorem k0_idx73_inb : ∀ (v479 : IVec S16 32) (k0_hw73 : k0_chk73 v479), ∀ a x, ((![v479] : Fin 1 → IVec S16 32) a x).toNat < S4096.size a := fun v479 k0_hw73 => k0_hw73
def k0_off116 (k0_t24 : Fin k0_t24_loop.trips) : Fin 2 → Nat :=
  let c0_i32_572 : BitVec 32 := 0#32
  let c0_i32_222 : BitVec 32 := 0#32
  let c1_i32_224 : BitVec 32 := 1#32
  let arg17 : BitVec 32 := Scf.iv c0_i32_222 c1_i32_224 k0_t24
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk74 (v485 : IVec S16 32) : Prop :=
  (∀ a x, ((![v485] : Fin 1 → IVec S16 32) a x).toNat < S4096.size a)
theorem k0_idx74_inb : ∀ (v485 : IVec S16 32) (k0_hw74 : k0_chk74 v485), ∀ a x, ((![v485] : Fin 1 → IVec S16 32) a x).toNat < S4096.size a := fun v485 k0_hw74 => k0_hw74
def k0_off117 (k0_t24 : Fin k0_t24_loop.trips) : Fin 2 → Nat :=
  let c0_i32_572 : BitVec 32 := 0#32
  let c0_i32_222 : BitVec 32 := 0#32
  let c1_i32_224 : BitVec 32 := 1#32
  let arg17 : BitVec 32 := Scf.iv c0_i32_222 c1_i32_224 k0_t24
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk75 (v491 : IVec S16 32) : Prop :=
  (∀ a x, ((![v491] : Fin 1 → IVec S16 32) a x).toNat < S4096.size a)
theorem k0_idx75_inb : ∀ (v491 : IVec S16 32) (k0_hw75 : k0_chk75 v491), ∀ a x, ((![v491] : Fin 1 → IVec S16 32) a x).toNat < S4096.size a := fun v491 k0_hw75 => k0_hw75
def k0_off118 (k0_t24 : Fin k0_t24_loop.trips) : Fin 2 → Nat :=
  let c0_i32_572 : BitVec 32 := 0#32
  let c0_i32_222 : BitVec 32 := 0#32
  let c1_i32_224 : BitVec 32 := 1#32
  let arg17 : BitVec 32 := Scf.iv c0_i32_222 c1_i32_224 k0_t24
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk76 (v497 : IVec S16 32) : Prop :=
  (∀ a x, ((![v497] : Fin 1 → IVec S16 32) a x).toNat < S4096.size a)
theorem k0_idx76_inb : ∀ (v497 : IVec S16 32) (k0_hw76 : k0_chk76 v497), ∀ a x, ((![v497] : Fin 1 → IVec S16 32) a x).toNat < S4096.size a := fun v497 k0_hw76 => k0_hw76
def k0_off119 (k0_t24 : Fin k0_t24_loop.trips) : Fin 2 → Nat :=
  let c0_i32_572 : BitVec 32 := 0#32
  let c0_i32_222 : BitVec 32 := 0#32
  let c1_i32_224 : BitVec 32 := 1#32
  let arg17 : BitVec 32 := Scf.iv c0_i32_222 c1_i32_224 k0_t24
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off120 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c32_i32_226 : BitVec 32 := 32#32
  let c0_i32_227 : BitVec 32 := 0#32
  ![v9.toNat, 32, 0]
@[reducible] def k0_t25_loop : Scf.Loop 32 :=
  let c0_i32_234 : BitVec 32 := 0#32
  let c128_i32_235 : BitVec 32 := 128#32
  let v189 : BitVec 32 := Scalar.addi c0_i32_234 c128_i32_235
  let c1_i32_236 : BitVec 32 := 1#32
  ⟨c0_i32_234, v189, c1_i32_236⟩
def k0_off121 (k0_t25 : Fin k0_t25_loop.trips) : Fin 1 → Nat :=
  let c6144_i32 : BitVec 32 := 6144#32
  let c0_i32_572 : BitVec 32 := 0#32
  let c0_i32_234 : BitVec 32 := 0#32
  let c1_i32_236 : BitVec 32 := 1#32
  let arg17 : BitVec 32 := Scf.iv c0_i32_234 c1_i32_236 k0_t25
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c6144_i32 v459
  let v461 : Index := Scalar.indexCast v460
  ![v461.toNat]

def k0_chk77 (v479 : IVec S16 32) : Prop :=
  (∀ a x, ((![v479] : Fin 1 → IVec S16 32) a x).toNat < S4096.size a)
theorem k0_idx77_inb : ∀ (v479 : IVec S16 32) (k0_hw77 : k0_chk77 v479), ∀ a x, ((![v479] : Fin 1 → IVec S16 32) a x).toNat < S4096.size a := fun v479 k0_hw77 => k0_hw77
def k0_off122 (k0_t25 : Fin k0_t25_loop.trips) : Fin 2 → Nat :=
  let c0_i32_572 : BitVec 32 := 0#32
  let c0_i32_234 : BitVec 32 := 0#32
  let c1_i32_236 : BitVec 32 := 1#32
  let arg17 : BitVec 32 := Scf.iv c0_i32_234 c1_i32_236 k0_t25
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk78 (v485 : IVec S16 32) : Prop :=
  (∀ a x, ((![v485] : Fin 1 → IVec S16 32) a x).toNat < S4096.size a)
theorem k0_idx78_inb : ∀ (v485 : IVec S16 32) (k0_hw78 : k0_chk78 v485), ∀ a x, ((![v485] : Fin 1 → IVec S16 32) a x).toNat < S4096.size a := fun v485 k0_hw78 => k0_hw78
def k0_off123 (k0_t25 : Fin k0_t25_loop.trips) : Fin 2 → Nat :=
  let c0_i32_572 : BitVec 32 := 0#32
  let c0_i32_234 : BitVec 32 := 0#32
  let c1_i32_236 : BitVec 32 := 1#32
  let arg17 : BitVec 32 := Scf.iv c0_i32_234 c1_i32_236 k0_t25
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk79 (v491 : IVec S16 32) : Prop :=
  (∀ a x, ((![v491] : Fin 1 → IVec S16 32) a x).toNat < S4096.size a)
theorem k0_idx79_inb : ∀ (v491 : IVec S16 32) (k0_hw79 : k0_chk79 v491), ∀ a x, ((![v491] : Fin 1 → IVec S16 32) a x).toNat < S4096.size a := fun v491 k0_hw79 => k0_hw79
def k0_off124 (k0_t25 : Fin k0_t25_loop.trips) : Fin 2 → Nat :=
  let c0_i32_572 : BitVec 32 := 0#32
  let c0_i32_234 : BitVec 32 := 0#32
  let c1_i32_236 : BitVec 32 := 1#32
  let arg17 : BitVec 32 := Scf.iv c0_i32_234 c1_i32_236 k0_t25
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk80 (v497 : IVec S16 32) : Prop :=
  (∀ a x, ((![v497] : Fin 1 → IVec S16 32) a x).toNat < S4096.size a)
theorem k0_idx80_inb : ∀ (v497 : IVec S16 32) (k0_hw80 : k0_chk80 v497), ∀ a x, ((![v497] : Fin 1 → IVec S16 32) a x).toNat < S4096.size a := fun v497 k0_hw80 => k0_hw80
def k0_off125 (k0_t25 : Fin k0_t25_loop.trips) : Fin 2 → Nat :=
  let c0_i32_572 : BitVec 32 := 0#32
  let c0_i32_234 : BitVec 32 := 0#32
  let c1_i32_236 : BitVec 32 := 1#32
  let arg17 : BitVec 32 := Scf.iv c0_i32_234 c1_i32_236 k0_t25
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off126 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c48_i32 : BitVec 32 := 48#32
  let c0_i32_238 : BitVec 32 := 0#32
  ![v9.toNat, 48, 0]
@[reducible] def k0_t26_loop : Scf.Loop 32 :=
  let c0_i32_245 : BitVec 32 := 0#32
  let c128_i32_246 : BitVec 32 := 128#32
  let v198 : BitVec 32 := Scalar.addi c0_i32_245 c128_i32_246
  let c1_i32_247 : BitVec 32 := 1#32
  ⟨c0_i32_245, v198, c1_i32_247⟩
def k0_off127 (k0_t26 : Fin k0_t26_loop.trips) : Fin 1 → Nat :=
  let c8192_i32 : BitVec 32 := 8192#32
  let c0_i32_572 : BitVec 32 := 0#32
  let c0_i32_245 : BitVec 32 := 0#32
  let c1_i32_247 : BitVec 32 := 1#32
  let arg17 : BitVec 32 := Scf.iv c0_i32_245 c1_i32_247 k0_t26
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c8192_i32 v459
  let v461 : Index := Scalar.indexCast v460
  ![v461.toNat]

def k0_chk81 (v479 : IVec S16 32) : Prop :=
  (∀ a x, ((![v479] : Fin 1 → IVec S16 32) a x).toNat < S4096.size a)
theorem k0_idx81_inb : ∀ (v479 : IVec S16 32) (k0_hw81 : k0_chk81 v479), ∀ a x, ((![v479] : Fin 1 → IVec S16 32) a x).toNat < S4096.size a := fun v479 k0_hw81 => k0_hw81
def k0_off128 (k0_t26 : Fin k0_t26_loop.trips) : Fin 2 → Nat :=
  let c0_i32_572 : BitVec 32 := 0#32
  let c0_i32_245 : BitVec 32 := 0#32
  let c1_i32_247 : BitVec 32 := 1#32
  let arg17 : BitVec 32 := Scf.iv c0_i32_245 c1_i32_247 k0_t26
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk82 (v485 : IVec S16 32) : Prop :=
  (∀ a x, ((![v485] : Fin 1 → IVec S16 32) a x).toNat < S4096.size a)
theorem k0_idx82_inb : ∀ (v485 : IVec S16 32) (k0_hw82 : k0_chk82 v485), ∀ a x, ((![v485] : Fin 1 → IVec S16 32) a x).toNat < S4096.size a := fun v485 k0_hw82 => k0_hw82
def k0_off129 (k0_t26 : Fin k0_t26_loop.trips) : Fin 2 → Nat :=
  let c0_i32_572 : BitVec 32 := 0#32
  let c0_i32_245 : BitVec 32 := 0#32
  let c1_i32_247 : BitVec 32 := 1#32
  let arg17 : BitVec 32 := Scf.iv c0_i32_245 c1_i32_247 k0_t26
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk83 (v491 : IVec S16 32) : Prop :=
  (∀ a x, ((![v491] : Fin 1 → IVec S16 32) a x).toNat < S4096.size a)
theorem k0_idx83_inb : ∀ (v491 : IVec S16 32) (k0_hw83 : k0_chk83 v491), ∀ a x, ((![v491] : Fin 1 → IVec S16 32) a x).toNat < S4096.size a := fun v491 k0_hw83 => k0_hw83
def k0_off130 (k0_t26 : Fin k0_t26_loop.trips) : Fin 2 → Nat :=
  let c0_i32_572 : BitVec 32 := 0#32
  let c0_i32_245 : BitVec 32 := 0#32
  let c1_i32_247 : BitVec 32 := 1#32
  let arg17 : BitVec 32 := Scf.iv c0_i32_245 c1_i32_247 k0_t26
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk84 (v497 : IVec S16 32) : Prop :=
  (∀ a x, ((![v497] : Fin 1 → IVec S16 32) a x).toNat < S4096.size a)
theorem k0_idx84_inb : ∀ (v497 : IVec S16 32) (k0_hw84 : k0_chk84 v497), ∀ a x, ((![v497] : Fin 1 → IVec S16 32) a x).toNat < S4096.size a := fun v497 k0_hw84 => k0_hw84
def k0_off131 (k0_t26 : Fin k0_t26_loop.trips) : Fin 2 → Nat :=
  let c0_i32_572 : BitVec 32 := 0#32
  let c0_i32_245 : BitVec 32 := 0#32
  let c1_i32_247 : BitVec 32 := 1#32
  let arg17 : BitVec 32 := Scf.iv c0_i32_245 c1_i32_247 k0_t26
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off132 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c64_i32_249 : BitVec 32 := 64#32
  let c0_i32_250 : BitVec 32 := 0#32
  ![v9.toNat, 64, 0]
@[reducible] def k0_t27_loop : Scf.Loop 32 :=
  let c0_i32_257 : BitVec 32 := 0#32
  let c128_i32_258 : BitVec 32 := 128#32
  let v207 : BitVec 32 := Scalar.addi c0_i32_257 c128_i32_258
  let c1_i32_259 : BitVec 32 := 1#32
  ⟨c0_i32_257, v207, c1_i32_259⟩
def k0_off133 (k0_t27 : Fin k0_t27_loop.trips) : Fin 1 → Nat :=
  let c10240_i32 : BitVec 32 := 10240#32
  let c0_i32_572 : BitVec 32 := 0#32
  let c0_i32_257 : BitVec 32 := 0#32
  let c1_i32_259 : BitVec 32 := 1#32
  let arg17 : BitVec 32 := Scf.iv c0_i32_257 c1_i32_259 k0_t27
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c10240_i32 v459
  let v461 : Index := Scalar.indexCast v460
  ![v461.toNat]

def k0_chk85 (v479 : IVec S16 32) : Prop :=
  (∀ a x, ((![v479] : Fin 1 → IVec S16 32) a x).toNat < S4096.size a)
theorem k0_idx85_inb : ∀ (v479 : IVec S16 32) (k0_hw85 : k0_chk85 v479), ∀ a x, ((![v479] : Fin 1 → IVec S16 32) a x).toNat < S4096.size a := fun v479 k0_hw85 => k0_hw85
def k0_off134 (k0_t27 : Fin k0_t27_loop.trips) : Fin 2 → Nat :=
  let c0_i32_572 : BitVec 32 := 0#32
  let c0_i32_257 : BitVec 32 := 0#32
  let c1_i32_259 : BitVec 32 := 1#32
  let arg17 : BitVec 32 := Scf.iv c0_i32_257 c1_i32_259 k0_t27
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk86 (v485 : IVec S16 32) : Prop :=
  (∀ a x, ((![v485] : Fin 1 → IVec S16 32) a x).toNat < S4096.size a)
theorem k0_idx86_inb : ∀ (v485 : IVec S16 32) (k0_hw86 : k0_chk86 v485), ∀ a x, ((![v485] : Fin 1 → IVec S16 32) a x).toNat < S4096.size a := fun v485 k0_hw86 => k0_hw86
def k0_off135 (k0_t27 : Fin k0_t27_loop.trips) : Fin 2 → Nat :=
  let c0_i32_572 : BitVec 32 := 0#32
  let c0_i32_257 : BitVec 32 := 0#32
  let c1_i32_259 : BitVec 32 := 1#32
  let arg17 : BitVec 32 := Scf.iv c0_i32_257 c1_i32_259 k0_t27
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk87 (v491 : IVec S16 32) : Prop :=
  (∀ a x, ((![v491] : Fin 1 → IVec S16 32) a x).toNat < S4096.size a)
theorem k0_idx87_inb : ∀ (v491 : IVec S16 32) (k0_hw87 : k0_chk87 v491), ∀ a x, ((![v491] : Fin 1 → IVec S16 32) a x).toNat < S4096.size a := fun v491 k0_hw87 => k0_hw87
def k0_off136 (k0_t27 : Fin k0_t27_loop.trips) : Fin 2 → Nat :=
  let c0_i32_572 : BitVec 32 := 0#32
  let c0_i32_257 : BitVec 32 := 0#32
  let c1_i32_259 : BitVec 32 := 1#32
  let arg17 : BitVec 32 := Scf.iv c0_i32_257 c1_i32_259 k0_t27
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk88 (v497 : IVec S16 32) : Prop :=
  (∀ a x, ((![v497] : Fin 1 → IVec S16 32) a x).toNat < S4096.size a)
theorem k0_idx88_inb : ∀ (v497 : IVec S16 32) (k0_hw88 : k0_chk88 v497), ∀ a x, ((![v497] : Fin 1 → IVec S16 32) a x).toNat < S4096.size a := fun v497 k0_hw88 => k0_hw88
def k0_off137 (k0_t27 : Fin k0_t27_loop.trips) : Fin 2 → Nat :=
  let c0_i32_572 : BitVec 32 := 0#32
  let c0_i32_257 : BitVec 32 := 0#32
  let c1_i32_259 : BitVec 32 := 1#32
  let arg17 : BitVec 32 := Scf.iv c0_i32_257 c1_i32_259 k0_t27
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off138 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c80_i32 : BitVec 32 := 80#32
  let c0_i32_261 : BitVec 32 := 0#32
  ![v9.toNat, 80, 0]
@[reducible] def k0_t28_loop : Scf.Loop 32 :=
  let c0_i32_268 : BitVec 32 := 0#32
  let c128_i32_269 : BitVec 32 := 128#32
  let v216 : BitVec 32 := Scalar.addi c0_i32_268 c128_i32_269
  let c1_i32_270 : BitVec 32 := 1#32
  ⟨c0_i32_268, v216, c1_i32_270⟩
def k0_off139 (k0_t28 : Fin k0_t28_loop.trips) : Fin 1 → Nat :=
  let c12288_i32 : BitVec 32 := 12288#32
  let c0_i32_572 : BitVec 32 := 0#32
  let c0_i32_268 : BitVec 32 := 0#32
  let c1_i32_270 : BitVec 32 := 1#32
  let arg17 : BitVec 32 := Scf.iv c0_i32_268 c1_i32_270 k0_t28
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c12288_i32 v459
  let v461 : Index := Scalar.indexCast v460
  ![v461.toNat]

def k0_chk89 (v479 : IVec S16 32) : Prop :=
  (∀ a x, ((![v479] : Fin 1 → IVec S16 32) a x).toNat < S4096.size a)
theorem k0_idx89_inb : ∀ (v479 : IVec S16 32) (k0_hw89 : k0_chk89 v479), ∀ a x, ((![v479] : Fin 1 → IVec S16 32) a x).toNat < S4096.size a := fun v479 k0_hw89 => k0_hw89
def k0_off140 (k0_t28 : Fin k0_t28_loop.trips) : Fin 2 → Nat :=
  let c0_i32_572 : BitVec 32 := 0#32
  let c0_i32_268 : BitVec 32 := 0#32
  let c1_i32_270 : BitVec 32 := 1#32
  let arg17 : BitVec 32 := Scf.iv c0_i32_268 c1_i32_270 k0_t28
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk90 (v485 : IVec S16 32) : Prop :=
  (∀ a x, ((![v485] : Fin 1 → IVec S16 32) a x).toNat < S4096.size a)
theorem k0_idx90_inb : ∀ (v485 : IVec S16 32) (k0_hw90 : k0_chk90 v485), ∀ a x, ((![v485] : Fin 1 → IVec S16 32) a x).toNat < S4096.size a := fun v485 k0_hw90 => k0_hw90
def k0_off141 (k0_t28 : Fin k0_t28_loop.trips) : Fin 2 → Nat :=
  let c0_i32_572 : BitVec 32 := 0#32
  let c0_i32_268 : BitVec 32 := 0#32
  let c1_i32_270 : BitVec 32 := 1#32
  let arg17 : BitVec 32 := Scf.iv c0_i32_268 c1_i32_270 k0_t28
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk91 (v491 : IVec S16 32) : Prop :=
  (∀ a x, ((![v491] : Fin 1 → IVec S16 32) a x).toNat < S4096.size a)
theorem k0_idx91_inb : ∀ (v491 : IVec S16 32) (k0_hw91 : k0_chk91 v491), ∀ a x, ((![v491] : Fin 1 → IVec S16 32) a x).toNat < S4096.size a := fun v491 k0_hw91 => k0_hw91
def k0_off142 (k0_t28 : Fin k0_t28_loop.trips) : Fin 2 → Nat :=
  let c0_i32_572 : BitVec 32 := 0#32
  let c0_i32_268 : BitVec 32 := 0#32
  let c1_i32_270 : BitVec 32 := 1#32
  let arg17 : BitVec 32 := Scf.iv c0_i32_268 c1_i32_270 k0_t28
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk92 (v497 : IVec S16 32) : Prop :=
  (∀ a x, ((![v497] : Fin 1 → IVec S16 32) a x).toNat < S4096.size a)
theorem k0_idx92_inb : ∀ (v497 : IVec S16 32) (k0_hw92 : k0_chk92 v497), ∀ a x, ((![v497] : Fin 1 → IVec S16 32) a x).toNat < S4096.size a := fun v497 k0_hw92 => k0_hw92
def k0_off143 (k0_t28 : Fin k0_t28_loop.trips) : Fin 2 → Nat :=
  let c0_i32_572 : BitVec 32 := 0#32
  let c0_i32_268 : BitVec 32 := 0#32
  let c1_i32_270 : BitVec 32 := 1#32
  let arg17 : BitVec 32 := Scf.iv c0_i32_268 c1_i32_270 k0_t28
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off144 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c96_i32_272 : BitVec 32 := 96#32
  let c0_i32_273 : BitVec 32 := 0#32
  ![v9.toNat, 96, 0]
@[reducible] def k0_t29_loop : Scf.Loop 32 :=
  let c0_i32_280 : BitVec 32 := 0#32
  let c128_i32_281 : BitVec 32 := 128#32
  let v225 : BitVec 32 := Scalar.addi c0_i32_280 c128_i32_281
  let c1_i32_282 : BitVec 32 := 1#32
  ⟨c0_i32_280, v225, c1_i32_282⟩
def k0_off145 (k0_t29 : Fin k0_t29_loop.trips) : Fin 1 → Nat :=
  let c14336_i32 : BitVec 32 := 14336#32
  let c0_i32_572 : BitVec 32 := 0#32
  let c0_i32_280 : BitVec 32 := 0#32
  let c1_i32_282 : BitVec 32 := 1#32
  let arg17 : BitVec 32 := Scf.iv c0_i32_280 c1_i32_282 k0_t29
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c14336_i32 v459
  let v461 : Index := Scalar.indexCast v460
  ![v461.toNat]

def k0_chk93 (v479 : IVec S16 32) : Prop :=
  (∀ a x, ((![v479] : Fin 1 → IVec S16 32) a x).toNat < S4096.size a)
theorem k0_idx93_inb : ∀ (v479 : IVec S16 32) (k0_hw93 : k0_chk93 v479), ∀ a x, ((![v479] : Fin 1 → IVec S16 32) a x).toNat < S4096.size a := fun v479 k0_hw93 => k0_hw93
def k0_off146 (k0_t29 : Fin k0_t29_loop.trips) : Fin 2 → Nat :=
  let c0_i32_572 : BitVec 32 := 0#32
  let c0_i32_280 : BitVec 32 := 0#32
  let c1_i32_282 : BitVec 32 := 1#32
  let arg17 : BitVec 32 := Scf.iv c0_i32_280 c1_i32_282 k0_t29
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk94 (v485 : IVec S16 32) : Prop :=
  (∀ a x, ((![v485] : Fin 1 → IVec S16 32) a x).toNat < S4096.size a)
theorem k0_idx94_inb : ∀ (v485 : IVec S16 32) (k0_hw94 : k0_chk94 v485), ∀ a x, ((![v485] : Fin 1 → IVec S16 32) a x).toNat < S4096.size a := fun v485 k0_hw94 => k0_hw94
def k0_off147 (k0_t29 : Fin k0_t29_loop.trips) : Fin 2 → Nat :=
  let c0_i32_572 : BitVec 32 := 0#32
  let c0_i32_280 : BitVec 32 := 0#32
  let c1_i32_282 : BitVec 32 := 1#32
  let arg17 : BitVec 32 := Scf.iv c0_i32_280 c1_i32_282 k0_t29
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk95 (v491 : IVec S16 32) : Prop :=
  (∀ a x, ((![v491] : Fin 1 → IVec S16 32) a x).toNat < S4096.size a)
theorem k0_idx95_inb : ∀ (v491 : IVec S16 32) (k0_hw95 : k0_chk95 v491), ∀ a x, ((![v491] : Fin 1 → IVec S16 32) a x).toNat < S4096.size a := fun v491 k0_hw95 => k0_hw95
def k0_off148 (k0_t29 : Fin k0_t29_loop.trips) : Fin 2 → Nat :=
  let c0_i32_572 : BitVec 32 := 0#32
  let c0_i32_280 : BitVec 32 := 0#32
  let c1_i32_282 : BitVec 32 := 1#32
  let arg17 : BitVec 32 := Scf.iv c0_i32_280 c1_i32_282 k0_t29
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk96 (v497 : IVec S16 32) : Prop :=
  (∀ a x, ((![v497] : Fin 1 → IVec S16 32) a x).toNat < S4096.size a)
theorem k0_idx96_inb : ∀ (v497 : IVec S16 32) (k0_hw96 : k0_chk96 v497), ∀ a x, ((![v497] : Fin 1 → IVec S16 32) a x).toNat < S4096.size a := fun v497 k0_hw96 => k0_hw96
def k0_off149 (k0_t29 : Fin k0_t29_loop.trips) : Fin 2 → Nat :=
  let c0_i32_572 : BitVec 32 := 0#32
  let c0_i32_280 : BitVec 32 := 0#32
  let c1_i32_282 : BitVec 32 := 1#32
  let arg17 : BitVec 32 := Scf.iv c0_i32_280 c1_i32_282 k0_t29
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off150 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c112_i32 : BitVec 32 := 112#32
  let c0_i32_284 : BitVec 32 := 0#32
  ![v9.toNat, 112, 0]
@[reducible] def k0_t30_loop : Scf.Loop 32 :=
  let c0_i32_291 : BitVec 32 := 0#32
  let c128_i32_292 : BitVec 32 := 128#32
  let v234 : BitVec 32 := Scalar.addi c0_i32_291 c128_i32_292
  let c1_i32_293 : BitVec 32 := 1#32
  ⟨c0_i32_291, v234, c1_i32_293⟩
def k0_off151 (k0_t30 : Fin k0_t30_loop.trips) : Fin 1 → Nat :=
  let c16384_i32 : BitVec 32 := 16384#32
  let c0_i32_572 : BitVec 32 := 0#32
  let c0_i32_291 : BitVec 32 := 0#32
  let c1_i32_293 : BitVec 32 := 1#32
  let arg17 : BitVec 32 := Scf.iv c0_i32_291 c1_i32_293 k0_t30
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c16384_i32 v459
  let v461 : Index := Scalar.indexCast v460
  ![v461.toNat]

def k0_chk97 (v479 : IVec S16 32) : Prop :=
  (∀ a x, ((![v479] : Fin 1 → IVec S16 32) a x).toNat < S4096.size a)
theorem k0_idx97_inb : ∀ (v479 : IVec S16 32) (k0_hw97 : k0_chk97 v479), ∀ a x, ((![v479] : Fin 1 → IVec S16 32) a x).toNat < S4096.size a := fun v479 k0_hw97 => k0_hw97
def k0_off152 (k0_t30 : Fin k0_t30_loop.trips) : Fin 2 → Nat :=
  let c0_i32_572 : BitVec 32 := 0#32
  let c0_i32_291 : BitVec 32 := 0#32
  let c1_i32_293 : BitVec 32 := 1#32
  let arg17 : BitVec 32 := Scf.iv c0_i32_291 c1_i32_293 k0_t30
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk98 (v485 : IVec S16 32) : Prop :=
  (∀ a x, ((![v485] : Fin 1 → IVec S16 32) a x).toNat < S4096.size a)
theorem k0_idx98_inb : ∀ (v485 : IVec S16 32) (k0_hw98 : k0_chk98 v485), ∀ a x, ((![v485] : Fin 1 → IVec S16 32) a x).toNat < S4096.size a := fun v485 k0_hw98 => k0_hw98
def k0_off153 (k0_t30 : Fin k0_t30_loop.trips) : Fin 2 → Nat :=
  let c0_i32_572 : BitVec 32 := 0#32
  let c0_i32_291 : BitVec 32 := 0#32
  let c1_i32_293 : BitVec 32 := 1#32
  let arg17 : BitVec 32 := Scf.iv c0_i32_291 c1_i32_293 k0_t30
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk99 (v491 : IVec S16 32) : Prop :=
  (∀ a x, ((![v491] : Fin 1 → IVec S16 32) a x).toNat < S4096.size a)
theorem k0_idx99_inb : ∀ (v491 : IVec S16 32) (k0_hw99 : k0_chk99 v491), ∀ a x, ((![v491] : Fin 1 → IVec S16 32) a x).toNat < S4096.size a := fun v491 k0_hw99 => k0_hw99
def k0_off154 (k0_t30 : Fin k0_t30_loop.trips) : Fin 2 → Nat :=
  let c0_i32_572 : BitVec 32 := 0#32
  let c0_i32_291 : BitVec 32 := 0#32
  let c1_i32_293 : BitVec 32 := 1#32
  let arg17 : BitVec 32 := Scf.iv c0_i32_291 c1_i32_293 k0_t30
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk100 (v497 : IVec S16 32) : Prop :=
  (∀ a x, ((![v497] : Fin 1 → IVec S16 32) a x).toNat < S4096.size a)
theorem k0_idx100_inb : ∀ (v497 : IVec S16 32) (k0_hw100 : k0_chk100 v497), ∀ a x, ((![v497] : Fin 1 → IVec S16 32) a x).toNat < S4096.size a := fun v497 k0_hw100 => k0_hw100
def k0_off155 (k0_t30 : Fin k0_t30_loop.trips) : Fin 2 → Nat :=
  let c0_i32_572 : BitVec 32 := 0#32
  let c0_i32_291 : BitVec 32 := 0#32
  let c1_i32_293 : BitVec 32 := 1#32
  let arg17 : BitVec 32 := Scf.iv c0_i32_291 c1_i32_293 k0_t30
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off156 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c128_i32_295 : BitVec 32 := 128#32
  let c0_i32_296 : BitVec 32 := 0#32
  ![v9.toNat, 128, 0]
@[reducible] def k0_t31_loop : Scf.Loop 32 :=
  let c0_i32_303 : BitVec 32 := 0#32
  let c128_i32_304 : BitVec 32 := 128#32
  let v243 : BitVec 32 := Scalar.addi c0_i32_303 c128_i32_304
  let c1_i32_305 : BitVec 32 := 1#32
  ⟨c0_i32_303, v243, c1_i32_305⟩
def k0_off157 (k0_t31 : Fin k0_t31_loop.trips) : Fin 1 → Nat :=
  let c18432_i32 : BitVec 32 := 18432#32
  let c0_i32_572 : BitVec 32 := 0#32
  let c0_i32_303 : BitVec 32 := 0#32
  let c1_i32_305 : BitVec 32 := 1#32
  let arg17 : BitVec 32 := Scf.iv c0_i32_303 c1_i32_305 k0_t31
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c18432_i32 v459
  let v461 : Index := Scalar.indexCast v460
  ![v461.toNat]

def k0_chk101 (v479 : IVec S16 32) : Prop :=
  (∀ a x, ((![v479] : Fin 1 → IVec S16 32) a x).toNat < S4096.size a)
theorem k0_idx101_inb : ∀ (v479 : IVec S16 32) (k0_hw101 : k0_chk101 v479), ∀ a x, ((![v479] : Fin 1 → IVec S16 32) a x).toNat < S4096.size a := fun v479 k0_hw101 => k0_hw101
def k0_off158 (k0_t31 : Fin k0_t31_loop.trips) : Fin 2 → Nat :=
  let c0_i32_572 : BitVec 32 := 0#32
  let c0_i32_303 : BitVec 32 := 0#32
  let c1_i32_305 : BitVec 32 := 1#32
  let arg17 : BitVec 32 := Scf.iv c0_i32_303 c1_i32_305 k0_t31
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk102 (v485 : IVec S16 32) : Prop :=
  (∀ a x, ((![v485] : Fin 1 → IVec S16 32) a x).toNat < S4096.size a)
theorem k0_idx102_inb : ∀ (v485 : IVec S16 32) (k0_hw102 : k0_chk102 v485), ∀ a x, ((![v485] : Fin 1 → IVec S16 32) a x).toNat < S4096.size a := fun v485 k0_hw102 => k0_hw102
def k0_off159 (k0_t31 : Fin k0_t31_loop.trips) : Fin 2 → Nat :=
  let c0_i32_572 : BitVec 32 := 0#32
  let c0_i32_303 : BitVec 32 := 0#32
  let c1_i32_305 : BitVec 32 := 1#32
  let arg17 : BitVec 32 := Scf.iv c0_i32_303 c1_i32_305 k0_t31
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk103 (v491 : IVec S16 32) : Prop :=
  (∀ a x, ((![v491] : Fin 1 → IVec S16 32) a x).toNat < S4096.size a)
theorem k0_idx103_inb : ∀ (v491 : IVec S16 32) (k0_hw103 : k0_chk103 v491), ∀ a x, ((![v491] : Fin 1 → IVec S16 32) a x).toNat < S4096.size a := fun v491 k0_hw103 => k0_hw103
def k0_off160 (k0_t31 : Fin k0_t31_loop.trips) : Fin 2 → Nat :=
  let c0_i32_572 : BitVec 32 := 0#32
  let c0_i32_303 : BitVec 32 := 0#32
  let c1_i32_305 : BitVec 32 := 1#32
  let arg17 : BitVec 32 := Scf.iv c0_i32_303 c1_i32_305 k0_t31
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk104 (v497 : IVec S16 32) : Prop :=
  (∀ a x, ((![v497] : Fin 1 → IVec S16 32) a x).toNat < S4096.size a)
theorem k0_idx104_inb : ∀ (v497 : IVec S16 32) (k0_hw104 : k0_chk104 v497), ∀ a x, ((![v497] : Fin 1 → IVec S16 32) a x).toNat < S4096.size a := fun v497 k0_hw104 => k0_hw104
def k0_off161 (k0_t31 : Fin k0_t31_loop.trips) : Fin 2 → Nat :=
  let c0_i32_572 : BitVec 32 := 0#32
  let c0_i32_303 : BitVec 32 := 0#32
  let c1_i32_305 : BitVec 32 := 1#32
  let arg17 : BitVec 32 := Scf.iv c0_i32_303 c1_i32_305 k0_t31
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off162 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c144_i32 : BitVec 32 := 144#32
  let c0_i32_307 : BitVec 32 := 0#32
  ![v9.toNat, 144, 0]
@[reducible] def k0_t32_loop : Scf.Loop 32 :=
  let c0_i32_314 : BitVec 32 := 0#32
  let c128_i32_315 : BitVec 32 := 128#32
  let v252 : BitVec 32 := Scalar.addi c0_i32_314 c128_i32_315
  let c1_i32_316 : BitVec 32 := 1#32
  ⟨c0_i32_314, v252, c1_i32_316⟩
def k0_off163 (k0_t32 : Fin k0_t32_loop.trips) : Fin 1 → Nat :=
  let c20480_i32 : BitVec 32 := 20480#32
  let c0_i32_572 : BitVec 32 := 0#32
  let c0_i32_314 : BitVec 32 := 0#32
  let c1_i32_316 : BitVec 32 := 1#32
  let arg17 : BitVec 32 := Scf.iv c0_i32_314 c1_i32_316 k0_t32
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c20480_i32 v459
  let v461 : Index := Scalar.indexCast v460
  ![v461.toNat]

def k0_chk105 (v479 : IVec S16 32) : Prop :=
  (∀ a x, ((![v479] : Fin 1 → IVec S16 32) a x).toNat < S4096.size a)
theorem k0_idx105_inb : ∀ (v479 : IVec S16 32) (k0_hw105 : k0_chk105 v479), ∀ a x, ((![v479] : Fin 1 → IVec S16 32) a x).toNat < S4096.size a := fun v479 k0_hw105 => k0_hw105
def k0_off164 (k0_t32 : Fin k0_t32_loop.trips) : Fin 2 → Nat :=
  let c0_i32_572 : BitVec 32 := 0#32
  let c0_i32_314 : BitVec 32 := 0#32
  let c1_i32_316 : BitVec 32 := 1#32
  let arg17 : BitVec 32 := Scf.iv c0_i32_314 c1_i32_316 k0_t32
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk106 (v485 : IVec S16 32) : Prop :=
  (∀ a x, ((![v485] : Fin 1 → IVec S16 32) a x).toNat < S4096.size a)
theorem k0_idx106_inb : ∀ (v485 : IVec S16 32) (k0_hw106 : k0_chk106 v485), ∀ a x, ((![v485] : Fin 1 → IVec S16 32) a x).toNat < S4096.size a := fun v485 k0_hw106 => k0_hw106
def k0_off165 (k0_t32 : Fin k0_t32_loop.trips) : Fin 2 → Nat :=
  let c0_i32_572 : BitVec 32 := 0#32
  let c0_i32_314 : BitVec 32 := 0#32
  let c1_i32_316 : BitVec 32 := 1#32
  let arg17 : BitVec 32 := Scf.iv c0_i32_314 c1_i32_316 k0_t32
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk107 (v491 : IVec S16 32) : Prop :=
  (∀ a x, ((![v491] : Fin 1 → IVec S16 32) a x).toNat < S4096.size a)
theorem k0_idx107_inb : ∀ (v491 : IVec S16 32) (k0_hw107 : k0_chk107 v491), ∀ a x, ((![v491] : Fin 1 → IVec S16 32) a x).toNat < S4096.size a := fun v491 k0_hw107 => k0_hw107
def k0_off166 (k0_t32 : Fin k0_t32_loop.trips) : Fin 2 → Nat :=
  let c0_i32_572 : BitVec 32 := 0#32
  let c0_i32_314 : BitVec 32 := 0#32
  let c1_i32_316 : BitVec 32 := 1#32
  let arg17 : BitVec 32 := Scf.iv c0_i32_314 c1_i32_316 k0_t32
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk108 (v497 : IVec S16 32) : Prop :=
  (∀ a x, ((![v497] : Fin 1 → IVec S16 32) a x).toNat < S4096.size a)
theorem k0_idx108_inb : ∀ (v497 : IVec S16 32) (k0_hw108 : k0_chk108 v497), ∀ a x, ((![v497] : Fin 1 → IVec S16 32) a x).toNat < S4096.size a := fun v497 k0_hw108 => k0_hw108
def k0_off167 (k0_t32 : Fin k0_t32_loop.trips) : Fin 2 → Nat :=
  let c0_i32_572 : BitVec 32 := 0#32
  let c0_i32_314 : BitVec 32 := 0#32
  let c1_i32_316 : BitVec 32 := 1#32
  let arg17 : BitVec 32 := Scf.iv c0_i32_314 c1_i32_316 k0_t32
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off168 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c160_i32_318 : BitVec 32 := 160#32
  let c0_i32_319 : BitVec 32 := 0#32
  ![v9.toNat, 160, 0]
@[reducible] def k0_t33_loop : Scf.Loop 32 :=
  let c0_i32_326 : BitVec 32 := 0#32
  let c128_i32_327 : BitVec 32 := 128#32
  let v261 : BitVec 32 := Scalar.addi c0_i32_326 c128_i32_327
  let c1_i32_328 : BitVec 32 := 1#32
  ⟨c0_i32_326, v261, c1_i32_328⟩
def k0_off169 (k0_t33 : Fin k0_t33_loop.trips) : Fin 1 → Nat :=
  let c22528_i32 : BitVec 32 := 22528#32
  let c0_i32_572 : BitVec 32 := 0#32
  let c0_i32_326 : BitVec 32 := 0#32
  let c1_i32_328 : BitVec 32 := 1#32
  let arg17 : BitVec 32 := Scf.iv c0_i32_326 c1_i32_328 k0_t33
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c22528_i32 v459
  let v461 : Index := Scalar.indexCast v460
  ![v461.toNat]

def k0_chk109 (v479 : IVec S16 32) : Prop :=
  (∀ a x, ((![v479] : Fin 1 → IVec S16 32) a x).toNat < S4096.size a)
theorem k0_idx109_inb : ∀ (v479 : IVec S16 32) (k0_hw109 : k0_chk109 v479), ∀ a x, ((![v479] : Fin 1 → IVec S16 32) a x).toNat < S4096.size a := fun v479 k0_hw109 => k0_hw109
def k0_off170 (k0_t33 : Fin k0_t33_loop.trips) : Fin 2 → Nat :=
  let c0_i32_572 : BitVec 32 := 0#32
  let c0_i32_326 : BitVec 32 := 0#32
  let c1_i32_328 : BitVec 32 := 1#32
  let arg17 : BitVec 32 := Scf.iv c0_i32_326 c1_i32_328 k0_t33
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk110 (v485 : IVec S16 32) : Prop :=
  (∀ a x, ((![v485] : Fin 1 → IVec S16 32) a x).toNat < S4096.size a)
theorem k0_idx110_inb : ∀ (v485 : IVec S16 32) (k0_hw110 : k0_chk110 v485), ∀ a x, ((![v485] : Fin 1 → IVec S16 32) a x).toNat < S4096.size a := fun v485 k0_hw110 => k0_hw110
def k0_off171 (k0_t33 : Fin k0_t33_loop.trips) : Fin 2 → Nat :=
  let c0_i32_572 : BitVec 32 := 0#32
  let c0_i32_326 : BitVec 32 := 0#32
  let c1_i32_328 : BitVec 32 := 1#32
  let arg17 : BitVec 32 := Scf.iv c0_i32_326 c1_i32_328 k0_t33
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk111 (v491 : IVec S16 32) : Prop :=
  (∀ a x, ((![v491] : Fin 1 → IVec S16 32) a x).toNat < S4096.size a)
theorem k0_idx111_inb : ∀ (v491 : IVec S16 32) (k0_hw111 : k0_chk111 v491), ∀ a x, ((![v491] : Fin 1 → IVec S16 32) a x).toNat < S4096.size a := fun v491 k0_hw111 => k0_hw111
def k0_off172 (k0_t33 : Fin k0_t33_loop.trips) : Fin 2 → Nat :=
  let c0_i32_572 : BitVec 32 := 0#32
  let c0_i32_326 : BitVec 32 := 0#32
  let c1_i32_328 : BitVec 32 := 1#32
  let arg17 : BitVec 32 := Scf.iv c0_i32_326 c1_i32_328 k0_t33
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk112 (v497 : IVec S16 32) : Prop :=
  (∀ a x, ((![v497] : Fin 1 → IVec S16 32) a x).toNat < S4096.size a)
theorem k0_idx112_inb : ∀ (v497 : IVec S16 32) (k0_hw112 : k0_chk112 v497), ∀ a x, ((![v497] : Fin 1 → IVec S16 32) a x).toNat < S4096.size a := fun v497 k0_hw112 => k0_hw112
def k0_off173 (k0_t33 : Fin k0_t33_loop.trips) : Fin 2 → Nat :=
  let c0_i32_572 : BitVec 32 := 0#32
  let c0_i32_326 : BitVec 32 := 0#32
  let c1_i32_328 : BitVec 32 := 1#32
  let arg17 : BitVec 32 := Scf.iv c0_i32_326 c1_i32_328 k0_t33
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off174 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c176_i32 : BitVec 32 := 176#32
  let c0_i32_330 : BitVec 32 := 0#32
  ![v9.toNat, 176, 0]
@[reducible] def k0_t34_loop : Scf.Loop 32 :=
  let c0_i32_337 : BitVec 32 := 0#32
  let c128_i32_338 : BitVec 32 := 128#32
  let v270 : BitVec 32 := Scalar.addi c0_i32_337 c128_i32_338
  let c1_i32_339 : BitVec 32 := 1#32
  ⟨c0_i32_337, v270, c1_i32_339⟩
def k0_off175 (k0_t34 : Fin k0_t34_loop.trips) : Fin 1 → Nat :=
  let c24576_i32 : BitVec 32 := 24576#32
  let c0_i32_572 : BitVec 32 := 0#32
  let c0_i32_337 : BitVec 32 := 0#32
  let c1_i32_339 : BitVec 32 := 1#32
  let arg17 : BitVec 32 := Scf.iv c0_i32_337 c1_i32_339 k0_t34
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c24576_i32 v459
  let v461 : Index := Scalar.indexCast v460
  ![v461.toNat]

def k0_chk113 (v479 : IVec S16 32) : Prop :=
  (∀ a x, ((![v479] : Fin 1 → IVec S16 32) a x).toNat < S4096.size a)
theorem k0_idx113_inb : ∀ (v479 : IVec S16 32) (k0_hw113 : k0_chk113 v479), ∀ a x, ((![v479] : Fin 1 → IVec S16 32) a x).toNat < S4096.size a := fun v479 k0_hw113 => k0_hw113
def k0_off176 (k0_t34 : Fin k0_t34_loop.trips) : Fin 2 → Nat :=
  let c0_i32_572 : BitVec 32 := 0#32
  let c0_i32_337 : BitVec 32 := 0#32
  let c1_i32_339 : BitVec 32 := 1#32
  let arg17 : BitVec 32 := Scf.iv c0_i32_337 c1_i32_339 k0_t34
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk114 (v485 : IVec S16 32) : Prop :=
  (∀ a x, ((![v485] : Fin 1 → IVec S16 32) a x).toNat < S4096.size a)
theorem k0_idx114_inb : ∀ (v485 : IVec S16 32) (k0_hw114 : k0_chk114 v485), ∀ a x, ((![v485] : Fin 1 → IVec S16 32) a x).toNat < S4096.size a := fun v485 k0_hw114 => k0_hw114
def k0_off177 (k0_t34 : Fin k0_t34_loop.trips) : Fin 2 → Nat :=
  let c0_i32_572 : BitVec 32 := 0#32
  let c0_i32_337 : BitVec 32 := 0#32
  let c1_i32_339 : BitVec 32 := 1#32
  let arg17 : BitVec 32 := Scf.iv c0_i32_337 c1_i32_339 k0_t34
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk115 (v491 : IVec S16 32) : Prop :=
  (∀ a x, ((![v491] : Fin 1 → IVec S16 32) a x).toNat < S4096.size a)
theorem k0_idx115_inb : ∀ (v491 : IVec S16 32) (k0_hw115 : k0_chk115 v491), ∀ a x, ((![v491] : Fin 1 → IVec S16 32) a x).toNat < S4096.size a := fun v491 k0_hw115 => k0_hw115
def k0_off178 (k0_t34 : Fin k0_t34_loop.trips) : Fin 2 → Nat :=
  let c0_i32_572 : BitVec 32 := 0#32
  let c0_i32_337 : BitVec 32 := 0#32
  let c1_i32_339 : BitVec 32 := 1#32
  let arg17 : BitVec 32 := Scf.iv c0_i32_337 c1_i32_339 k0_t34
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk116 (v497 : IVec S16 32) : Prop :=
  (∀ a x, ((![v497] : Fin 1 → IVec S16 32) a x).toNat < S4096.size a)
theorem k0_idx116_inb : ∀ (v497 : IVec S16 32) (k0_hw116 : k0_chk116 v497), ∀ a x, ((![v497] : Fin 1 → IVec S16 32) a x).toNat < S4096.size a := fun v497 k0_hw116 => k0_hw116
def k0_off179 (k0_t34 : Fin k0_t34_loop.trips) : Fin 2 → Nat :=
  let c0_i32_572 : BitVec 32 := 0#32
  let c0_i32_337 : BitVec 32 := 0#32
  let c1_i32_339 : BitVec 32 := 1#32
  let arg17 : BitVec 32 := Scf.iv c0_i32_337 c1_i32_339 k0_t34
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off180 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c192_i32_341 : BitVec 32 := 192#32
  let c0_i32_342 : BitVec 32 := 0#32
  ![v9.toNat, 192, 0]
@[reducible] def k0_t35_loop : Scf.Loop 32 :=
  let c0_i32_349 : BitVec 32 := 0#32
  let c128_i32_350 : BitVec 32 := 128#32
  let v279 : BitVec 32 := Scalar.addi c0_i32_349 c128_i32_350
  let c1_i32_351 : BitVec 32 := 1#32
  ⟨c0_i32_349, v279, c1_i32_351⟩
def k0_off181 (k0_t35 : Fin k0_t35_loop.trips) : Fin 1 → Nat :=
  let c26624_i32 : BitVec 32 := 26624#32
  let c0_i32_572 : BitVec 32 := 0#32
  let c0_i32_349 : BitVec 32 := 0#32
  let c1_i32_351 : BitVec 32 := 1#32
  let arg17 : BitVec 32 := Scf.iv c0_i32_349 c1_i32_351 k0_t35
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c26624_i32 v459
  let v461 : Index := Scalar.indexCast v460
  ![v461.toNat]

def k0_chk117 (v479 : IVec S16 32) : Prop :=
  (∀ a x, ((![v479] : Fin 1 → IVec S16 32) a x).toNat < S4096.size a)
theorem k0_idx117_inb : ∀ (v479 : IVec S16 32) (k0_hw117 : k0_chk117 v479), ∀ a x, ((![v479] : Fin 1 → IVec S16 32) a x).toNat < S4096.size a := fun v479 k0_hw117 => k0_hw117
def k0_off182 (k0_t35 : Fin k0_t35_loop.trips) : Fin 2 → Nat :=
  let c0_i32_572 : BitVec 32 := 0#32
  let c0_i32_349 : BitVec 32 := 0#32
  let c1_i32_351 : BitVec 32 := 1#32
  let arg17 : BitVec 32 := Scf.iv c0_i32_349 c1_i32_351 k0_t35
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk118 (v485 : IVec S16 32) : Prop :=
  (∀ a x, ((![v485] : Fin 1 → IVec S16 32) a x).toNat < S4096.size a)
theorem k0_idx118_inb : ∀ (v485 : IVec S16 32) (k0_hw118 : k0_chk118 v485), ∀ a x, ((![v485] : Fin 1 → IVec S16 32) a x).toNat < S4096.size a := fun v485 k0_hw118 => k0_hw118
def k0_off183 (k0_t35 : Fin k0_t35_loop.trips) : Fin 2 → Nat :=
  let c0_i32_572 : BitVec 32 := 0#32
  let c0_i32_349 : BitVec 32 := 0#32
  let c1_i32_351 : BitVec 32 := 1#32
  let arg17 : BitVec 32 := Scf.iv c0_i32_349 c1_i32_351 k0_t35
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk119 (v491 : IVec S16 32) : Prop :=
  (∀ a x, ((![v491] : Fin 1 → IVec S16 32) a x).toNat < S4096.size a)
theorem k0_idx119_inb : ∀ (v491 : IVec S16 32) (k0_hw119 : k0_chk119 v491), ∀ a x, ((![v491] : Fin 1 → IVec S16 32) a x).toNat < S4096.size a := fun v491 k0_hw119 => k0_hw119
def k0_off184 (k0_t35 : Fin k0_t35_loop.trips) : Fin 2 → Nat :=
  let c0_i32_572 : BitVec 32 := 0#32
  let c0_i32_349 : BitVec 32 := 0#32
  let c1_i32_351 : BitVec 32 := 1#32
  let arg17 : BitVec 32 := Scf.iv c0_i32_349 c1_i32_351 k0_t35
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk120 (v497 : IVec S16 32) : Prop :=
  (∀ a x, ((![v497] : Fin 1 → IVec S16 32) a x).toNat < S4096.size a)
theorem k0_idx120_inb : ∀ (v497 : IVec S16 32) (k0_hw120 : k0_chk120 v497), ∀ a x, ((![v497] : Fin 1 → IVec S16 32) a x).toNat < S4096.size a := fun v497 k0_hw120 => k0_hw120
def k0_off185 (k0_t35 : Fin k0_t35_loop.trips) : Fin 2 → Nat :=
  let c0_i32_572 : BitVec 32 := 0#32
  let c0_i32_349 : BitVec 32 := 0#32
  let c1_i32_351 : BitVec 32 := 1#32
  let arg17 : BitVec 32 := Scf.iv c0_i32_349 c1_i32_351 k0_t35
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off186 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c208_i32 : BitVec 32 := 208#32
  let c0_i32_353 : BitVec 32 := 0#32
  ![v9.toNat, 208, 0]
@[reducible] def k0_t36_loop : Scf.Loop 32 :=
  let c0_i32_360 : BitVec 32 := 0#32
  let c128_i32_361 : BitVec 32 := 128#32
  let v288 : BitVec 32 := Scalar.addi c0_i32_360 c128_i32_361
  let c1_i32_362 : BitVec 32 := 1#32
  ⟨c0_i32_360, v288, c1_i32_362⟩
def k0_off187 (k0_t36 : Fin k0_t36_loop.trips) : Fin 1 → Nat :=
  let c28672_i32 : BitVec 32 := 28672#32
  let c0_i32_572 : BitVec 32 := 0#32
  let c0_i32_360 : BitVec 32 := 0#32
  let c1_i32_362 : BitVec 32 := 1#32
  let arg17 : BitVec 32 := Scf.iv c0_i32_360 c1_i32_362 k0_t36
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c28672_i32 v459
  let v461 : Index := Scalar.indexCast v460
  ![v461.toNat]

def k0_chk121 (v479 : IVec S16 32) : Prop :=
  (∀ a x, ((![v479] : Fin 1 → IVec S16 32) a x).toNat < S4096.size a)
theorem k0_idx121_inb : ∀ (v479 : IVec S16 32) (k0_hw121 : k0_chk121 v479), ∀ a x, ((![v479] : Fin 1 → IVec S16 32) a x).toNat < S4096.size a := fun v479 k0_hw121 => k0_hw121
def k0_off188 (k0_t36 : Fin k0_t36_loop.trips) : Fin 2 → Nat :=
  let c0_i32_572 : BitVec 32 := 0#32
  let c0_i32_360 : BitVec 32 := 0#32
  let c1_i32_362 : BitVec 32 := 1#32
  let arg17 : BitVec 32 := Scf.iv c0_i32_360 c1_i32_362 k0_t36
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk122 (v485 : IVec S16 32) : Prop :=
  (∀ a x, ((![v485] : Fin 1 → IVec S16 32) a x).toNat < S4096.size a)
theorem k0_idx122_inb : ∀ (v485 : IVec S16 32) (k0_hw122 : k0_chk122 v485), ∀ a x, ((![v485] : Fin 1 → IVec S16 32) a x).toNat < S4096.size a := fun v485 k0_hw122 => k0_hw122
def k0_off189 (k0_t36 : Fin k0_t36_loop.trips) : Fin 2 → Nat :=
  let c0_i32_572 : BitVec 32 := 0#32
  let c0_i32_360 : BitVec 32 := 0#32
  let c1_i32_362 : BitVec 32 := 1#32
  let arg17 : BitVec 32 := Scf.iv c0_i32_360 c1_i32_362 k0_t36
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk123 (v491 : IVec S16 32) : Prop :=
  (∀ a x, ((![v491] : Fin 1 → IVec S16 32) a x).toNat < S4096.size a)
theorem k0_idx123_inb : ∀ (v491 : IVec S16 32) (k0_hw123 : k0_chk123 v491), ∀ a x, ((![v491] : Fin 1 → IVec S16 32) a x).toNat < S4096.size a := fun v491 k0_hw123 => k0_hw123
def k0_off190 (k0_t36 : Fin k0_t36_loop.trips) : Fin 2 → Nat :=
  let c0_i32_572 : BitVec 32 := 0#32
  let c0_i32_360 : BitVec 32 := 0#32
  let c1_i32_362 : BitVec 32 := 1#32
  let arg17 : BitVec 32 := Scf.iv c0_i32_360 c1_i32_362 k0_t36
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk124 (v497 : IVec S16 32) : Prop :=
  (∀ a x, ((![v497] : Fin 1 → IVec S16 32) a x).toNat < S4096.size a)
theorem k0_idx124_inb : ∀ (v497 : IVec S16 32) (k0_hw124 : k0_chk124 v497), ∀ a x, ((![v497] : Fin 1 → IVec S16 32) a x).toNat < S4096.size a := fun v497 k0_hw124 => k0_hw124
def k0_off191 (k0_t36 : Fin k0_t36_loop.trips) : Fin 2 → Nat :=
  let c0_i32_572 : BitVec 32 := 0#32
  let c0_i32_360 : BitVec 32 := 0#32
  let c1_i32_362 : BitVec 32 := 1#32
  let arg17 : BitVec 32 := Scf.iv c0_i32_360 c1_i32_362 k0_t36
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off192 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c224_i32_364 : BitVec 32 := 224#32
  let c0_i32_365 : BitVec 32 := 0#32
  ![v9.toNat, 224, 0]
@[reducible] def k0_t37_loop : Scf.Loop 32 :=
  let c0_i32_372 : BitVec 32 := 0#32
  let c128_i32_373 : BitVec 32 := 128#32
  let v297 : BitVec 32 := Scalar.addi c0_i32_372 c128_i32_373
  let c1_i32_374 : BitVec 32 := 1#32
  ⟨c0_i32_372, v297, c1_i32_374⟩
def k0_off193 (k0_t37 : Fin k0_t37_loop.trips) : Fin 1 → Nat :=
  let c30720_i32 : BitVec 32 := 30720#32
  let c0_i32_572 : BitVec 32 := 0#32
  let c0_i32_372 : BitVec 32 := 0#32
  let c1_i32_374 : BitVec 32 := 1#32
  let arg17 : BitVec 32 := Scf.iv c0_i32_372 c1_i32_374 k0_t37
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c30720_i32 v459
  let v461 : Index := Scalar.indexCast v460
  ![v461.toNat]

def k0_chk125 (v479 : IVec S16 32) : Prop :=
  (∀ a x, ((![v479] : Fin 1 → IVec S16 32) a x).toNat < S4096.size a)
theorem k0_idx125_inb : ∀ (v479 : IVec S16 32) (k0_hw125 : k0_chk125 v479), ∀ a x, ((![v479] : Fin 1 → IVec S16 32) a x).toNat < S4096.size a := fun v479 k0_hw125 => k0_hw125
def k0_off194 (k0_t37 : Fin k0_t37_loop.trips) : Fin 2 → Nat :=
  let c0_i32_572 : BitVec 32 := 0#32
  let c0_i32_372 : BitVec 32 := 0#32
  let c1_i32_374 : BitVec 32 := 1#32
  let arg17 : BitVec 32 := Scf.iv c0_i32_372 c1_i32_374 k0_t37
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk126 (v485 : IVec S16 32) : Prop :=
  (∀ a x, ((![v485] : Fin 1 → IVec S16 32) a x).toNat < S4096.size a)
theorem k0_idx126_inb : ∀ (v485 : IVec S16 32) (k0_hw126 : k0_chk126 v485), ∀ a x, ((![v485] : Fin 1 → IVec S16 32) a x).toNat < S4096.size a := fun v485 k0_hw126 => k0_hw126
def k0_off195 (k0_t37 : Fin k0_t37_loop.trips) : Fin 2 → Nat :=
  let c0_i32_572 : BitVec 32 := 0#32
  let c0_i32_372 : BitVec 32 := 0#32
  let c1_i32_374 : BitVec 32 := 1#32
  let arg17 : BitVec 32 := Scf.iv c0_i32_372 c1_i32_374 k0_t37
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk127 (v491 : IVec S16 32) : Prop :=
  (∀ a x, ((![v491] : Fin 1 → IVec S16 32) a x).toNat < S4096.size a)
theorem k0_idx127_inb : ∀ (v491 : IVec S16 32) (k0_hw127 : k0_chk127 v491), ∀ a x, ((![v491] : Fin 1 → IVec S16 32) a x).toNat < S4096.size a := fun v491 k0_hw127 => k0_hw127
def k0_off196 (k0_t37 : Fin k0_t37_loop.trips) : Fin 2 → Nat :=
  let c0_i32_572 : BitVec 32 := 0#32
  let c0_i32_372 : BitVec 32 := 0#32
  let c1_i32_374 : BitVec 32 := 1#32
  let arg17 : BitVec 32 := Scf.iv c0_i32_372 c1_i32_374 k0_t37
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk128 (v497 : IVec S16 32) : Prop :=
  (∀ a x, ((![v497] : Fin 1 → IVec S16 32) a x).toNat < S4096.size a)
theorem k0_idx128_inb : ∀ (v497 : IVec S16 32) (k0_hw128 : k0_chk128 v497), ∀ a x, ((![v497] : Fin 1 → IVec S16 32) a x).toNat < S4096.size a := fun v497 k0_hw128 => k0_hw128
def k0_off197 (k0_t37 : Fin k0_t37_loop.trips) : Fin 2 → Nat :=
  let c0_i32_572 : BitVec 32 := 0#32
  let c0_i32_372 : BitVec 32 := 0#32
  let c1_i32_374 : BitVec 32 := 1#32
  let arg17 : BitVec 32 := Scf.iv c0_i32_372 c1_i32_374 k0_t37
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off198 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c240_i32 : BitVec 32 := 240#32
  let c0_i32_376 : BitVec 32 := 0#32
  ![v9.toNat, 240, 0]
@[reducible] def k0_t38_loop : Scf.Loop 32 :=
  let c0_i32_383 : BitVec 32 := 0#32
  let c128_i32_384 : BitVec 32 := 128#32
  let v306 : BitVec 32 := Scalar.addi c0_i32_383 c128_i32_384
  let c1_i32_385 : BitVec 32 := 1#32
  ⟨c0_i32_383, v306, c1_i32_385⟩
def k0_off199 (k0_t38 : Fin k0_t38_loop.trips) : Fin 1 → Nat :=
  let c32768_i32 : BitVec 32 := 32768#32
  let c0_i32_572 : BitVec 32 := 0#32
  let c0_i32_383 : BitVec 32 := 0#32
  let c1_i32_385 : BitVec 32 := 1#32
  let arg17 : BitVec 32 := Scf.iv c0_i32_383 c1_i32_385 k0_t38
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c32768_i32 v459
  let v461 : Index := Scalar.indexCast v460
  ![v461.toNat]

def k0_chk129 (v479 : IVec S16 32) : Prop :=
  (∀ a x, ((![v479] : Fin 1 → IVec S16 32) a x).toNat < S4096.size a)
theorem k0_idx129_inb : ∀ (v479 : IVec S16 32) (k0_hw129 : k0_chk129 v479), ∀ a x, ((![v479] : Fin 1 → IVec S16 32) a x).toNat < S4096.size a := fun v479 k0_hw129 => k0_hw129
def k0_off200 (k0_t38 : Fin k0_t38_loop.trips) : Fin 2 → Nat :=
  let c0_i32_572 : BitVec 32 := 0#32
  let c0_i32_383 : BitVec 32 := 0#32
  let c1_i32_385 : BitVec 32 := 1#32
  let arg17 : BitVec 32 := Scf.iv c0_i32_383 c1_i32_385 k0_t38
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk130 (v485 : IVec S16 32) : Prop :=
  (∀ a x, ((![v485] : Fin 1 → IVec S16 32) a x).toNat < S4096.size a)
theorem k0_idx130_inb : ∀ (v485 : IVec S16 32) (k0_hw130 : k0_chk130 v485), ∀ a x, ((![v485] : Fin 1 → IVec S16 32) a x).toNat < S4096.size a := fun v485 k0_hw130 => k0_hw130
def k0_off201 (k0_t38 : Fin k0_t38_loop.trips) : Fin 2 → Nat :=
  let c0_i32_572 : BitVec 32 := 0#32
  let c0_i32_383 : BitVec 32 := 0#32
  let c1_i32_385 : BitVec 32 := 1#32
  let arg17 : BitVec 32 := Scf.iv c0_i32_383 c1_i32_385 k0_t38
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk131 (v491 : IVec S16 32) : Prop :=
  (∀ a x, ((![v491] : Fin 1 → IVec S16 32) a x).toNat < S4096.size a)
theorem k0_idx131_inb : ∀ (v491 : IVec S16 32) (k0_hw131 : k0_chk131 v491), ∀ a x, ((![v491] : Fin 1 → IVec S16 32) a x).toNat < S4096.size a := fun v491 k0_hw131 => k0_hw131
def k0_off202 (k0_t38 : Fin k0_t38_loop.trips) : Fin 2 → Nat :=
  let c0_i32_572 : BitVec 32 := 0#32
  let c0_i32_383 : BitVec 32 := 0#32
  let c1_i32_385 : BitVec 32 := 1#32
  let arg17 : BitVec 32 := Scf.iv c0_i32_383 c1_i32_385 k0_t38
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk132 (v497 : IVec S16 32) : Prop :=
  (∀ a x, ((![v497] : Fin 1 → IVec S16 32) a x).toNat < S4096.size a)
theorem k0_idx132_inb : ∀ (v497 : IVec S16 32) (k0_hw132 : k0_chk132 v497), ∀ a x, ((![v497] : Fin 1 → IVec S16 32) a x).toNat < S4096.size a := fun v497 k0_hw132 => k0_hw132
def k0_off203 (k0_t38 : Fin k0_t38_loop.trips) : Fin 2 → Nat :=
  let c0_i32_572 : BitVec 32 := 0#32
  let c0_i32_383 : BitVec 32 := 0#32
  let c1_i32_385 : BitVec 32 := 1#32
  let arg17 : BitVec 32 := Scf.iv c0_i32_383 c1_i32_385 k0_t38
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off204 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c256_i32_387 : BitVec 32 := 256#32
  let c0_i32_388 : BitVec 32 := 0#32
  ![v9.toNat, 256, 0]
@[reducible] def k0_t39_loop : Scf.Loop 32 :=
  let c0_i32_395 : BitVec 32 := 0#32
  let c128_i32_396 : BitVec 32 := 128#32
  let v315 : BitVec 32 := Scalar.addi c0_i32_395 c128_i32_396
  let c1_i32_397 : BitVec 32 := 1#32
  ⟨c0_i32_395, v315, c1_i32_397⟩
def k0_off205 (k0_t39 : Fin k0_t39_loop.trips) : Fin 1 → Nat :=
  let c34816_i32 : BitVec 32 := 34816#32
  let c0_i32_572 : BitVec 32 := 0#32
  let c0_i32_395 : BitVec 32 := 0#32
  let c1_i32_397 : BitVec 32 := 1#32
  let arg17 : BitVec 32 := Scf.iv c0_i32_395 c1_i32_397 k0_t39
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c34816_i32 v459
  let v461 : Index := Scalar.indexCast v460
  ![v461.toNat]

def k0_chk133 (v479 : IVec S16 32) : Prop :=
  (∀ a x, ((![v479] : Fin 1 → IVec S16 32) a x).toNat < S4096.size a)
theorem k0_idx133_inb : ∀ (v479 : IVec S16 32) (k0_hw133 : k0_chk133 v479), ∀ a x, ((![v479] : Fin 1 → IVec S16 32) a x).toNat < S4096.size a := fun v479 k0_hw133 => k0_hw133
def k0_off206 (k0_t39 : Fin k0_t39_loop.trips) : Fin 2 → Nat :=
  let c0_i32_572 : BitVec 32 := 0#32
  let c0_i32_395 : BitVec 32 := 0#32
  let c1_i32_397 : BitVec 32 := 1#32
  let arg17 : BitVec 32 := Scf.iv c0_i32_395 c1_i32_397 k0_t39
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk134 (v485 : IVec S16 32) : Prop :=
  (∀ a x, ((![v485] : Fin 1 → IVec S16 32) a x).toNat < S4096.size a)
theorem k0_idx134_inb : ∀ (v485 : IVec S16 32) (k0_hw134 : k0_chk134 v485), ∀ a x, ((![v485] : Fin 1 → IVec S16 32) a x).toNat < S4096.size a := fun v485 k0_hw134 => k0_hw134
def k0_off207 (k0_t39 : Fin k0_t39_loop.trips) : Fin 2 → Nat :=
  let c0_i32_572 : BitVec 32 := 0#32
  let c0_i32_395 : BitVec 32 := 0#32
  let c1_i32_397 : BitVec 32 := 1#32
  let arg17 : BitVec 32 := Scf.iv c0_i32_395 c1_i32_397 k0_t39
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk135 (v491 : IVec S16 32) : Prop :=
  (∀ a x, ((![v491] : Fin 1 → IVec S16 32) a x).toNat < S4096.size a)
theorem k0_idx135_inb : ∀ (v491 : IVec S16 32) (k0_hw135 : k0_chk135 v491), ∀ a x, ((![v491] : Fin 1 → IVec S16 32) a x).toNat < S4096.size a := fun v491 k0_hw135 => k0_hw135
def k0_off208 (k0_t39 : Fin k0_t39_loop.trips) : Fin 2 → Nat :=
  let c0_i32_572 : BitVec 32 := 0#32
  let c0_i32_395 : BitVec 32 := 0#32
  let c1_i32_397 : BitVec 32 := 1#32
  let arg17 : BitVec 32 := Scf.iv c0_i32_395 c1_i32_397 k0_t39
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk136 (v497 : IVec S16 32) : Prop :=
  (∀ a x, ((![v497] : Fin 1 → IVec S16 32) a x).toNat < S4096.size a)
theorem k0_idx136_inb : ∀ (v497 : IVec S16 32) (k0_hw136 : k0_chk136 v497), ∀ a x, ((![v497] : Fin 1 → IVec S16 32) a x).toNat < S4096.size a := fun v497 k0_hw136 => k0_hw136
def k0_off209 (k0_t39 : Fin k0_t39_loop.trips) : Fin 2 → Nat :=
  let c0_i32_572 : BitVec 32 := 0#32
  let c0_i32_395 : BitVec 32 := 0#32
  let c1_i32_397 : BitVec 32 := 1#32
  let arg17 : BitVec 32 := Scf.iv c0_i32_395 c1_i32_397 k0_t39
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off210 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c272_i32 : BitVec 32 := 272#32
  let c0_i32_399 : BitVec 32 := 0#32
  ![v9.toNat, 272, 0]
@[reducible] def k0_t40_loop : Scf.Loop 32 :=
  let c0_i32_406 : BitVec 32 := 0#32
  let c128_i32_407 : BitVec 32 := 128#32
  let v324 : BitVec 32 := Scalar.addi c0_i32_406 c128_i32_407
  let c1_i32_408 : BitVec 32 := 1#32
  ⟨c0_i32_406, v324, c1_i32_408⟩
def k0_off211 (k0_t40 : Fin k0_t40_loop.trips) : Fin 1 → Nat :=
  let c36864_i32 : BitVec 32 := 36864#32
  let c0_i32_572 : BitVec 32 := 0#32
  let c0_i32_406 : BitVec 32 := 0#32
  let c1_i32_408 : BitVec 32 := 1#32
  let arg17 : BitVec 32 := Scf.iv c0_i32_406 c1_i32_408 k0_t40
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c36864_i32 v459
  let v461 : Index := Scalar.indexCast v460
  ![v461.toNat]

def k0_chk137 (v479 : IVec S16 32) : Prop :=
  (∀ a x, ((![v479] : Fin 1 → IVec S16 32) a x).toNat < S4096.size a)
theorem k0_idx137_inb : ∀ (v479 : IVec S16 32) (k0_hw137 : k0_chk137 v479), ∀ a x, ((![v479] : Fin 1 → IVec S16 32) a x).toNat < S4096.size a := fun v479 k0_hw137 => k0_hw137
def k0_off212 (k0_t40 : Fin k0_t40_loop.trips) : Fin 2 → Nat :=
  let c0_i32_572 : BitVec 32 := 0#32
  let c0_i32_406 : BitVec 32 := 0#32
  let c1_i32_408 : BitVec 32 := 1#32
  let arg17 : BitVec 32 := Scf.iv c0_i32_406 c1_i32_408 k0_t40
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk138 (v485 : IVec S16 32) : Prop :=
  (∀ a x, ((![v485] : Fin 1 → IVec S16 32) a x).toNat < S4096.size a)
theorem k0_idx138_inb : ∀ (v485 : IVec S16 32) (k0_hw138 : k0_chk138 v485), ∀ a x, ((![v485] : Fin 1 → IVec S16 32) a x).toNat < S4096.size a := fun v485 k0_hw138 => k0_hw138
def k0_off213 (k0_t40 : Fin k0_t40_loop.trips) : Fin 2 → Nat :=
  let c0_i32_572 : BitVec 32 := 0#32
  let c0_i32_406 : BitVec 32 := 0#32
  let c1_i32_408 : BitVec 32 := 1#32
  let arg17 : BitVec 32 := Scf.iv c0_i32_406 c1_i32_408 k0_t40
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk139 (v491 : IVec S16 32) : Prop :=
  (∀ a x, ((![v491] : Fin 1 → IVec S16 32) a x).toNat < S4096.size a)
theorem k0_idx139_inb : ∀ (v491 : IVec S16 32) (k0_hw139 : k0_chk139 v491), ∀ a x, ((![v491] : Fin 1 → IVec S16 32) a x).toNat < S4096.size a := fun v491 k0_hw139 => k0_hw139
def k0_off214 (k0_t40 : Fin k0_t40_loop.trips) : Fin 2 → Nat :=
  let c0_i32_572 : BitVec 32 := 0#32
  let c0_i32_406 : BitVec 32 := 0#32
  let c1_i32_408 : BitVec 32 := 1#32
  let arg17 : BitVec 32 := Scf.iv c0_i32_406 c1_i32_408 k0_t40
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk140 (v497 : IVec S16 32) : Prop :=
  (∀ a x, ((![v497] : Fin 1 → IVec S16 32) a x).toNat < S4096.size a)
theorem k0_idx140_inb : ∀ (v497 : IVec S16 32) (k0_hw140 : k0_chk140 v497), ∀ a x, ((![v497] : Fin 1 → IVec S16 32) a x).toNat < S4096.size a := fun v497 k0_hw140 => k0_hw140
def k0_off215 (k0_t40 : Fin k0_t40_loop.trips) : Fin 2 → Nat :=
  let c0_i32_572 : BitVec 32 := 0#32
  let c0_i32_406 : BitVec 32 := 0#32
  let c1_i32_408 : BitVec 32 := 1#32
  let arg17 : BitVec 32 := Scf.iv c0_i32_406 c1_i32_408 k0_t40
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off216 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c288_i32_410 : BitVec 32 := 288#32
  let c0_i32_411 : BitVec 32 := 0#32
  ![v9.toNat, 288, 0]
@[reducible] def k0_t41_loop : Scf.Loop 32 :=
  let c0_i32_418 : BitVec 32 := 0#32
  let c128_i32_419 : BitVec 32 := 128#32
  let v333 : BitVec 32 := Scalar.addi c0_i32_418 c128_i32_419
  let c1_i32_420 : BitVec 32 := 1#32
  ⟨c0_i32_418, v333, c1_i32_420⟩
def k0_off217 (k0_t41 : Fin k0_t41_loop.trips) : Fin 1 → Nat :=
  let c38912_i32 : BitVec 32 := 38912#32
  let c0_i32_572 : BitVec 32 := 0#32
  let c0_i32_418 : BitVec 32 := 0#32
  let c1_i32_420 : BitVec 32 := 1#32
  let arg17 : BitVec 32 := Scf.iv c0_i32_418 c1_i32_420 k0_t41
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c38912_i32 v459
  let v461 : Index := Scalar.indexCast v460
  ![v461.toNat]

def k0_chk141 (v479 : IVec S16 32) : Prop :=
  (∀ a x, ((![v479] : Fin 1 → IVec S16 32) a x).toNat < S4096.size a)
theorem k0_idx141_inb : ∀ (v479 : IVec S16 32) (k0_hw141 : k0_chk141 v479), ∀ a x, ((![v479] : Fin 1 → IVec S16 32) a x).toNat < S4096.size a := fun v479 k0_hw141 => k0_hw141
def k0_off218 (k0_t41 : Fin k0_t41_loop.trips) : Fin 2 → Nat :=
  let c0_i32_572 : BitVec 32 := 0#32
  let c0_i32_418 : BitVec 32 := 0#32
  let c1_i32_420 : BitVec 32 := 1#32
  let arg17 : BitVec 32 := Scf.iv c0_i32_418 c1_i32_420 k0_t41
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk142 (v485 : IVec S16 32) : Prop :=
  (∀ a x, ((![v485] : Fin 1 → IVec S16 32) a x).toNat < S4096.size a)
theorem k0_idx142_inb : ∀ (v485 : IVec S16 32) (k0_hw142 : k0_chk142 v485), ∀ a x, ((![v485] : Fin 1 → IVec S16 32) a x).toNat < S4096.size a := fun v485 k0_hw142 => k0_hw142
def k0_off219 (k0_t41 : Fin k0_t41_loop.trips) : Fin 2 → Nat :=
  let c0_i32_572 : BitVec 32 := 0#32
  let c0_i32_418 : BitVec 32 := 0#32
  let c1_i32_420 : BitVec 32 := 1#32
  let arg17 : BitVec 32 := Scf.iv c0_i32_418 c1_i32_420 k0_t41
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk143 (v491 : IVec S16 32) : Prop :=
  (∀ a x, ((![v491] : Fin 1 → IVec S16 32) a x).toNat < S4096.size a)
theorem k0_idx143_inb : ∀ (v491 : IVec S16 32) (k0_hw143 : k0_chk143 v491), ∀ a x, ((![v491] : Fin 1 → IVec S16 32) a x).toNat < S4096.size a := fun v491 k0_hw143 => k0_hw143
def k0_off220 (k0_t41 : Fin k0_t41_loop.trips) : Fin 2 → Nat :=
  let c0_i32_572 : BitVec 32 := 0#32
  let c0_i32_418 : BitVec 32 := 0#32
  let c1_i32_420 : BitVec 32 := 1#32
  let arg17 : BitVec 32 := Scf.iv c0_i32_418 c1_i32_420 k0_t41
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk144 (v497 : IVec S16 32) : Prop :=
  (∀ a x, ((![v497] : Fin 1 → IVec S16 32) a x).toNat < S4096.size a)
theorem k0_idx144_inb : ∀ (v497 : IVec S16 32) (k0_hw144 : k0_chk144 v497), ∀ a x, ((![v497] : Fin 1 → IVec S16 32) a x).toNat < S4096.size a := fun v497 k0_hw144 => k0_hw144
def k0_off221 (k0_t41 : Fin k0_t41_loop.trips) : Fin 2 → Nat :=
  let c0_i32_572 : BitVec 32 := 0#32
  let c0_i32_418 : BitVec 32 := 0#32
  let c1_i32_420 : BitVec 32 := 1#32
  let arg17 : BitVec 32 := Scf.iv c0_i32_418 c1_i32_420 k0_t41
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off222 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c304_i32 : BitVec 32 := 304#32
  let c0_i32_422 : BitVec 32 := 0#32
  ![v9.toNat, 304, 0]
@[reducible] def k0_t42_loop : Scf.Loop 32 :=
  let c0_i32_429 : BitVec 32 := 0#32
  let c128_i32_430 : BitVec 32 := 128#32
  let v342 : BitVec 32 := Scalar.addi c0_i32_429 c128_i32_430
  let c1_i32_431 : BitVec 32 := 1#32
  ⟨c0_i32_429, v342, c1_i32_431⟩
def k0_off223 (k0_t42 : Fin k0_t42_loop.trips) : Fin 1 → Nat :=
  let c40960_i32 : BitVec 32 := 40960#32
  let c0_i32_572 : BitVec 32 := 0#32
  let c0_i32_429 : BitVec 32 := 0#32
  let c1_i32_431 : BitVec 32 := 1#32
  let arg17 : BitVec 32 := Scf.iv c0_i32_429 c1_i32_431 k0_t42
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c40960_i32 v459
  let v461 : Index := Scalar.indexCast v460
  ![v461.toNat]

def k0_chk145 (v479 : IVec S16 32) : Prop :=
  (∀ a x, ((![v479] : Fin 1 → IVec S16 32) a x).toNat < S4096.size a)
theorem k0_idx145_inb : ∀ (v479 : IVec S16 32) (k0_hw145 : k0_chk145 v479), ∀ a x, ((![v479] : Fin 1 → IVec S16 32) a x).toNat < S4096.size a := fun v479 k0_hw145 => k0_hw145
def k0_off224 (k0_t42 : Fin k0_t42_loop.trips) : Fin 2 → Nat :=
  let c0_i32_572 : BitVec 32 := 0#32
  let c0_i32_429 : BitVec 32 := 0#32
  let c1_i32_431 : BitVec 32 := 1#32
  let arg17 : BitVec 32 := Scf.iv c0_i32_429 c1_i32_431 k0_t42
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk146 (v485 : IVec S16 32) : Prop :=
  (∀ a x, ((![v485] : Fin 1 → IVec S16 32) a x).toNat < S4096.size a)
theorem k0_idx146_inb : ∀ (v485 : IVec S16 32) (k0_hw146 : k0_chk146 v485), ∀ a x, ((![v485] : Fin 1 → IVec S16 32) a x).toNat < S4096.size a := fun v485 k0_hw146 => k0_hw146
def k0_off225 (k0_t42 : Fin k0_t42_loop.trips) : Fin 2 → Nat :=
  let c0_i32_572 : BitVec 32 := 0#32
  let c0_i32_429 : BitVec 32 := 0#32
  let c1_i32_431 : BitVec 32 := 1#32
  let arg17 : BitVec 32 := Scf.iv c0_i32_429 c1_i32_431 k0_t42
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk147 (v491 : IVec S16 32) : Prop :=
  (∀ a x, ((![v491] : Fin 1 → IVec S16 32) a x).toNat < S4096.size a)
theorem k0_idx147_inb : ∀ (v491 : IVec S16 32) (k0_hw147 : k0_chk147 v491), ∀ a x, ((![v491] : Fin 1 → IVec S16 32) a x).toNat < S4096.size a := fun v491 k0_hw147 => k0_hw147
def k0_off226 (k0_t42 : Fin k0_t42_loop.trips) : Fin 2 → Nat :=
  let c0_i32_572 : BitVec 32 := 0#32
  let c0_i32_429 : BitVec 32 := 0#32
  let c1_i32_431 : BitVec 32 := 1#32
  let arg17 : BitVec 32 := Scf.iv c0_i32_429 c1_i32_431 k0_t42
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk148 (v497 : IVec S16 32) : Prop :=
  (∀ a x, ((![v497] : Fin 1 → IVec S16 32) a x).toNat < S4096.size a)
theorem k0_idx148_inb : ∀ (v497 : IVec S16 32) (k0_hw148 : k0_chk148 v497), ∀ a x, ((![v497] : Fin 1 → IVec S16 32) a x).toNat < S4096.size a := fun v497 k0_hw148 => k0_hw148
def k0_off227 (k0_t42 : Fin k0_t42_loop.trips) : Fin 2 → Nat :=
  let c0_i32_572 : BitVec 32 := 0#32
  let c0_i32_429 : BitVec 32 := 0#32
  let c1_i32_431 : BitVec 32 := 1#32
  let arg17 : BitVec 32 := Scf.iv c0_i32_429 c1_i32_431 k0_t42
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off228 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c320_i32_433 : BitVec 32 := 320#32
  let c0_i32_434 : BitVec 32 := 0#32
  ![v9.toNat, 320, 0]
@[reducible] def k0_t43_loop : Scf.Loop 32 :=
  let c0_i32_441 : BitVec 32 := 0#32
  let c128_i32_442 : BitVec 32 := 128#32
  let v351 : BitVec 32 := Scalar.addi c0_i32_441 c128_i32_442
  let c1_i32_443 : BitVec 32 := 1#32
  ⟨c0_i32_441, v351, c1_i32_443⟩
def k0_off229 (k0_t43 : Fin k0_t43_loop.trips) : Fin 1 → Nat :=
  let c43008_i32 : BitVec 32 := 43008#32
  let c0_i32_572 : BitVec 32 := 0#32
  let c0_i32_441 : BitVec 32 := 0#32
  let c1_i32_443 : BitVec 32 := 1#32
  let arg17 : BitVec 32 := Scf.iv c0_i32_441 c1_i32_443 k0_t43
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c43008_i32 v459
  let v461 : Index := Scalar.indexCast v460
  ![v461.toNat]

def k0_chk149 (v479 : IVec S16 32) : Prop :=
  (∀ a x, ((![v479] : Fin 1 → IVec S16 32) a x).toNat < S4096.size a)
theorem k0_idx149_inb : ∀ (v479 : IVec S16 32) (k0_hw149 : k0_chk149 v479), ∀ a x, ((![v479] : Fin 1 → IVec S16 32) a x).toNat < S4096.size a := fun v479 k0_hw149 => k0_hw149
def k0_off230 (k0_t43 : Fin k0_t43_loop.trips) : Fin 2 → Nat :=
  let c0_i32_572 : BitVec 32 := 0#32
  let c0_i32_441 : BitVec 32 := 0#32
  let c1_i32_443 : BitVec 32 := 1#32
  let arg17 : BitVec 32 := Scf.iv c0_i32_441 c1_i32_443 k0_t43
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk150 (v485 : IVec S16 32) : Prop :=
  (∀ a x, ((![v485] : Fin 1 → IVec S16 32) a x).toNat < S4096.size a)
theorem k0_idx150_inb : ∀ (v485 : IVec S16 32) (k0_hw150 : k0_chk150 v485), ∀ a x, ((![v485] : Fin 1 → IVec S16 32) a x).toNat < S4096.size a := fun v485 k0_hw150 => k0_hw150
def k0_off231 (k0_t43 : Fin k0_t43_loop.trips) : Fin 2 → Nat :=
  let c0_i32_572 : BitVec 32 := 0#32
  let c0_i32_441 : BitVec 32 := 0#32
  let c1_i32_443 : BitVec 32 := 1#32
  let arg17 : BitVec 32 := Scf.iv c0_i32_441 c1_i32_443 k0_t43
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk151 (v491 : IVec S16 32) : Prop :=
  (∀ a x, ((![v491] : Fin 1 → IVec S16 32) a x).toNat < S4096.size a)
theorem k0_idx151_inb : ∀ (v491 : IVec S16 32) (k0_hw151 : k0_chk151 v491), ∀ a x, ((![v491] : Fin 1 → IVec S16 32) a x).toNat < S4096.size a := fun v491 k0_hw151 => k0_hw151
def k0_off232 (k0_t43 : Fin k0_t43_loop.trips) : Fin 2 → Nat :=
  let c0_i32_572 : BitVec 32 := 0#32
  let c0_i32_441 : BitVec 32 := 0#32
  let c1_i32_443 : BitVec 32 := 1#32
  let arg17 : BitVec 32 := Scf.iv c0_i32_441 c1_i32_443 k0_t43
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk152 (v497 : IVec S16 32) : Prop :=
  (∀ a x, ((![v497] : Fin 1 → IVec S16 32) a x).toNat < S4096.size a)
theorem k0_idx152_inb : ∀ (v497 : IVec S16 32) (k0_hw152 : k0_chk152 v497), ∀ a x, ((![v497] : Fin 1 → IVec S16 32) a x).toNat < S4096.size a := fun v497 k0_hw152 => k0_hw152
def k0_off233 (k0_t43 : Fin k0_t43_loop.trips) : Fin 2 → Nat :=
  let c0_i32_572 : BitVec 32 := 0#32
  let c0_i32_441 : BitVec 32 := 0#32
  let c1_i32_443 : BitVec 32 := 1#32
  let arg17 : BitVec 32 := Scf.iv c0_i32_441 c1_i32_443 k0_t43
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off234 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c336_i32 : BitVec 32 := 336#32
  let c0_i32_445 : BitVec 32 := 0#32
  ![v9.toNat, 336, 0]
@[reducible] def k0_t44_loop : Scf.Loop 32 :=
  let c0_i32_452 : BitVec 32 := 0#32
  let c128_i32_453 : BitVec 32 := 128#32
  let v360 : BitVec 32 := Scalar.addi c0_i32_452 c128_i32_453
  let c1_i32_454 : BitVec 32 := 1#32
  ⟨c0_i32_452, v360, c1_i32_454⟩
def k0_off235 (k0_t44 : Fin k0_t44_loop.trips) : Fin 1 → Nat :=
  let c45056_i32 : BitVec 32 := 45056#32
  let c0_i32_572 : BitVec 32 := 0#32
  let c0_i32_452 : BitVec 32 := 0#32
  let c1_i32_454 : BitVec 32 := 1#32
  let arg17 : BitVec 32 := Scf.iv c0_i32_452 c1_i32_454 k0_t44
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c45056_i32 v459
  let v461 : Index := Scalar.indexCast v460
  ![v461.toNat]

def k0_chk153 (v479 : IVec S16 32) : Prop :=
  (∀ a x, ((![v479] : Fin 1 → IVec S16 32) a x).toNat < S4096.size a)
theorem k0_idx153_inb : ∀ (v479 : IVec S16 32) (k0_hw153 : k0_chk153 v479), ∀ a x, ((![v479] : Fin 1 → IVec S16 32) a x).toNat < S4096.size a := fun v479 k0_hw153 => k0_hw153
def k0_off236 (k0_t44 : Fin k0_t44_loop.trips) : Fin 2 → Nat :=
  let c0_i32_572 : BitVec 32 := 0#32
  let c0_i32_452 : BitVec 32 := 0#32
  let c1_i32_454 : BitVec 32 := 1#32
  let arg17 : BitVec 32 := Scf.iv c0_i32_452 c1_i32_454 k0_t44
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk154 (v485 : IVec S16 32) : Prop :=
  (∀ a x, ((![v485] : Fin 1 → IVec S16 32) a x).toNat < S4096.size a)
theorem k0_idx154_inb : ∀ (v485 : IVec S16 32) (k0_hw154 : k0_chk154 v485), ∀ a x, ((![v485] : Fin 1 → IVec S16 32) a x).toNat < S4096.size a := fun v485 k0_hw154 => k0_hw154
def k0_off237 (k0_t44 : Fin k0_t44_loop.trips) : Fin 2 → Nat :=
  let c0_i32_572 : BitVec 32 := 0#32
  let c0_i32_452 : BitVec 32 := 0#32
  let c1_i32_454 : BitVec 32 := 1#32
  let arg17 : BitVec 32 := Scf.iv c0_i32_452 c1_i32_454 k0_t44
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk155 (v491 : IVec S16 32) : Prop :=
  (∀ a x, ((![v491] : Fin 1 → IVec S16 32) a x).toNat < S4096.size a)
theorem k0_idx155_inb : ∀ (v491 : IVec S16 32) (k0_hw155 : k0_chk155 v491), ∀ a x, ((![v491] : Fin 1 → IVec S16 32) a x).toNat < S4096.size a := fun v491 k0_hw155 => k0_hw155
def k0_off238 (k0_t44 : Fin k0_t44_loop.trips) : Fin 2 → Nat :=
  let c0_i32_572 : BitVec 32 := 0#32
  let c0_i32_452 : BitVec 32 := 0#32
  let c1_i32_454 : BitVec 32 := 1#32
  let arg17 : BitVec 32 := Scf.iv c0_i32_452 c1_i32_454 k0_t44
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk156 (v497 : IVec S16 32) : Prop :=
  (∀ a x, ((![v497] : Fin 1 → IVec S16 32) a x).toNat < S4096.size a)
theorem k0_idx156_inb : ∀ (v497 : IVec S16 32) (k0_hw156 : k0_chk156 v497), ∀ a x, ((![v497] : Fin 1 → IVec S16 32) a x).toNat < S4096.size a := fun v497 k0_hw156 => k0_hw156
def k0_off239 (k0_t44 : Fin k0_t44_loop.trips) : Fin 2 → Nat :=
  let c0_i32_572 : BitVec 32 := 0#32
  let c0_i32_452 : BitVec 32 := 0#32
  let c1_i32_454 : BitVec 32 := 1#32
  let arg17 : BitVec 32 := Scf.iv c0_i32_452 c1_i32_454 k0_t44
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off240 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c352_i32_456 : BitVec 32 := 352#32
  let c0_i32_457 : BitVec 32 := 0#32
  ![v9.toNat, 352, 0]
@[reducible] def k0_t45_loop : Scf.Loop 32 :=
  let c0_i32_464 : BitVec 32 := 0#32
  let c128_i32_465 : BitVec 32 := 128#32
  let v369 : BitVec 32 := Scalar.addi c0_i32_464 c128_i32_465
  let c1_i32_466 : BitVec 32 := 1#32
  ⟨c0_i32_464, v369, c1_i32_466⟩
def k0_off241 (k0_t45 : Fin k0_t45_loop.trips) : Fin 1 → Nat :=
  let c47104_i32 : BitVec 32 := 47104#32
  let c0_i32_572 : BitVec 32 := 0#32
  let c0_i32_464 : BitVec 32 := 0#32
  let c1_i32_466 : BitVec 32 := 1#32
  let arg17 : BitVec 32 := Scf.iv c0_i32_464 c1_i32_466 k0_t45
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c47104_i32 v459
  let v461 : Index := Scalar.indexCast v460
  ![v461.toNat]

def k0_chk157 (v479 : IVec S16 32) : Prop :=
  (∀ a x, ((![v479] : Fin 1 → IVec S16 32) a x).toNat < S4096.size a)
theorem k0_idx157_inb : ∀ (v479 : IVec S16 32) (k0_hw157 : k0_chk157 v479), ∀ a x, ((![v479] : Fin 1 → IVec S16 32) a x).toNat < S4096.size a := fun v479 k0_hw157 => k0_hw157
def k0_off242 (k0_t45 : Fin k0_t45_loop.trips) : Fin 2 → Nat :=
  let c0_i32_572 : BitVec 32 := 0#32
  let c0_i32_464 : BitVec 32 := 0#32
  let c1_i32_466 : BitVec 32 := 1#32
  let arg17 : BitVec 32 := Scf.iv c0_i32_464 c1_i32_466 k0_t45
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk158 (v485 : IVec S16 32) : Prop :=
  (∀ a x, ((![v485] : Fin 1 → IVec S16 32) a x).toNat < S4096.size a)
theorem k0_idx158_inb : ∀ (v485 : IVec S16 32) (k0_hw158 : k0_chk158 v485), ∀ a x, ((![v485] : Fin 1 → IVec S16 32) a x).toNat < S4096.size a := fun v485 k0_hw158 => k0_hw158
def k0_off243 (k0_t45 : Fin k0_t45_loop.trips) : Fin 2 → Nat :=
  let c0_i32_572 : BitVec 32 := 0#32
  let c0_i32_464 : BitVec 32 := 0#32
  let c1_i32_466 : BitVec 32 := 1#32
  let arg17 : BitVec 32 := Scf.iv c0_i32_464 c1_i32_466 k0_t45
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk159 (v491 : IVec S16 32) : Prop :=
  (∀ a x, ((![v491] : Fin 1 → IVec S16 32) a x).toNat < S4096.size a)
theorem k0_idx159_inb : ∀ (v491 : IVec S16 32) (k0_hw159 : k0_chk159 v491), ∀ a x, ((![v491] : Fin 1 → IVec S16 32) a x).toNat < S4096.size a := fun v491 k0_hw159 => k0_hw159
def k0_off244 (k0_t45 : Fin k0_t45_loop.trips) : Fin 2 → Nat :=
  let c0_i32_572 : BitVec 32 := 0#32
  let c0_i32_464 : BitVec 32 := 0#32
  let c1_i32_466 : BitVec 32 := 1#32
  let arg17 : BitVec 32 := Scf.iv c0_i32_464 c1_i32_466 k0_t45
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk160 (v497 : IVec S16 32) : Prop :=
  (∀ a x, ((![v497] : Fin 1 → IVec S16 32) a x).toNat < S4096.size a)
theorem k0_idx160_inb : ∀ (v497 : IVec S16 32) (k0_hw160 : k0_chk160 v497), ∀ a x, ((![v497] : Fin 1 → IVec S16 32) a x).toNat < S4096.size a := fun v497 k0_hw160 => k0_hw160
def k0_off245 (k0_t45 : Fin k0_t45_loop.trips) : Fin 2 → Nat :=
  let c0_i32_572 : BitVec 32 := 0#32
  let c0_i32_464 : BitVec 32 := 0#32
  let c1_i32_466 : BitVec 32 := 1#32
  let arg17 : BitVec 32 := Scf.iv c0_i32_464 c1_i32_466 k0_t45
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off246 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c368_i32 : BitVec 32 := 368#32
  let c0_i32_468 : BitVec 32 := 0#32
  ![v9.toNat, 368, 0]
@[reducible] def k0_t46_loop : Scf.Loop 32 :=
  let c0_i32_475 : BitVec 32 := 0#32
  let c128_i32_476 : BitVec 32 := 128#32
  let v378 : BitVec 32 := Scalar.addi c0_i32_475 c128_i32_476
  let c1_i32_477 : BitVec 32 := 1#32
  ⟨c0_i32_475, v378, c1_i32_477⟩
def k0_off247 (k0_t46 : Fin k0_t46_loop.trips) : Fin 1 → Nat :=
  let c49152_i32 : BitVec 32 := 49152#32
  let c0_i32_572 : BitVec 32 := 0#32
  let c0_i32_475 : BitVec 32 := 0#32
  let c1_i32_477 : BitVec 32 := 1#32
  let arg17 : BitVec 32 := Scf.iv c0_i32_475 c1_i32_477 k0_t46
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c49152_i32 v459
  let v461 : Index := Scalar.indexCast v460
  ![v461.toNat]

def k0_chk161 (v479 : IVec S16 32) : Prop :=
  (∀ a x, ((![v479] : Fin 1 → IVec S16 32) a x).toNat < S4096.size a)
theorem k0_idx161_inb : ∀ (v479 : IVec S16 32) (k0_hw161 : k0_chk161 v479), ∀ a x, ((![v479] : Fin 1 → IVec S16 32) a x).toNat < S4096.size a := fun v479 k0_hw161 => k0_hw161
def k0_off248 (k0_t46 : Fin k0_t46_loop.trips) : Fin 2 → Nat :=
  let c0_i32_572 : BitVec 32 := 0#32
  let c0_i32_475 : BitVec 32 := 0#32
  let c1_i32_477 : BitVec 32 := 1#32
  let arg17 : BitVec 32 := Scf.iv c0_i32_475 c1_i32_477 k0_t46
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk162 (v485 : IVec S16 32) : Prop :=
  (∀ a x, ((![v485] : Fin 1 → IVec S16 32) a x).toNat < S4096.size a)
theorem k0_idx162_inb : ∀ (v485 : IVec S16 32) (k0_hw162 : k0_chk162 v485), ∀ a x, ((![v485] : Fin 1 → IVec S16 32) a x).toNat < S4096.size a := fun v485 k0_hw162 => k0_hw162
def k0_off249 (k0_t46 : Fin k0_t46_loop.trips) : Fin 2 → Nat :=
  let c0_i32_572 : BitVec 32 := 0#32
  let c0_i32_475 : BitVec 32 := 0#32
  let c1_i32_477 : BitVec 32 := 1#32
  let arg17 : BitVec 32 := Scf.iv c0_i32_475 c1_i32_477 k0_t46
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk163 (v491 : IVec S16 32) : Prop :=
  (∀ a x, ((![v491] : Fin 1 → IVec S16 32) a x).toNat < S4096.size a)
theorem k0_idx163_inb : ∀ (v491 : IVec S16 32) (k0_hw163 : k0_chk163 v491), ∀ a x, ((![v491] : Fin 1 → IVec S16 32) a x).toNat < S4096.size a := fun v491 k0_hw163 => k0_hw163
def k0_off250 (k0_t46 : Fin k0_t46_loop.trips) : Fin 2 → Nat :=
  let c0_i32_572 : BitVec 32 := 0#32
  let c0_i32_475 : BitVec 32 := 0#32
  let c1_i32_477 : BitVec 32 := 1#32
  let arg17 : BitVec 32 := Scf.iv c0_i32_475 c1_i32_477 k0_t46
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk164 (v497 : IVec S16 32) : Prop :=
  (∀ a x, ((![v497] : Fin 1 → IVec S16 32) a x).toNat < S4096.size a)
theorem k0_idx164_inb : ∀ (v497 : IVec S16 32) (k0_hw164 : k0_chk164 v497), ∀ a x, ((![v497] : Fin 1 → IVec S16 32) a x).toNat < S4096.size a := fun v497 k0_hw164 => k0_hw164
def k0_off251 (k0_t46 : Fin k0_t46_loop.trips) : Fin 2 → Nat :=
  let c0_i32_572 : BitVec 32 := 0#32
  let c0_i32_475 : BitVec 32 := 0#32
  let c1_i32_477 : BitVec 32 := 1#32
  let arg17 : BitVec 32 := Scf.iv c0_i32_475 c1_i32_477 k0_t46
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off252 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c384_i32_479 : BitVec 32 := 384#32
  let c0_i32_480 : BitVec 32 := 0#32
  ![v9.toNat, 384, 0]
@[reducible] def k0_t47_loop : Scf.Loop 32 :=
  let c0_i32_487 : BitVec 32 := 0#32
  let c128_i32_488 : BitVec 32 := 128#32
  let v387 : BitVec 32 := Scalar.addi c0_i32_487 c128_i32_488
  let c1_i32_489 : BitVec 32 := 1#32
  ⟨c0_i32_487, v387, c1_i32_489⟩
def k0_off253 (k0_t47 : Fin k0_t47_loop.trips) : Fin 1 → Nat :=
  let c51200_i32 : BitVec 32 := 51200#32
  let c0_i32_572 : BitVec 32 := 0#32
  let c0_i32_487 : BitVec 32 := 0#32
  let c1_i32_489 : BitVec 32 := 1#32
  let arg17 : BitVec 32 := Scf.iv c0_i32_487 c1_i32_489 k0_t47
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c51200_i32 v459
  let v461 : Index := Scalar.indexCast v460
  ![v461.toNat]

def k0_chk165 (v479 : IVec S16 32) : Prop :=
  (∀ a x, ((![v479] : Fin 1 → IVec S16 32) a x).toNat < S4096.size a)
theorem k0_idx165_inb : ∀ (v479 : IVec S16 32) (k0_hw165 : k0_chk165 v479), ∀ a x, ((![v479] : Fin 1 → IVec S16 32) a x).toNat < S4096.size a := fun v479 k0_hw165 => k0_hw165
def k0_off254 (k0_t47 : Fin k0_t47_loop.trips) : Fin 2 → Nat :=
  let c0_i32_572 : BitVec 32 := 0#32
  let c0_i32_487 : BitVec 32 := 0#32
  let c1_i32_489 : BitVec 32 := 1#32
  let arg17 : BitVec 32 := Scf.iv c0_i32_487 c1_i32_489 k0_t47
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk166 (v485 : IVec S16 32) : Prop :=
  (∀ a x, ((![v485] : Fin 1 → IVec S16 32) a x).toNat < S4096.size a)
theorem k0_idx166_inb : ∀ (v485 : IVec S16 32) (k0_hw166 : k0_chk166 v485), ∀ a x, ((![v485] : Fin 1 → IVec S16 32) a x).toNat < S4096.size a := fun v485 k0_hw166 => k0_hw166
def k0_off255 (k0_t47 : Fin k0_t47_loop.trips) : Fin 2 → Nat :=
  let c0_i32_572 : BitVec 32 := 0#32
  let c0_i32_487 : BitVec 32 := 0#32
  let c1_i32_489 : BitVec 32 := 1#32
  let arg17 : BitVec 32 := Scf.iv c0_i32_487 c1_i32_489 k0_t47
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk167 (v491 : IVec S16 32) : Prop :=
  (∀ a x, ((![v491] : Fin 1 → IVec S16 32) a x).toNat < S4096.size a)
theorem k0_idx167_inb : ∀ (v491 : IVec S16 32) (k0_hw167 : k0_chk167 v491), ∀ a x, ((![v491] : Fin 1 → IVec S16 32) a x).toNat < S4096.size a := fun v491 k0_hw167 => k0_hw167
def k0_off256 (k0_t47 : Fin k0_t47_loop.trips) : Fin 2 → Nat :=
  let c0_i32_572 : BitVec 32 := 0#32
  let c0_i32_487 : BitVec 32 := 0#32
  let c1_i32_489 : BitVec 32 := 1#32
  let arg17 : BitVec 32 := Scf.iv c0_i32_487 c1_i32_489 k0_t47
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk168 (v497 : IVec S16 32) : Prop :=
  (∀ a x, ((![v497] : Fin 1 → IVec S16 32) a x).toNat < S4096.size a)
theorem k0_idx168_inb : ∀ (v497 : IVec S16 32) (k0_hw168 : k0_chk168 v497), ∀ a x, ((![v497] : Fin 1 → IVec S16 32) a x).toNat < S4096.size a := fun v497 k0_hw168 => k0_hw168
def k0_off257 (k0_t47 : Fin k0_t47_loop.trips) : Fin 2 → Nat :=
  let c0_i32_572 : BitVec 32 := 0#32
  let c0_i32_487 : BitVec 32 := 0#32
  let c1_i32_489 : BitVec 32 := 1#32
  let arg17 : BitVec 32 := Scf.iv c0_i32_487 c1_i32_489 k0_t47
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off258 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c400_i32 : BitVec 32 := 400#32
  let c0_i32_491 : BitVec 32 := 0#32
  ![v9.toNat, 400, 0]
@[reducible] def k0_t48_loop : Scf.Loop 32 :=
  let c0_i32_498 : BitVec 32 := 0#32
  let c128_i32_499 : BitVec 32 := 128#32
  let v396 : BitVec 32 := Scalar.addi c0_i32_498 c128_i32_499
  let c1_i32_500 : BitVec 32 := 1#32
  ⟨c0_i32_498, v396, c1_i32_500⟩
def k0_off259 (k0_t48 : Fin k0_t48_loop.trips) : Fin 1 → Nat :=
  let c53248_i32 : BitVec 32 := 53248#32
  let c0_i32_572 : BitVec 32 := 0#32
  let c0_i32_498 : BitVec 32 := 0#32
  let c1_i32_500 : BitVec 32 := 1#32
  let arg17 : BitVec 32 := Scf.iv c0_i32_498 c1_i32_500 k0_t48
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c53248_i32 v459
  let v461 : Index := Scalar.indexCast v460
  ![v461.toNat]

def k0_chk169 (v479 : IVec S16 32) : Prop :=
  (∀ a x, ((![v479] : Fin 1 → IVec S16 32) a x).toNat < S4096.size a)
theorem k0_idx169_inb : ∀ (v479 : IVec S16 32) (k0_hw169 : k0_chk169 v479), ∀ a x, ((![v479] : Fin 1 → IVec S16 32) a x).toNat < S4096.size a := fun v479 k0_hw169 => k0_hw169
def k0_off260 (k0_t48 : Fin k0_t48_loop.trips) : Fin 2 → Nat :=
  let c0_i32_572 : BitVec 32 := 0#32
  let c0_i32_498 : BitVec 32 := 0#32
  let c1_i32_500 : BitVec 32 := 1#32
  let arg17 : BitVec 32 := Scf.iv c0_i32_498 c1_i32_500 k0_t48
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk170 (v485 : IVec S16 32) : Prop :=
  (∀ a x, ((![v485] : Fin 1 → IVec S16 32) a x).toNat < S4096.size a)
theorem k0_idx170_inb : ∀ (v485 : IVec S16 32) (k0_hw170 : k0_chk170 v485), ∀ a x, ((![v485] : Fin 1 → IVec S16 32) a x).toNat < S4096.size a := fun v485 k0_hw170 => k0_hw170
def k0_off261 (k0_t48 : Fin k0_t48_loop.trips) : Fin 2 → Nat :=
  let c0_i32_572 : BitVec 32 := 0#32
  let c0_i32_498 : BitVec 32 := 0#32
  let c1_i32_500 : BitVec 32 := 1#32
  let arg17 : BitVec 32 := Scf.iv c0_i32_498 c1_i32_500 k0_t48
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk171 (v491 : IVec S16 32) : Prop :=
  (∀ a x, ((![v491] : Fin 1 → IVec S16 32) a x).toNat < S4096.size a)
theorem k0_idx171_inb : ∀ (v491 : IVec S16 32) (k0_hw171 : k0_chk171 v491), ∀ a x, ((![v491] : Fin 1 → IVec S16 32) a x).toNat < S4096.size a := fun v491 k0_hw171 => k0_hw171
def k0_off262 (k0_t48 : Fin k0_t48_loop.trips) : Fin 2 → Nat :=
  let c0_i32_572 : BitVec 32 := 0#32
  let c0_i32_498 : BitVec 32 := 0#32
  let c1_i32_500 : BitVec 32 := 1#32
  let arg17 : BitVec 32 := Scf.iv c0_i32_498 c1_i32_500 k0_t48
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk172 (v497 : IVec S16 32) : Prop :=
  (∀ a x, ((![v497] : Fin 1 → IVec S16 32) a x).toNat < S4096.size a)
theorem k0_idx172_inb : ∀ (v497 : IVec S16 32) (k0_hw172 : k0_chk172 v497), ∀ a x, ((![v497] : Fin 1 → IVec S16 32) a x).toNat < S4096.size a := fun v497 k0_hw172 => k0_hw172
def k0_off263 (k0_t48 : Fin k0_t48_loop.trips) : Fin 2 → Nat :=
  let c0_i32_572 : BitVec 32 := 0#32
  let c0_i32_498 : BitVec 32 := 0#32
  let c1_i32_500 : BitVec 32 := 1#32
  let arg17 : BitVec 32 := Scf.iv c0_i32_498 c1_i32_500 k0_t48
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off264 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c416_i32_502 : BitVec 32 := 416#32
  let c0_i32_503 : BitVec 32 := 0#32
  ![v9.toNat, 416, 0]
@[reducible] def k0_t49_loop : Scf.Loop 32 :=
  let c0_i32_510 : BitVec 32 := 0#32
  let c128_i32_511 : BitVec 32 := 128#32
  let v405 : BitVec 32 := Scalar.addi c0_i32_510 c128_i32_511
  let c1_i32_512 : BitVec 32 := 1#32
  ⟨c0_i32_510, v405, c1_i32_512⟩
def k0_off265 (k0_t49 : Fin k0_t49_loop.trips) : Fin 1 → Nat :=
  let c55296_i32 : BitVec 32 := 55296#32
  let c0_i32_572 : BitVec 32 := 0#32
  let c0_i32_510 : BitVec 32 := 0#32
  let c1_i32_512 : BitVec 32 := 1#32
  let arg17 : BitVec 32 := Scf.iv c0_i32_510 c1_i32_512 k0_t49
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c55296_i32 v459
  let v461 : Index := Scalar.indexCast v460
  ![v461.toNat]

def k0_chk173 (v479 : IVec S16 32) : Prop :=
  (∀ a x, ((![v479] : Fin 1 → IVec S16 32) a x).toNat < S4096.size a)
theorem k0_idx173_inb : ∀ (v479 : IVec S16 32) (k0_hw173 : k0_chk173 v479), ∀ a x, ((![v479] : Fin 1 → IVec S16 32) a x).toNat < S4096.size a := fun v479 k0_hw173 => k0_hw173
def k0_off266 (k0_t49 : Fin k0_t49_loop.trips) : Fin 2 → Nat :=
  let c0_i32_572 : BitVec 32 := 0#32
  let c0_i32_510 : BitVec 32 := 0#32
  let c1_i32_512 : BitVec 32 := 1#32
  let arg17 : BitVec 32 := Scf.iv c0_i32_510 c1_i32_512 k0_t49
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk174 (v485 : IVec S16 32) : Prop :=
  (∀ a x, ((![v485] : Fin 1 → IVec S16 32) a x).toNat < S4096.size a)
theorem k0_idx174_inb : ∀ (v485 : IVec S16 32) (k0_hw174 : k0_chk174 v485), ∀ a x, ((![v485] : Fin 1 → IVec S16 32) a x).toNat < S4096.size a := fun v485 k0_hw174 => k0_hw174
def k0_off267 (k0_t49 : Fin k0_t49_loop.trips) : Fin 2 → Nat :=
  let c0_i32_572 : BitVec 32 := 0#32
  let c0_i32_510 : BitVec 32 := 0#32
  let c1_i32_512 : BitVec 32 := 1#32
  let arg17 : BitVec 32 := Scf.iv c0_i32_510 c1_i32_512 k0_t49
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk175 (v491 : IVec S16 32) : Prop :=
  (∀ a x, ((![v491] : Fin 1 → IVec S16 32) a x).toNat < S4096.size a)
theorem k0_idx175_inb : ∀ (v491 : IVec S16 32) (k0_hw175 : k0_chk175 v491), ∀ a x, ((![v491] : Fin 1 → IVec S16 32) a x).toNat < S4096.size a := fun v491 k0_hw175 => k0_hw175
def k0_off268 (k0_t49 : Fin k0_t49_loop.trips) : Fin 2 → Nat :=
  let c0_i32_572 : BitVec 32 := 0#32
  let c0_i32_510 : BitVec 32 := 0#32
  let c1_i32_512 : BitVec 32 := 1#32
  let arg17 : BitVec 32 := Scf.iv c0_i32_510 c1_i32_512 k0_t49
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk176 (v497 : IVec S16 32) : Prop :=
  (∀ a x, ((![v497] : Fin 1 → IVec S16 32) a x).toNat < S4096.size a)
theorem k0_idx176_inb : ∀ (v497 : IVec S16 32) (k0_hw176 : k0_chk176 v497), ∀ a x, ((![v497] : Fin 1 → IVec S16 32) a x).toNat < S4096.size a := fun v497 k0_hw176 => k0_hw176
def k0_off269 (k0_t49 : Fin k0_t49_loop.trips) : Fin 2 → Nat :=
  let c0_i32_572 : BitVec 32 := 0#32
  let c0_i32_510 : BitVec 32 := 0#32
  let c1_i32_512 : BitVec 32 := 1#32
  let arg17 : BitVec 32 := Scf.iv c0_i32_510 c1_i32_512 k0_t49
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off270 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c432_i32 : BitVec 32 := 432#32
  let c0_i32_514 : BitVec 32 := 0#32
  ![v9.toNat, 432, 0]
@[reducible] def k0_t50_loop : Scf.Loop 32 :=
  let c0_i32_521 : BitVec 32 := 0#32
  let c128_i32_522 : BitVec 32 := 128#32
  let v414 : BitVec 32 := Scalar.addi c0_i32_521 c128_i32_522
  let c1_i32_523 : BitVec 32 := 1#32
  ⟨c0_i32_521, v414, c1_i32_523⟩
def k0_off271 (k0_t50 : Fin k0_t50_loop.trips) : Fin 1 → Nat :=
  let c57344_i32 : BitVec 32 := 57344#32
  let c0_i32_572 : BitVec 32 := 0#32
  let c0_i32_521 : BitVec 32 := 0#32
  let c1_i32_523 : BitVec 32 := 1#32
  let arg17 : BitVec 32 := Scf.iv c0_i32_521 c1_i32_523 k0_t50
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c57344_i32 v459
  let v461 : Index := Scalar.indexCast v460
  ![v461.toNat]

def k0_chk177 (v479 : IVec S16 32) : Prop :=
  (∀ a x, ((![v479] : Fin 1 → IVec S16 32) a x).toNat < S4096.size a)
theorem k0_idx177_inb : ∀ (v479 : IVec S16 32) (k0_hw177 : k0_chk177 v479), ∀ a x, ((![v479] : Fin 1 → IVec S16 32) a x).toNat < S4096.size a := fun v479 k0_hw177 => k0_hw177
def k0_off272 (k0_t50 : Fin k0_t50_loop.trips) : Fin 2 → Nat :=
  let c0_i32_572 : BitVec 32 := 0#32
  let c0_i32_521 : BitVec 32 := 0#32
  let c1_i32_523 : BitVec 32 := 1#32
  let arg17 : BitVec 32 := Scf.iv c0_i32_521 c1_i32_523 k0_t50
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk178 (v485 : IVec S16 32) : Prop :=
  (∀ a x, ((![v485] : Fin 1 → IVec S16 32) a x).toNat < S4096.size a)
theorem k0_idx178_inb : ∀ (v485 : IVec S16 32) (k0_hw178 : k0_chk178 v485), ∀ a x, ((![v485] : Fin 1 → IVec S16 32) a x).toNat < S4096.size a := fun v485 k0_hw178 => k0_hw178
def k0_off273 (k0_t50 : Fin k0_t50_loop.trips) : Fin 2 → Nat :=
  let c0_i32_572 : BitVec 32 := 0#32
  let c0_i32_521 : BitVec 32 := 0#32
  let c1_i32_523 : BitVec 32 := 1#32
  let arg17 : BitVec 32 := Scf.iv c0_i32_521 c1_i32_523 k0_t50
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk179 (v491 : IVec S16 32) : Prop :=
  (∀ a x, ((![v491] : Fin 1 → IVec S16 32) a x).toNat < S4096.size a)
theorem k0_idx179_inb : ∀ (v491 : IVec S16 32) (k0_hw179 : k0_chk179 v491), ∀ a x, ((![v491] : Fin 1 → IVec S16 32) a x).toNat < S4096.size a := fun v491 k0_hw179 => k0_hw179
def k0_off274 (k0_t50 : Fin k0_t50_loop.trips) : Fin 2 → Nat :=
  let c0_i32_572 : BitVec 32 := 0#32
  let c0_i32_521 : BitVec 32 := 0#32
  let c1_i32_523 : BitVec 32 := 1#32
  let arg17 : BitVec 32 := Scf.iv c0_i32_521 c1_i32_523 k0_t50
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk180 (v497 : IVec S16 32) : Prop :=
  (∀ a x, ((![v497] : Fin 1 → IVec S16 32) a x).toNat < S4096.size a)
theorem k0_idx180_inb : ∀ (v497 : IVec S16 32) (k0_hw180 : k0_chk180 v497), ∀ a x, ((![v497] : Fin 1 → IVec S16 32) a x).toNat < S4096.size a := fun v497 k0_hw180 => k0_hw180
def k0_off275 (k0_t50 : Fin k0_t50_loop.trips) : Fin 2 → Nat :=
  let c0_i32_572 : BitVec 32 := 0#32
  let c0_i32_521 : BitVec 32 := 0#32
  let c1_i32_523 : BitVec 32 := 1#32
  let arg17 : BitVec 32 := Scf.iv c0_i32_521 c1_i32_523 k0_t50
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off276 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c448_i32_525 : BitVec 32 := 448#32
  let c0_i32_526 : BitVec 32 := 0#32
  ![v9.toNat, 448, 0]
@[reducible] def k0_t51_loop : Scf.Loop 32 :=
  let c0_i32_533 : BitVec 32 := 0#32
  let c128_i32_534 : BitVec 32 := 128#32
  let v423 : BitVec 32 := Scalar.addi c0_i32_533 c128_i32_534
  let c1_i32_535 : BitVec 32 := 1#32
  ⟨c0_i32_533, v423, c1_i32_535⟩
def k0_off277 (k0_t51 : Fin k0_t51_loop.trips) : Fin 1 → Nat :=
  let c59392_i32 : BitVec 32 := 59392#32
  let c0_i32_572 : BitVec 32 := 0#32
  let c0_i32_533 : BitVec 32 := 0#32
  let c1_i32_535 : BitVec 32 := 1#32
  let arg17 : BitVec 32 := Scf.iv c0_i32_533 c1_i32_535 k0_t51
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c59392_i32 v459
  let v461 : Index := Scalar.indexCast v460
  ![v461.toNat]

def k0_chk181 (v479 : IVec S16 32) : Prop :=
  (∀ a x, ((![v479] : Fin 1 → IVec S16 32) a x).toNat < S4096.size a)
theorem k0_idx181_inb : ∀ (v479 : IVec S16 32) (k0_hw181 : k0_chk181 v479), ∀ a x, ((![v479] : Fin 1 → IVec S16 32) a x).toNat < S4096.size a := fun v479 k0_hw181 => k0_hw181
def k0_off278 (k0_t51 : Fin k0_t51_loop.trips) : Fin 2 → Nat :=
  let c0_i32_572 : BitVec 32 := 0#32
  let c0_i32_533 : BitVec 32 := 0#32
  let c1_i32_535 : BitVec 32 := 1#32
  let arg17 : BitVec 32 := Scf.iv c0_i32_533 c1_i32_535 k0_t51
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk182 (v485 : IVec S16 32) : Prop :=
  (∀ a x, ((![v485] : Fin 1 → IVec S16 32) a x).toNat < S4096.size a)
theorem k0_idx182_inb : ∀ (v485 : IVec S16 32) (k0_hw182 : k0_chk182 v485), ∀ a x, ((![v485] : Fin 1 → IVec S16 32) a x).toNat < S4096.size a := fun v485 k0_hw182 => k0_hw182
def k0_off279 (k0_t51 : Fin k0_t51_loop.trips) : Fin 2 → Nat :=
  let c0_i32_572 : BitVec 32 := 0#32
  let c0_i32_533 : BitVec 32 := 0#32
  let c1_i32_535 : BitVec 32 := 1#32
  let arg17 : BitVec 32 := Scf.iv c0_i32_533 c1_i32_535 k0_t51
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk183 (v491 : IVec S16 32) : Prop :=
  (∀ a x, ((![v491] : Fin 1 → IVec S16 32) a x).toNat < S4096.size a)
theorem k0_idx183_inb : ∀ (v491 : IVec S16 32) (k0_hw183 : k0_chk183 v491), ∀ a x, ((![v491] : Fin 1 → IVec S16 32) a x).toNat < S4096.size a := fun v491 k0_hw183 => k0_hw183
def k0_off280 (k0_t51 : Fin k0_t51_loop.trips) : Fin 2 → Nat :=
  let c0_i32_572 : BitVec 32 := 0#32
  let c0_i32_533 : BitVec 32 := 0#32
  let c1_i32_535 : BitVec 32 := 1#32
  let arg17 : BitVec 32 := Scf.iv c0_i32_533 c1_i32_535 k0_t51
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk184 (v497 : IVec S16 32) : Prop :=
  (∀ a x, ((![v497] : Fin 1 → IVec S16 32) a x).toNat < S4096.size a)
theorem k0_idx184_inb : ∀ (v497 : IVec S16 32) (k0_hw184 : k0_chk184 v497), ∀ a x, ((![v497] : Fin 1 → IVec S16 32) a x).toNat < S4096.size a := fun v497 k0_hw184 => k0_hw184
def k0_off281 (k0_t51 : Fin k0_t51_loop.trips) : Fin 2 → Nat :=
  let c0_i32_572 : BitVec 32 := 0#32
  let c0_i32_533 : BitVec 32 := 0#32
  let c1_i32_535 : BitVec 32 := 1#32
  let arg17 : BitVec 32 := Scf.iv c0_i32_533 c1_i32_535 k0_t51
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off282 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c464_i32 : BitVec 32 := 464#32
  let c0_i32_537 : BitVec 32 := 0#32
  ![v9.toNat, 464, 0]
@[reducible] def k0_t52_loop : Scf.Loop 32 :=
  let c0_i32_544 : BitVec 32 := 0#32
  let c128_i32_545 : BitVec 32 := 128#32
  let v432 : BitVec 32 := Scalar.addi c0_i32_544 c128_i32_545
  let c1_i32_546 : BitVec 32 := 1#32
  ⟨c0_i32_544, v432, c1_i32_546⟩
def k0_off283 (k0_t52 : Fin k0_t52_loop.trips) : Fin 1 → Nat :=
  let c61440_i32 : BitVec 32 := 61440#32
  let c0_i32_572 : BitVec 32 := 0#32
  let c0_i32_544 : BitVec 32 := 0#32
  let c1_i32_546 : BitVec 32 := 1#32
  let arg17 : BitVec 32 := Scf.iv c0_i32_544 c1_i32_546 k0_t52
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c61440_i32 v459
  let v461 : Index := Scalar.indexCast v460
  ![v461.toNat]

def k0_chk185 (v479 : IVec S16 32) : Prop :=
  (∀ a x, ((![v479] : Fin 1 → IVec S16 32) a x).toNat < S4096.size a)
theorem k0_idx185_inb : ∀ (v479 : IVec S16 32) (k0_hw185 : k0_chk185 v479), ∀ a x, ((![v479] : Fin 1 → IVec S16 32) a x).toNat < S4096.size a := fun v479 k0_hw185 => k0_hw185
def k0_off284 (k0_t52 : Fin k0_t52_loop.trips) : Fin 2 → Nat :=
  let c0_i32_572 : BitVec 32 := 0#32
  let c0_i32_544 : BitVec 32 := 0#32
  let c1_i32_546 : BitVec 32 := 1#32
  let arg17 : BitVec 32 := Scf.iv c0_i32_544 c1_i32_546 k0_t52
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk186 (v485 : IVec S16 32) : Prop :=
  (∀ a x, ((![v485] : Fin 1 → IVec S16 32) a x).toNat < S4096.size a)
theorem k0_idx186_inb : ∀ (v485 : IVec S16 32) (k0_hw186 : k0_chk186 v485), ∀ a x, ((![v485] : Fin 1 → IVec S16 32) a x).toNat < S4096.size a := fun v485 k0_hw186 => k0_hw186
def k0_off285 (k0_t52 : Fin k0_t52_loop.trips) : Fin 2 → Nat :=
  let c0_i32_572 : BitVec 32 := 0#32
  let c0_i32_544 : BitVec 32 := 0#32
  let c1_i32_546 : BitVec 32 := 1#32
  let arg17 : BitVec 32 := Scf.iv c0_i32_544 c1_i32_546 k0_t52
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk187 (v491 : IVec S16 32) : Prop :=
  (∀ a x, ((![v491] : Fin 1 → IVec S16 32) a x).toNat < S4096.size a)
theorem k0_idx187_inb : ∀ (v491 : IVec S16 32) (k0_hw187 : k0_chk187 v491), ∀ a x, ((![v491] : Fin 1 → IVec S16 32) a x).toNat < S4096.size a := fun v491 k0_hw187 => k0_hw187
def k0_off286 (k0_t52 : Fin k0_t52_loop.trips) : Fin 2 → Nat :=
  let c0_i32_572 : BitVec 32 := 0#32
  let c0_i32_544 : BitVec 32 := 0#32
  let c1_i32_546 : BitVec 32 := 1#32
  let arg17 : BitVec 32 := Scf.iv c0_i32_544 c1_i32_546 k0_t52
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk188 (v497 : IVec S16 32) : Prop :=
  (∀ a x, ((![v497] : Fin 1 → IVec S16 32) a x).toNat < S4096.size a)
theorem k0_idx188_inb : ∀ (v497 : IVec S16 32) (k0_hw188 : k0_chk188 v497), ∀ a x, ((![v497] : Fin 1 → IVec S16 32) a x).toNat < S4096.size a := fun v497 k0_hw188 => k0_hw188
def k0_off287 (k0_t52 : Fin k0_t52_loop.trips) : Fin 2 → Nat :=
  let c0_i32_572 : BitVec 32 := 0#32
  let c0_i32_544 : BitVec 32 := 0#32
  let c1_i32_546 : BitVec 32 := 1#32
  let arg17 : BitVec 32 := Scf.iv c0_i32_544 c1_i32_546 k0_t52
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off288 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c480_i32_548 : BitVec 32 := 480#32
  let c0_i32_549 : BitVec 32 := 0#32
  ![v9.toNat, 480, 0]
@[reducible] def k0_t53_loop : Scf.Loop 32 :=
  let c0_i32_556 : BitVec 32 := 0#32
  let c128_i32_557 : BitVec 32 := 128#32
  let v441 : BitVec 32 := Scalar.addi c0_i32_556 c128_i32_557
  let c1_i32_558 : BitVec 32 := 1#32
  ⟨c0_i32_556, v441, c1_i32_558⟩
def k0_off289 (k0_t53 : Fin k0_t53_loop.trips) : Fin 1 → Nat :=
  let c63488_i32 : BitVec 32 := 63488#32
  let c0_i32_572 : BitVec 32 := 0#32
  let c0_i32_556 : BitVec 32 := 0#32
  let c1_i32_558 : BitVec 32 := 1#32
  let arg17 : BitVec 32 := Scf.iv c0_i32_556 c1_i32_558 k0_t53
  let c1_i32_571 : BitVec 32 := 1#32
  let v454 : BitVec 32 := Scalar.muli arg17 c1_i32_571
  let v455 : BitVec 32 := Scalar.addi c0_i32_572 v454
  let c16_i32_574 : BitVec 32 := 16#32
  let v459 : BitVec 32 := Scalar.muli v455 c16_i32_574
  let v460 : BitVec 32 := Scalar.addi c63488_i32 v459
  let v461 : Index := Scalar.indexCast v460
  ![v461.toNat]

def k0_chk189 (v479 : IVec S16 32) : Prop :=
  (∀ a x, ((![v479] : Fin 1 → IVec S16 32) a x).toNat < S4096.size a)
theorem k0_idx189_inb : ∀ (v479 : IVec S16 32) (k0_hw189 : k0_chk189 v479), ∀ a x, ((![v479] : Fin 1 → IVec S16 32) a x).toNat < S4096.size a := fun v479 k0_hw189 => k0_hw189
def k0_off290 (k0_t53 : Fin k0_t53_loop.trips) : Fin 2 → Nat :=
  let c0_i32_572 : BitVec 32 := 0#32
  let c0_i32_556 : BitVec 32 := 0#32
  let c1_i32_558 : BitVec 32 := 1#32
  let arg17 : BitVec 32 := Scf.iv c0_i32_556 c1_i32_558 k0_t53
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v482 : Index := Scalar.indexCast v456
  let c7_i32 : BitVec 32 := 7#32
  let v457 : BitVec 32 := Scalar.andi v455 c7_i32
  let c6_i32 : BitVec 32 := 6#32
  let v458 : BitVec 32 := Scalar.shli v457 c6_i32
  let c0_i32_579 : BitVec 32 := 0#32
  let v481 : BitVec 32 := Scalar.addi v458 c0_i32_579
  let v483 : Index := Scalar.indexCast v481
  ![v482.toNat, v483.toNat]

def k0_chk190 (v485 : IVec S16 32) : Prop :=
  (∀ a x, ((![v485] : Fin 1 → IVec S16 32) a x).toNat < S4096.size a)
theorem k0_idx190_inb : ∀ (v485 : IVec S16 32) (k0_hw190 : k0_chk190 v485), ∀ a x, ((![v485] : Fin 1 → IVec S16 32) a x).toNat < S4096.size a := fun v485 k0_hw190 => k0_hw190
def k0_off291 (k0_t53 : Fin k0_t53_loop.trips) : Fin 2 → Nat :=
  let c0_i32_572 : BitVec 32 := 0#32
  let c0_i32_556 : BitVec 32 := 0#32
  let c1_i32_558 : BitVec 32 := 1#32
  let arg17 : BitVec 32 := Scf.iv c0_i32_556 c1_i32_558 k0_t53
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v488 : Index := Scalar.indexCast v456
  let c7_i32 : BitVec 32 := 7#32
  let v457 : BitVec 32 := Scalar.andi v455 c7_i32
  let c6_i32 : BitVec 32 := 6#32
  let v458 : BitVec 32 := Scalar.shli v457 c6_i32
  let c16_i32_580 : BitVec 32 := 16#32
  let v487 : BitVec 32 := Scalar.addi v458 c16_i32_580
  let v489 : Index := Scalar.indexCast v487
  ![v488.toNat, v489.toNat]

def k0_chk191 (v491 : IVec S16 32) : Prop :=
  (∀ a x, ((![v491] : Fin 1 → IVec S16 32) a x).toNat < S4096.size a)
theorem k0_idx191_inb : ∀ (v491 : IVec S16 32) (k0_hw191 : k0_chk191 v491), ∀ a x, ((![v491] : Fin 1 → IVec S16 32) a x).toNat < S4096.size a := fun v491 k0_hw191 => k0_hw191
def k0_off292 (k0_t53 : Fin k0_t53_loop.trips) : Fin 2 → Nat :=
  let c0_i32_572 : BitVec 32 := 0#32
  let c0_i32_556 : BitVec 32 := 0#32
  let c1_i32_558 : BitVec 32 := 1#32
  let arg17 : BitVec 32 := Scf.iv c0_i32_556 c1_i32_558 k0_t53
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v494 : Index := Scalar.indexCast v456
  let c7_i32 : BitVec 32 := 7#32
  let v457 : BitVec 32 := Scalar.andi v455 c7_i32
  let c6_i32 : BitVec 32 := 6#32
  let v458 : BitVec 32 := Scalar.shli v457 c6_i32
  let c32_i32_581 : BitVec 32 := 32#32
  let v493 : BitVec 32 := Scalar.addi v458 c32_i32_581
  let v495 : Index := Scalar.indexCast v493
  ![v494.toNat, v495.toNat]

def k0_chk192 (v497 : IVec S16 32) : Prop :=
  (∀ a x, ((![v497] : Fin 1 → IVec S16 32) a x).toNat < S4096.size a)
theorem k0_idx192_inb : ∀ (v497 : IVec S16 32) (k0_hw192 : k0_chk192 v497), ∀ a x, ((![v497] : Fin 1 → IVec S16 32) a x).toNat < S4096.size a := fun v497 k0_hw192 => k0_hw192
def k0_off293 (k0_t53 : Fin k0_t53_loop.trips) : Fin 2 → Nat :=
  let c0_i32_572 : BitVec 32 := 0#32
  let c0_i32_556 : BitVec 32 := 0#32
  let c1_i32_558 : BitVec 32 := 1#32
  let arg17 : BitVec 32 := Scf.iv c0_i32_556 c1_i32_558 k0_t53
  let c1_i32_571 : BitVec 32 := 1#32
  let v454 : BitVec 32 := Scalar.muli arg17 c1_i32_571
  let v455 : BitVec 32 := Scalar.addi c0_i32_572 v454
  let c3_i32_573 : BitVec 32 := 3#32
  let v456 : BitVec 32 := Scalar.shrui v455 c3_i32_573
  let v500 : Index := Scalar.indexCast v456
  let c7_i32 : BitVec 32 := 7#32
  let v457 : BitVec 32 := Scalar.andi v455 c7_i32
  let c6_i32 : BitVec 32 := 6#32
  let v458 : BitVec 32 := Scalar.shli v457 c6_i32
  let c48_i32_582 : BitVec 32 := 48#32
  let v499 : BitVec 32 := Scalar.addi v458 c48_i32_582
  let v501 : Index := Scalar.indexCast v499
  ![v500.toNat, v501.toNat]
def k0_off294 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_3 : BitVec 32 := 3#32
  let v8 : BitVec 32 := Scalar.muli v1 c3_i32_3
  let c0_i32_0 : BitVec 32 := 0#32
  let c1_i32_1 : BitVec 32 := 1#32
  let arg16 : BitVec 32 := Scf.iv c0_i32_0 c1_i32_1 k0_t1
  let v9 : BitVec 32 := Scalar.addi v8 arg16
  let c496_i32 : BitVec 32 := 496#32
  let c0_i32_560 : BitVec 32 := 0#32
  ![v9.toNat, 496, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x3x512x512 : Shape := ⟨4, ![32, 3, 512, 512]⟩
abbrev S96x262144 : Shape := ⟨2, ![96, 262144]⟩
abbrev S256 : Shape := ⟨1, ![256]⟩
abbrev S96x262144x1 : Shape := ⟨3, ![96, 262144, 1]⟩
abbrev S1x1x256 : Shape := ⟨3, ![1, 1, 256]⟩
abbrev S96x262144x256 : Shape := ⟨3, ![96, 262144, 256]⟩
abbrev S_ : Shape := ⟨0, ![]⟩
abbrev S96x256 : Shape := ⟨2, ![96, 256]⟩
abbrev S96 : Shape := ⟨1, ![96]⟩
abbrev S96x1 : Shape := ⟨2, ![96, 1]⟩
abbrev S96x1x1 : Shape := ⟨3, ![96, 1, 1]⟩
abbrev S1 : Shape := ⟨1, ![1]⟩
abbrev S1x1x1 : Shape := ⟨3, ![1, 1, 1]⟩
abbrev S96x255 : Shape := ⟨2, ![96, 255]⟩

abbrev nBuf : Space → Nat
  | .hbm => 148
  | .vmem => 0
  | .smem => 0
  | _ => 0

abbrev hbmTy0_0 (i : Nat) : BufTy := match i % 128 with
  | 0 => ⟨S32x3x512x512, .i32⟩
  | 1 => ⟨S96x262144, .i32⟩
  | 2 => ⟨S256, .i32⟩
  | 3 => ⟨S96x262144x1, .i32⟩
  | 4 => ⟨S1x1x256, .i32⟩
  | 5 => ⟨S96x262144x256, .i32⟩
  | 6 => ⟨S96x262144x256, .i32⟩
  | 7 => ⟨S96x262144x256, .i1⟩
  | 8 => ⟨S96x262144x256, .i32⟩
  | 9 => ⟨S_, .i32⟩
  | 10 => ⟨S96x256, .i32⟩
  | 11 => ⟨S_, .i32⟩
  | 12 => ⟨S96x256, .i32⟩
  | 13 => ⟨S96x256, .i1⟩
  | 14 => ⟨S_, .i32⟩
  | 15 => ⟨S_, .i32⟩
  | 16 => ⟨S96x256, .i32⟩
  | 17 => ⟨S96x256, .i32⟩
  | 18 => ⟨S96x256, .i32⟩
  | 19 => ⟨S_, .i32⟩
  | 20 => ⟨S96, .i32⟩
  | 21 => ⟨S96x1, .i32⟩
  | 22 => ⟨S_, .i32⟩
  | 23 => ⟨S96x1, .i32⟩
  | 24 => ⟨S96x1, .i1⟩
  | 25 => ⟨S_, .i32⟩
  | 26 => ⟨S96x1, .i32⟩
  | 27 => ⟨S96x1, .i32⟩
  | 28 => ⟨S96x1, .i32⟩
  | 29 => ⟨S96x1x1, .i32⟩
  | 30 => ⟨S1, .i32⟩
  | 31 => ⟨S_, .i32⟩
  | 32 => ⟨S96x1x1, .i32⟩
  | 33 => ⟨S96x1x1, .i1⟩
  | 34 => ⟨S1x1x1, .i32⟩
  | 35 => ⟨S96x1x1, .i32⟩
  | 36 => ⟨S96x1x1, .i1⟩
  | 37 => ⟨S96x1x1, .i1⟩
  | 38 => ⟨S_, .i1⟩
  | 39 => ⟨S96x1, .i1⟩
  | 40 => ⟨S96x1, .i32⟩
  | 41 => ⟨S_, .i32⟩
  | 42 => ⟨S96x1, .i32⟩
  | 43 => ⟨S96x1, .i32⟩
  | 44 => ⟨S_, .i32⟩
  | 45 => ⟨S96, .i32⟩
  | 46 => ⟨S96x1, .i32⟩
  | 47 => ⟨S96x1, .i32⟩
  | 48 => ⟨S_, .i32⟩
  | 49 => ⟨S_, .i32⟩
  | 50 => ⟨S96x1, .i32⟩
  | 51 => ⟨S96x1, .i32⟩
  | 52 => ⟨S96x1, .i32⟩
  | 53 => ⟨S_, .i32⟩
  | 54 => ⟨S96x1, .i32⟩
  | 55 => ⟨S96x1, .i1⟩
  | 56 => ⟨S96x1, .i32⟩
  | 57 => ⟨S96x1, .i32⟩
  | 58 => ⟨S_, .i32⟩
  | 59 => ⟨S96x1, .i32⟩
  | 60 => ⟨S96x1, .i1⟩
  | 61 => ⟨S96x1, .i1⟩
  | 62 => ⟨S_, .i32⟩
  | 63 => ⟨S96x1, .i32⟩
  | 64 => ⟨S96x1, .i32⟩
  | 65 => ⟨S96x1, .i32⟩
  | 66 => ⟨S_, .i32⟩
  | 67 => ⟨S_, .i32⟩
  | 68 => ⟨S96x256, .i32⟩
  | 69 => ⟨S_, .i32⟩
  | 70 => ⟨S96x1, .i32⟩
  | 71 => ⟨S96x1, .i32⟩
  | 72 => ⟨S_, .i32⟩
  | 73 => ⟨S_, .i32⟩
  | 74 => ⟨S96x1, .i32⟩
  | 75 => ⟨S96x1, .i32⟩
  | 76 => ⟨S96x1, .i32⟩
  | 77 => ⟨S_, .i32⟩
  | 78 => ⟨S96x1, .i32⟩
  | 79 => ⟨S96x1, .i1⟩
  | 80 => ⟨S96x1, .i32⟩
  | 81 => ⟨S96x1, .i32⟩
  | 82 => ⟨S_, .i32⟩
  | 83 => ⟨S96x1, .i32⟩
  | 84 => ⟨S96x1, .i1⟩
  | 85 => ⟨S96x1, .i1⟩
  | 86 => ⟨S_, .i32⟩
  | 87 => ⟨S96x1, .i32⟩
  | 88 => ⟨S96x1, .i32⟩
  | 89 => ⟨S96x1, .i32⟩
  | 90 => ⟨S96x256, .i32⟩
  | 91 => ⟨S96x256, .i32⟩
  | 92 => ⟨S96x256, .i32⟩
  | 93 => ⟨S96x256, .i32⟩
  | 94 => ⟨S96x256, .i32⟩
  | 95 => ⟨S96x1, .i32⟩
  | 96 => ⟨S96x256, .i32⟩
  | 97 => ⟨S96x256, .i1⟩
  | 98 => ⟨S96x256, .i32⟩
  | 99 => ⟨S96x256, .i32⟩
  | 100 => ⟨S_, .i32⟩
  | 101 => ⟨S96x256, .i32⟩
  | 102 => ⟨S96x256, .i1⟩
  | 103 => ⟨S96x256, .i1⟩
  | 104 => ⟨S_, .i32⟩
  | 105 => ⟨S96x256, .i32⟩
  | 106 => ⟨S96x256, .i32⟩
  | 107 => ⟨S96x256, .i32⟩
  | 108 => ⟨S_, .i32⟩
  | 109 => ⟨S96x1, .i32⟩
  | 110 => ⟨S96x255, .i32⟩
  | 111 => ⟨S96x256, .i32⟩
  | 112 => ⟨S_, .i32⟩
  | 113 => ⟨S_, .i32⟩
  | 114 => ⟨S_, .i32⟩
  | 115 => ⟨S96x256, .i32⟩
  | 116 => ⟨S96x256, .i32⟩
  | 117 => ⟨S_, .i32⟩
  | 118 => ⟨S96x256, .i32⟩
  | 119 => ⟨S96x256, .i32⟩
  | 120 => ⟨S_, .i32⟩
  | 121 => ⟨S96x1, .i32⟩
  | 122 => ⟨S96x1, .i1⟩
  | 123 => ⟨S_, .i32⟩
  | 124 => ⟨S96x262144, .i32⟩
  | 125 => ⟨S96x262144, .i1⟩
  | 126 => ⟨S_, .i32⟩
  | 127 => ⟨S96x262144, .i32⟩
  | _ => ⟨S32x3x512x512, .i32⟩

abbrev hbmTy0_1 (i : Nat) : BufTy := match i % 128 with
  | 0 => ⟨S96x262144, .i32⟩
  | 1 => ⟨S96x262144, .i32⟩
  | 2 => ⟨S96x262144x1, .i32⟩
  | 3 => ⟨S1, .i32⟩
  | 4 => ⟨S_, .i32⟩
  | 5 => ⟨S96x262144x1, .i32⟩
  | 6 => ⟨S96x262144x1, .i1⟩
  | 7 => ⟨S1x1x1, .i32⟩
  | 8 => ⟨S96x262144x1, .i32⟩
  | 9 => ⟨S96x262144x1, .i1⟩
  | 10 => ⟨S96x262144x1, .i1⟩
  | 11 => ⟨S_, .i1⟩
  | 12 => ⟨S96x262144, .i1⟩
  | 13 => ⟨S96x262144, .i32⟩
  | 14 => ⟨S_, .i32⟩
  | 15 => ⟨S96x262144, .i32⟩
  | 16 => ⟨S96x262144, .i32⟩
  | 17 => ⟨S96x262144, .i1⟩
  | 18 => ⟨S96x262144, .i32⟩
  | 19 => ⟨S32x3x512x512, .i32⟩
  | _ => ⟨S32x3x512x512, .i32⟩

abbrev hbmTy (i : Nat) : BufTy := match i / 128 with
  | 0 => hbmTy0_0 i
  | 1 => hbmTy0_1 i
  | _ => ⟨S32x3x512x512, .i32⟩

abbrev bufTy : (tb : Table) → Fin (tcTables nBuf tb) → BufTy
  | .hbm, ⟨i, _⟩ => hbmTy i
  | _, _ => ⟨S32x3x512x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_c_4 : Ref sig .tc := ⟨.hbm, 41, rfl⟩
abbrev main_call1_v14 : Ref sig .tc := ⟨.hbm, 42, rfl⟩
abbrev main_v14 : Ref sig .tc := ⟨.hbm, 43, rfl⟩
abbrev main_c_3 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_4 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_c : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_0 : Ref sig .tc := ⟨.hbm, 62, rfl⟩
abbrev main_call2_v12 : Ref sig .tc := ⟨.hbm, 63, rfl⟩
abbrev main_call2_v13 : Ref sig .tc := ⟨.hbm, 64, rfl⟩
abbrev main_v18 : Ref sig .tc := ⟨.hbm, 65, rfl⟩
abbrev main_call3_call0_c : Ref sig .tc := ⟨.hbm, 66, rfl⟩
abbrev main_call3_call0_v0 : Ref sig .tc := ⟨.hbm, 67, rfl⟩
abbrev main_v19 : Ref sig .tc := ⟨.hbm, 68, rfl⟩
abbrev main_c_5 : Ref sig .tc := ⟨.hbm, 69, rfl⟩
abbrev main_v20 : Ref sig .tc := ⟨.hbm, 70, rfl⟩
abbrev main_v21 : Ref sig .tc := ⟨.hbm, 71, rfl⟩
abbrev main_c_6 : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_call4_v5 : Ref sig .tc := ⟨.hbm, 78, rfl⟩
abbrev main_call4_v6 : Ref sig .tc := ⟨.hbm, 79, rfl⟩
abbrev main_call4_v7 : Ref sig .tc := ⟨.hbm, 80, rfl⟩
abbrev main_call4_v8 : Ref sig .tc := ⟨.hbm, 81, rfl⟩
abbrev main_call4_c : Ref sig .tc := ⟨.hbm, 82, rfl⟩
abbrev main_call4_v9 : Ref sig .tc := ⟨.hbm, 83, rfl⟩
abbrev main_call4_v10 : Ref sig .tc := ⟨.hbm, 84, rfl⟩
abbrev main_call4_v11 : Ref sig .tc := ⟨.hbm, 85, rfl⟩
abbrev main_call4_c_0 : Ref sig .tc := ⟨.hbm, 86, rfl⟩
abbrev main_call4_v12 : Ref sig .tc := ⟨.hbm, 87, rfl⟩
abbrev main_call4_v13 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_call5_v3 : Ref sig .tc := ⟨.hbm, 95, rfl⟩
abbrev main_call5_v4 : Ref sig .tc := ⟨.hbm, 96, rfl⟩
abbrev main_call5_v5 : Ref sig .tc := ⟨.hbm, 97, rfl⟩
abbrev main_call5_v6 : Ref sig .tc := ⟨.hbm, 98, rfl⟩
abbrev main_call5_v7 : Ref sig .tc := ⟨.hbm, 99, rfl⟩
abbrev main_call5_c : Ref sig .tc := ⟨.hbm, 100, rfl⟩
abbrev main_call5_v8 : Ref sig .tc := ⟨.hbm, 101, rfl⟩
abbrev main_call5_v9 : Ref sig .tc := ⟨.hbm, 102, rfl⟩
abbrev main_call5_v10 : Ref sig .tc := ⟨.hbm, 103, rfl⟩
abbrev main_call5_c_0 : Ref sig .tc := ⟨.hbm, 104, rfl⟩
abbrev main_call5_v11 : Ref sig .tc := ⟨.hbm, 105, rfl⟩
abbrev main_call5_v12 : Ref sig .tc := ⟨.hbm, 106, rfl⟩
abbrev main_v25 : Ref sig .tc := ⟨.hbm, 107, rfl⟩
abbrev main_c_7 : Ref sig .tc := ⟨.hbm, 108, rfl⟩
abbrev main_v26 : Ref sig .tc := ⟨.hbm, 109, rfl⟩
abbrev main_v27 : Ref sig .tc := ⟨.hbm, 110, rfl⟩
abbrev main_v28 : Ref sig .tc := ⟨.hbm, 111, rfl⟩
abbrev main_c_8 : Ref sig .tc := ⟨.hbm, 112, rfl⟩
abbrev main_c_9 : Ref sig .tc := ⟨.hbm, 113, rfl⟩
abbrev main_call6_v0 : Ref sig .tc := ⟨.hbm, 114, rfl⟩
abbrev main_call6_v1 : Ref sig .tc := ⟨.hbm, 115, rfl⟩
abbrev main_call6_v2 : Ref sig .tc := ⟨.hbm, 116, rfl⟩
abbrev main_call6_v3 : Ref sig .tc := ⟨.hbm, 117, rfl⟩
abbrev main_call6_v4 : Ref sig .tc := ⟨.hbm, 118, rfl⟩
abbrev main_v29 : Ref sig .tc := ⟨.hbm, 119, rfl⟩
abbrev main_c_10 : Ref sig .tc := ⟨.hbm, 120, rfl⟩
abbrev main_v30 : Ref sig .tc := ⟨.hbm, 121, rfl⟩
abbrev main_v31 : Ref sig .tc := ⟨.hbm, 122, rfl⟩
abbrev main_call7_c : Ref sig .tc := ⟨.hbm, 123, rfl⟩
abbrev main_call7_v0 : Ref sig .tc := ⟨.hbm, 124, rfl⟩
abbrev main_call7_v1 : Ref sig .tc := ⟨.hbm, 125, rfl⟩
abbrev main_call7_c_0 : Ref sig .tc := ⟨.hbm, 126, rfl⟩
abbrev main_call7_v2 : Ref sig .tc := ⟨.hbm, 127, rfl⟩
abbrev main_call7_v3 : Ref sig .tc := ⟨.hbm, 128, rfl⟩
abbrev main_call7_v4 : Ref sig .tc := ⟨.hbm, 129, rfl⟩
abbrev main_call7_v5 : Ref sig .tc := ⟨.hbm, 130, rfl⟩
abbrev main_call7_c_1 : Ref sig .tc := ⟨.hbm, 131, rfl⟩
abbrev main_call7_c_2 : Ref sig .tc := ⟨.hbm, 132, rfl⟩
abbrev main_call7_v6 : Ref sig .tc := ⟨.hbm, 133, rfl⟩
abbrev main_call7_v7 : Ref sig .tc := ⟨.hbm, 134, rfl⟩
abbrev main_call7_v8 : Ref sig .tc := ⟨.hbm, 135, rfl⟩
abbrev main_call7_v9 : Ref sig .tc := ⟨.hbm, 136, rfl⟩
abbrev main_call7_v10 : Ref sig .tc := ⟨.hbm, 137, rfl⟩
abbrev main_call7_v11 : Ref sig .tc := ⟨.hbm, 138, rfl⟩
abbrev main_call7_c_3 : Ref sig .tc := ⟨.hbm, 139, rfl⟩
abbrev main_call7_v12 : Ref sig .tc := ⟨.hbm, 140, rfl⟩
abbrev main_call7_v13 : Ref sig .tc := ⟨.hbm, 141, rfl⟩
abbrev main_call7_c_4 : Ref sig .tc := ⟨.hbm, 142, rfl⟩
abbrev main_call7_v14 : Ref sig .tc := ⟨.hbm, 143, rfl⟩
abbrev main_v32 : Ref sig .tc := ⟨.hbm, 144, rfl⟩
abbrev main_call8_v0 : Ref sig .tc := ⟨.hbm, 145, rfl⟩
abbrev main_v33 : Ref sig .tc := ⟨.hbm, 146, rfl⟩
abbrev main_v34 : Ref sig .tc := ⟨.hbm, 147, rfl⟩

abbrev nD : Nat := 1
abbrev τ : Topo := Topo.v7x

variable {F : FTy → Type} [FloatOps F]
-- ==== Proof.Held.lean ====
/-
  What a vector subcore holds of one buffer, by the values it reads, and the rules of the operations of the kernel over it:
  a load returns the values under its rectangle, a store replaces them, an indexed load and an indexed store read and
  rewrite the whole buffer. The kernel's own resource algebra and the names of the launch are set up here too.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal.Skeleton

@[expose] public section

noncomputable section

namespace Cert.Proof.Eq

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds library beside the transfers' counters. -/
abbrev UH : Type := URounds (GSem nD τ sig) ℕ
abbrev UU : Type := UH × Counters

local notation "𝕄" => MT nD τ sig (HIx 1) (Elt F) ℕ UU ℕ

/-- The handshakes' rounds library, the left factor. -/
abbrev EH : Emb UH (MT nD τ sig (HIx 1) (Elt F) ℕ UU ℕ) := embL

variable [FloatOps F]

/-- The program `p` run on the thread `c`, ending in `Q`. -/
abbrev run (c : Thread nD τ) {α : Type} (p : Prog (TpuEff nD τ sig (Elt F) Λ₀ c.2) α) (Q : α → sProp 𝕄) : sProp 𝕄 :=
  wp frame (wpE (defs₀ (F := F)) 𝒱₀ c none) Set.univ p Q

/-! ## Composing runs -/

section
variable {c : Thread nD τ} {α β : Type}

/-- A run from `A` to `B`, then one from `B`. -/
theorem run_seq {A B : sProp 𝕄} {p : Prog (TpuEff nD τ sig (Elt F) Λ₀ c.2) α} {k : α → Prog (TpuEff nD τ sig (Elt F) Λ₀ c.2) β} {Q : β → sProp 𝕄}
    (h : A ⊢ run c p (fun _ => B)) (hk : ∀ x, B ⊢ run c (k x) Q) : A ⊢ run c (p >>= k) Q := by
  unfold run at *
  rw [wp_bind]
  exact h.trans (wp_mono _ _ _ fun x => hk x)

/-- A run from `A` to a `B` of its result, then one from `B`. -/
theorem run_seq' {A : sProp 𝕄} {B : α → sProp 𝕄} {p : Prog (TpuEff nD τ sig (Elt F) Λ₀ c.2) α} {k : α → Prog (TpuEff nD τ sig (Elt F) Λ₀ c.2) β} {Q : β → sProp 𝕄}
    (h : A ⊢ run c p B) (hk : ∀ x, B x ⊢ run c (k x) Q) : A ⊢ run c (p >>= k) Q := by
  unfold run at *
  rw [wp_bind]
  exact h.trans (wp_mono _ _ _ fun x => hk x)

/-- A program that returns at once. -/
theorem run_ret {A : sProp 𝕄} {Q : α → sProp 𝕄} (x : α) (h : A ⊢ Q x) : A ⊢ run c (.ret x) Q := h.trans (le_wp_ret _ _ _ _ _)

/-- What a run does not touch stays beside it. -/
theorem run_frame {A R : sProp 𝕄} {B : α → sProp 𝕄} {p : Prog (TpuEff nD τ sig (Elt F) Λ₀ c.2) α}
    (h : A ⊢ run c p B) : iprop(A ∗ R) ⊢ run c p (fun x => iprop(B x ∗ R)) :=
  (sep_mono h .rfl).trans (wp_frame_r _ _ _)

/-- A run under a continuation that takes what it leaves. -/
theorem run_wand {A : sProp 𝕄} {B Q : α → sProp 𝕄} {p : Prog (TpuEff nD τ sig (Elt F) Λ₀ c.2) α}
    (h : A ⊢ run c p B) : A ⊢ iprop((∀ x, B x -∗ Q x) -∗ run c p Q) := by
  iintro HA Hk
  iapply (wp_wand_r _ _ _ (Q := B))
  isplitl [HA]
  · iapply h; iexact HA
  · iexact Hk

/-- A run at the head of a program. -/
theorem run_head {A : sProp 𝕄} {B : α → sProp 𝕄} {p : Prog (TpuEff nD τ sig (Elt F) Λ₀ c.2) α} {k : α → Prog (TpuEff nD τ sig (Elt F) Λ₀ c.2) β} {Q : β → sProp 𝕄}
    (h : A ⊢ run c p B) : A ⊢ iprop((∀ x, B x -∗ run c (k x) Q) -∗ run c (p >>= k) Q) := by
  unfold run at *
  rw [wp_bind]
  exact run_wand h
end

/-- A counted loop, by an invariant. -/
theorem loop_run {c : Thread nD τ} {σ : Type} {L : Scf.Loop 32} {ok : L.OK} {init : σ} {body : Fin L.trips → σ → Prog (TpuEff nD τ sig (Elt F) Λ₀ c.2) σ}
    (I : ℕ → σ → sProp (MT nD τ sig (HIx 1) (Elt F) ℕ UU ℕ)) (hbody : ∀ (t : Fin L.trips) (acc : σ), I t.val acc ⊢ run c (body t acc) (I (t.val + 1))) :
    I 0 init ⊢ run c (L.for ok init body) (I L.trips) := by
  iintro H
  iapply (Scf.wp_for frame (wpE (defs₀ (F := F)) 𝒱₀ c none) Set.univ L.lb L.ub L.st ok init body I hbody)
  isplitl [H]
  · iexact H
  · iintro %_ HC
    iexact HC

/-- A side condition that holds. -/
theorem run_assume {c : Thread nD τ} {α : Type} {Q : α → sProp (MT nD τ sig (HIx 1) (Elt F) ℕ UU ℕ)} {P : Prop} {dP : Decidable P}
    {k : PLift P → Prog (TpuEff nD τ sig (Elt F) Λ₀ c.2) α} (h : P) : run c (k ⟨h⟩) Q ⊢ run c (.op (.assume P dP) k) Q :=
  Entails.of_eq (wp_assume_of 𝒱₀ c none Set.univ h).symm

/-! ## One buffer, by its values -/

section
variable (c : Thread nD τ) {sp : Space} {s : Shape} {e : EltTy}

/-- The thread holds the buffer under `m` outright, and `m` reads `g`. -/
def Held (m : Memref sig c.2.kind sp s e) (g : s.Idx → Elt F e) : sProp 𝕄 :=
  iprop(∃ f : Buf (Elt F) (m.view.loc c), ⌜m.view.read (Elt F) f = g⌝ ∗ (m.view.loc c ↦[m.view.set]{fullShare} f))

variable {c}
variable {α : Type} {Q : α → sProp (MT nD τ sig (HIx 1) (Elt F) ℕ UU ℕ)}

/-- A buffer held with some contents is held with any contents equal to them. -/
theorem held_congr {m : Memref sig c.2.kind sp s e} {g g' : s.Idx → Elt F e} (h : ∀ x, g x = g' x) : Held (F := F) c m g ⊢ Held c m g' :=
  Entails.of_eq (congrArg _ (funext h))

/-- A load of the rectangle `r`. -/
theorem held_load {cs : CoreSpace} {m : Memref sig c.2.kind cs s e} {r : Rect s} {hl : m.view.LoadsAt r.toLoadRect}
    {k : (r.shape.Idx → Elt F e) → Prog (TpuEff nD τ sig (Elt F) Λ₀ c.2) α} {g : s.Idx → Elt F e} :
    Held c m g ⊢ iprop((∀ X, ⌜∀ x, X x = g (r.emb x)⌝ -∗ Held c m g -∗ run c (k X) Q) -∗ run c (.op (.load m r.toLoadRect hl) k) Q) := by
  unfold Held
  iintro ⟨%f, %hf, Hf⟩ Hk
  iapply (wp_load_rect 𝒱₀ c none Set.univ (m := m) (r := r) (S := m.view.set) (View.set_slice_subset _ _)) $$ Hf
  iintro Hf
  have h : (m.access r).read (Elt F) f = fun x => g (r.emb x) := by subst hf; rfl
  rw [h]
  iapply Hk
  · ipureintro; exact fun _ => rfl
  iexists f
  isplitr
  · ipureintro; exact hf
  · iexact Hf

/-- A store through the rectangle `r`: the values under it become the payload, the others stay. -/
theorem held_store {cs : CoreSpace} {m : Memref sig c.2.kind cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ c.2) α} {g g' : s.Idx → Elt F e}
    (h₁ : ∀ x, g' (r.emb x) = w x) (h₂ : ∀ y, y ∉ r.set → g' y = g y) :
    Held c m g ⊢ iprop((Held c m g' -∗ run c (k ⟨⟩) Q) -∗ run c (.op (.store m r w Finset.univ hx hm) k) Q) := by
  unfold Held
  iintro ⟨%f, %hf, Hf⟩ Hk
  iapply (wp_store 𝒱₀ c none Set.univ (m := m) (r := r) (S := m.view.set) (by rw [View.setOn_univ]; exact View.set_slice_subset _ _)) $$ Hf
  iintro Hf
  iapply Hk
  iexists _
  isplitr [Hf]
  rotate_left
  · iexact Hf
  · ipureintro
    funext y
    by_cases hy : y ∈ r.set
    · obtain ⟨x, hx⟩ : ∃ x, r.emb x = y := by
        rw [← Rect.map_emb_univ] at hy
        obtain ⟨x, -, hx⟩ := Finset.mem_map.mp hy
        exact ⟨x, hx⟩
      subst hx
      rw [View.read_slice_write_emb _ _ _ (Finset.mem_univ _), h₁]
    · rw [View.read_slice_write_of_not_mem _ _ _ _ (by rwa [Rect.map_emb_univ]), hf, h₂ y hy]

/-- An indexed load. -/
theorem held_loadIdx {m : Memref sig c.2.kind .vmem s e} {t : Shape} {idxs : Fin s.rank → IVec t 32}
    {h : ∀ a x, (idxs a x).toNat < s.size a} {hl : m.view.Loads} {k : Vec F t e → Prog (TpuEff nD τ sig (Elt F) Λ₀ c.2) α} {g : s.Idx → Elt F e} :
    Held c m g ⊢ iprop((∀ X, ⌜∀ x, X x = loadIdx g idxs h x⌝ -∗ Held c m g -∗ run c (k X) Q) -∗ run c (SparseCore.vectorLoadIdx m idxs h hl >>= k) Q) := by
  unfold Held
  iintro ⟨%f, %hf, Hf⟩ Hk
  iapply (SparseCore.wp_vectorLoadIdx 𝒱₀ c none Set.univ (base := m) (S := m.view.set) (View.set_slice_subset _ _)) $$ Hf
  iintro Hf
  have h' : (m.access (.whole s)).read (Elt F) f = g := by
    subst hf; funext x; show m.view.read (Elt F) f ((Rect.whole s).emb x) = _; rw [Rect.emb_whole_apply]
  rw [h']
  iapply Hk
  · ipureintro; exact fun _ => rfl
  iexists f
  isplitr
  · ipureintro; exact hf
  · iexact Hf

/-- An indexed store. -/
theorem held_storeIdx {d : Fin 1 → Nat} {m : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (m.access (.whole s)).Stores Finset.univ}
    {k : PUnit → Prog (TpuEff nD τ sig (Elt F) Λ₀ c.2) α} {g : s.Idx → Elt F e} :
    Held c m g ⊢ iprop((Held c m (storeIdx g idxs v mask add h) -∗ run c (k ⟨⟩) Q)
      -∗ run c (SparseCore.vectorStoreIdx m idxs v mask add h hs >>= k) Q) := by
  unfold Held
  iintro ⟨%f, %hf, Hf⟩ Hk
  have hset : (m.access (.whole s)).set = m.view.set := by rw [View.set_slice, Rect.set_whole]; rfl
  ihave Hf' := (Entails.of_eq (congrArg (fun S => (m.view.loc c ↦[S]{fullShare} f : sProp 𝕄)) hset.symm)) $$ Hf
  iapply (SparseCore.wp_vectorStoreIdx 𝒱₀ c none Set.univ (base := m)) $$ Hf'
  iintro Hf
  ihave Hf' := (Entails.of_eq (congrArg (fun S => (m.view.loc c ↦[S]{fullShare} _ : sProp 𝕄)) hset)) $$ Hf
  iapply Hk
  iexists _
  isplitr [Hf']
  rotate_left
  · iexact Hf'
  · ipureintro
    have h' : (m.access (.whole s)).read (Elt F) f = g := by
      subst hf; funext x; show m.view.read (Elt F) f ((Rect.whole s).emb x) = _; rw [Rect.emb_whole_apply]
    funext y
    rw [h']
    conv_lhs => rw [show y = (Rect.whole s).emb y from (Rect.emb_whole_apply s y).symm]
    exact View.read_slice_write_emb _ _ _ (Finset.mem_univ _)

/-- A scalar load of a word of scalar memory. -/
theorem held_smemLoad {m : Memref sig c.2.kind .smem s e} {r : Rect s} {h1 : r.shape.numel = 1} {hp : e.packing = 1}
    {k : Elt F e → Prog (TpuEff nD τ sig (Elt F) Λ₀ c.2) α} {g : s.Idx → Elt F e} :
    Held c m g ⊢ iprop((∀ X, ⌜X = g (r.emb (Shape.Idx.first (h1.symm ▸ Nat.one_pos)))⌝ -∗ Held c m g -∗ run c (k X) Q)
      -∗ run c (smemLoad m r h1 hp >>= k) Q) := by
  unfold Held
  iintro ⟨%f, %hf, Hf⟩ Hk
  rw [show (smemLoad m r h1 hp >>= k) = smemLoadElt m r (View.loads_smem_one hp h1) (Shape.Idx.first (h1.symm ▸ Nat.one_pos)) k from rfl]
  iapply (wp_smemLoadElt 𝒱₀ c none Set.univ (m := m) (r := r) (hw := View.loads_smem_one hp h1) (S := m.view.set) (View.set_slice_subset _ _)) $$ Hf
  iintro Hf
  have h : (m.access r).read (Elt F) f = fun x => g (r.emb x) := by subst hf; rfl
  rw [h]
  iapply Hk
  · ipureintro; exact rfl
  iexists f
  isplitr
  · ipureintro; exact hf
  · iexact Hf
end

end Cert.Proof.Eq
-- ==== Proof.Spec.lean ====
/-
  What the kernel computes for one channel plane, as plain functions of the plane's pixels `pix : ℕ → BitVec 32` (the pixel
  in row `n / 512` and column `n % 512` at number `n`): the histogram after some vectors of sixteen pixels, the packed words,
  and what one vector of the counting and of the lookup loops does to them.
-/
module

public import Mathlib.Tactic.IntervalCases
public import Idealize.ShloMosaic.Lib.Pipeline.Value
public import proofs.«01_k».proof.Proof.Gen.KernelIdeal.Skeleton

@[expose] public section

namespace Cert.Proof.Eq

open Cert.KernelIdeal Cert.KernelIdeal.Gen
open Idealize.ShloMosaic

/-- The lane numbers. -/
def lanes : IVec S16 32 := fun x => BitVec.ofNat 32 (x 0).val

/-- Every pixel is a byte. -/
def Bytes (pix : ℕ → BitVec 32) : Prop := ∀ n, (pix n).toNat < 256

/-- The input chunk `j` of a plane: its rows `32 j` to `32 j + 31`. -/
def chunkAt (pix : ℕ → BitVec 32) (j : ℕ) : S32x512.Idx → BitVec 32 := fun x => pix (16384 * j + (512 * (x 0).val + (x 1).val))

/-- Among the first `g` vectors of sixteen pixels, those whose lane `l` holds the value `v`. -/
def laneCount (pix : ℕ → BitVec 32) (g l v : ℕ) : ℕ := ((Finset.range g).filter fun g' => (pix (16 * g' + l)).toNat = v).card

/-- The per-lane histogram after `g` vectors of sixteen pixels: lane `l`'s count of the value `v` in cell `16 v + l`. -/
def histAt (pix : ℕ → BitVec 32) (g : ℕ) : S4096.Idx → BitVec 32 :=
  fun i => BitVec.ofNat 32 (laneCount pix g ((i 0).val % 16) ((i 0).val / 16))

/-- Packed word `w`: the lane `w % 16` of the four vectors of group `w / 16`, one byte each. -/
def packAt (pix : ℕ → BitVec 32) (w : ℕ) : BitVec 32 :=
  pix (64 * (w / 16) + w % 16) ||| pix (64 * (w / 16) + 16 + w % 16) <<< 8 ||| pix (64 * (w / 16) + 32 + w % 16) <<< 16
    ||| pix (64 * (w / 16) + 48 + w % 16) <<< 24

/-- A lookup table, one copy of each entry per lane. -/
def lutAt (lut : ℕ → BitVec 32) : S4096.Idx → BitVec 32 := fun i => lut ((i 0).val / 16)

variable {pix : ℕ → BitVec 32}

/-- Before the first group a lane has counted nothing. -/
theorem laneCount_zero (l v : ℕ) : laneCount pix 0 l v = 0 := rfl

/-- One group more adds one to the lane's count of the value that it meets. -/
theorem laneCount_succ (g l v : ℕ) : laneCount pix (g + 1) l v = laneCount pix g l v + if (pix (16 * g + l)).toNat = v then 1 else 0 := by
  unfold laneCount
  rw [Finset.range_add_one, Finset.filter_insert]
  split
  · rw [Finset.card_insert_of_notMem (by simp)]
  · simp

/-- Before the first group the histogram is zero. -/
theorem histAt_zero : histAt pix 0 = fun _ => 0#32 := rfl

/-- Cells of one histogram row incremented lane by lane: the fold's value at a cell. -/
theorem foldl_incr {N : ℕ} (P : Fin N → S4096.Idx → Prop) [∀ k j, Decidable (P k j)] (l : List (Fin N)) (f : S4096.Idx → BitVec 32) (j : S4096.Idx) :
    (l.foldl (fun g k => fun j => if P k j then g j + 1#32 else g j) f) j = f j + BitVec.ofNat 32 (l.countP fun k => decide (P k j)) := by
  induction l generalizing f with
  | nil => simp
  | cons k l ih =>
    rw [List.foldl_cons, ih, List.countP_cons]
    by_cases h : P k j
    · simp only [h, if_true, decide_true]
      rw [BitVec.add_assoc, Nat.add_comm, BitVec.ofNat_add]
    · simp [h]

/-- A pixel's histogram cell. -/
theorem cell_toNat {v : BitVec 32} (hv : v.toNat < 256) {l : ℕ} (hl : l < 16) : (IntOp.addi (IntOp.shli .vector v 4#32) (BitVec.ofNat 32 l)).toNat = 16 * v.toNat + l := by
  have h : IntOp.shli .vector v 4#32 = v <<< (4#32) := if_pos (by decide)
  rw [h]
  show (v <<< (4#32) + BitVec.ofNat 32 l).toNat = _
  rw [BitVec.toNat_add, BitVec.toNat_ofNat, show v <<< (4#32) = v <<< 4 from rfl, BitVec.toNat_shiftLeft, Nat.shiftLeft_eq]
  omega

/-- The cells a counted vector names. -/
theorem pay4_toNat (hpix : Bytes pix) (g : ℕ) {F : FTy → Type} {x : Vec F S1x16 .i32} (hx : ∀ y, x y = pix (16 * g + (y 1).val)) (y : S16.Idx) :
    (k0_pay4 (F := F) lanes x y).toNat = 16 * (pix (16 * g + (y 0).val)).toNat + (y 0).val := by
  have e : k0_pay3 (F := F) x y = pix (16 * g + (y 0).val) := by
    show shapeCast S16 x shapeCasts_S1x16_S16 y = _
    rw [shapeCast_dropUnit_apply (n := 1) ![16] x shapeCasts_S1x16_S16 y, hx]; rfl
  show (IntOp.addi (IntOp.shli .vector (k0_pay3 (F := F) x y) 4#32) (BitVec.ofNat 32 (y 0).val)).toNat = _
  rw [e]
  exact cell_toNat (hpix _) (y 0).isLt

/-- The cell that a lane adds to: sixteen times its pixel, and the lane. -/
theorem pay3_apply (g : ℕ) {F : FTy → Type} {x : Vec F S1x16 .i32} (hx : ∀ y, x y = pix (16 * g + (y 1).val)) (y : S16.Idx) :
    k0_pay3 (F := F) x y = pix (16 * g + (y 0).val) := by
  show shapeCast S16 x shapeCasts_S1x16_S16 y = _
  rw [shapeCast_dropUnit_apply (n := 1) ![16] x shapeCasts_S1x16_S16 y, hx]; rfl

/-- These cells lie within the histogram. -/
theorem chk_count (hpix : Bytes pix) (g : ℕ) {F : FTy → Type} {x : Vec F S1x16 .i32} (hx : ∀ y, x y = pix (16 * g + (y 1).val)) :
    k0_chk1 (k0_pay4 (F := F) lanes x) := by
  intro a y
  obtain rfl : a = 0 := Fin.eq_zero a
  show (k0_pay4 (F := F) lanes x y).toNat < 4096
  rw [pay4_toNat hpix g hx]
  have h1 := hpix (16 * g + (y 0).val); have h2 : (y 0).val < 16 := (y 0).isLt
  omega

/-- One vector counted: the histogram after one vector more. -/
theorem storeIdx_hist (hpix : Bytes pix) (g : ℕ) {F : FTy → Type} [FloatOps F] {x : Vec F S1x16 .i32} (hx : ∀ y, x y = pix (16 * g + (y 1).val))
    (h : ∀ a y, ((![k0_pay4 (F := F) lanes x] : Fin 1 → IVec S16 32) a y).toNat < S4096.size a) :
    storeIdx (F := F) (e := .i32) (histAt pix g) ![k0_pay4 (F := F) lanes x] k0_pay1 (fun _ => 1#1) true h = histAt pix (g + 1) := by
  funext j
  have hP : ∀ k : Fin 16, (∀ a, (j a).val = (idxAt ![k0_pay4 (F := F) lanes x] h (Shape.ofLane k : S16.Idx) a).val)
      ↔ (k.val = (j 0).val % 16 ∧ (pix (16 * g + (j 0).val % 16)).toNat = (j 0).val / 16) := by
    intro k
    have e := pay4_toNat hpix g hx (Shape.ofLane k : S16.Idx)
    have hk : ((Shape.ofLane k : S16.Idx) 0).val = k.val := rfl
    rw [hk] at e
    constructor
    · intro H
      have := H 0
      have h0 : (j 0).val = (k0_pay4 (F := F) lanes x (Shape.ofLane k : S16.Idx)).toNat := this
      rw [e] at h0
      have h1 := hpix (16 * g + k.val)
      have h2 : (j 0).val % 16 = k.val := by omega
      rw [h2]
      refine ⟨rfl, by omega⟩
    · rintro ⟨h1, h2⟩ a
      obtain rfl : a = 0 := Fin.eq_zero a
      show (j 0).val = (k0_pay4 (F := F) lanes x (Shape.ofLane k : S16.Idx)).toNat
      rw [e, h1, h2]; omega
  have hf : storeIdx (F := F) (e := .i32) (histAt pix g) ![k0_pay4 (F := F) lanes x] k0_pay1 (fun _ => 1#1) true h
      = (List.finRange 16).foldl (fun (f : S4096.Idx → BitVec 32) (k : Fin 16) => fun j => if (∀ a, (j a).val = (idxAt ![k0_pay4 (F := F) lanes x] h (Shape.ofLane k : S16.Idx) a).val) then f j + 1#32 else f j) (histAt pix g) := by
    unfold storeIdx
    show (List.finRange 16).foldl _ _ = (List.finRange 16).foldl _ _
    congr 1
    funext f k j
    have hm : ((fun _ => 1#1 : IVec S16 1) (Shape.ofLane k)) = 1 := rfl
    rw [if_pos hm]
    simp only [if_true]
    by_cases hc : ∀ a, (j a).val = (idxAt ![k0_pay4 (F := F) lanes x] h (Shape.ofLane k : S16.Idx) a).val
    · rw [if_pos hc, if_pos hc]
      have : j = idxAt ![k0_pay4 (F := F) lanes x] h (Shape.ofLane k : S16.Idx) := funext fun a => Fin.ext (hc a)
      rw [this]; rfl
    · rw [if_neg hc, if_neg hc]
  rw [hf, foldl_incr]
  unfold histAt
  rw [laneCount_succ, ← BitVec.ofNat_add]
  congr 2
  have hl : (j 0).val % 16 < 16 := Nat.mod_lt _ (by decide)
  by_cases hc : (pix (16 * g + (j 0).val % 16)).toNat = (j 0).val / 16
  · rw [if_pos hc]
    have : ∀ k : Fin 16, decide (∀ a, (j a).val = (idxAt ![k0_pay4 (F := F) lanes x] h (Shape.ofLane k : S16.Idx) a).val) = decide (k = ⟨(j 0).val % 16, hl⟩) := by
      intro k; rw [decide_eq_decide, hP k]; constructor
      · rintro ⟨h1, -⟩; exact Fin.ext h1
      · rintro rfl; exact ⟨rfl, hc⟩
    simp only [this]
    generalize (⟨(j 0).val % 16, hl⟩ : Fin 16) = q
    revert q; decide
  · rw [if_neg hc, List.countP_eq_zero]
    intro k _ hk
    exact hc ((hP k).mp (of_decide_eq_true hk)).2

/-! ## Packing -/

/-- A trip's packed vector. -/
theorem pay259_apply (u : ℕ) {F : FTy → Type} {a b c d : Vec F S16 .i32}
    (ha : ∀ y, a y = pix (16 * (4 * u) + (y 0).val)) (hb : ∀ y, b y = pix (16 * (4 * u + 1) + (y 0).val))
    (hc : ∀ y, c y = pix (16 * (4 * u + 2) + (y 0).val)) (hd : ∀ y, d y = pix (16 * (4 * u + 3) + (y 0).val)) (y : S16.Idx) :
    k0_pay259 (F := F) a b c d 8#32 y = packAt pix (16 * u + (y 0).val) := by
  have hy : (y 0).val < 16 := (y 0).isLt
  show IntOp.ori (IntOp.ori (IntOp.ori (a y) (IntOp.shli .vector (b y) 8#32)) (IntOp.shli .vector (c y) 16#32)) (IntOp.shli .vector (d y) 24#32) = _
  have s8 : ∀ v : BitVec 32, IntOp.shli .vector v 8#32 = v <<< 8 := fun v => if_pos (by decide)
  have s16 : ∀ v : BitVec 32, IntOp.shli .vector v 16#32 = v <<< 16 := fun v => if_pos (by decide)
  have s24 : ∀ v : BitVec 32, IntOp.shli .vector v 24#32 = v <<< 24 := fun v => if_pos (by decide)
  rw [s8, s16, s24, ha, hb, hc, hd]
  unfold packAt
  have h1 : (16 * u + (y 0).val) / 16 = u := by omega
  have h2 : (16 * u + (y 0).val) % 16 = (y 0).val := by omega
  rw [h1, h2]
  rw [show 16 * (4 * u) + (y 0).val = 64 * u + (y 0).val by omega, show 16 * (4 * u + 1) + (y 0).val = 64 * u + 16 + (y 0).val by omega,
    show 16 * (4 * u + 2) + (y 0).val = 64 * u + 32 + (y 0).val by omega, show 16 * (4 * u + 3) + (y 0).val = 64 * u + 48 + (y 0).val by omega]
  rfl

/-- A byte has no bit from the eighth on. -/
theorem byte_bits {a : BitVec 32} (h : a.toNat < 256) (i : ℕ) (hi : 8 ≤ i) : a.getLsbD i = false := by
  rw [BitVec.getLsbD, Nat.testBit_lt_two_pow]
  exact lt_of_lt_of_le h (show 2 ^ 8 ≤ 2 ^ i from Nat.pow_le_pow_right (by decide) hi)

/-- The same, of the bit read by its place in the word. -/
theorem byte_bits' {a : BitVec 32} (h : a.toNat < 256) (i : ℕ) (hi : i < 32) (h8 : 8 ≤ i) : a[i] = false := byte_bits h i h8

section Bytes
variable {a b c d : BitVec 32} (ha : a.toNat < 256) (hb : b.toNat < 256) (hc : c.toNat < 256) (hd : d.toNat < 256)
include ha hb hc hd

/-- The four bytes of a packed word, each times sixteen. -/
theorem unpack₀ : (a ||| b <<< 8 ||| c <<< 16 ||| d <<< 24) <<< 4 &&& 4080#32 = a <<< 4 := by
  have Ha := byte_bits' ha
  apply BitVec.eq_of_getLsbD_eq
  intro i hi
  interval_cases i <;> simp [Ha]
/-- The second byte of a packed word, times sixteen. -/
theorem unpack₁ : (a ||| b <<< 8 ||| c <<< 16 ||| d <<< 24) >>> 4 &&& 4080#32 = b <<< 4 := by
  have Ha := byte_bits' ha; have Hb := byte_bits' hb
  apply BitVec.eq_of_getLsbD_eq
  intro i hi
  interval_cases i <;> simp [Ha, Hb]
/-- The third byte, times sixteen. -/
theorem unpack₂ : (a ||| b <<< 8 ||| c <<< 16 ||| d <<< 24) >>> 12 &&& 4080#32 = c <<< 4 := by
  have Ha := byte_bits' ha; have Hb := byte_bits' hb; have Hc := byte_bits' hc
  apply BitVec.eq_of_getLsbD_eq
  intro i hi
  interval_cases i <;> simp [Ha, Hb, Hc]
/-- The fourth byte, times sixteen. -/
theorem unpack₃ : (a ||| b <<< 8 ||| c <<< 16 ||| d <<< 24) >>> 20 &&& 4080#32 = d <<< 4 := by
  have Ha := byte_bits' ha; have Hb := byte_bits' hb; have Hc := byte_bits' hc; have Hd := byte_bits' hd
  apply BitVec.eq_of_getLsbD_eq
  intro i hi
  interval_cases i <;> simp [Ha, Hb, Hc, Hd]
end Bytes

/-! ## Lookup -/

/-- The cells a lookup vector names, and what the table holds there. -/
def Names (pix : ℕ → BitVec 32) (g : ℕ) (ix : IVec S16 32) : Prop := ∀ y, (ix y).toNat = 16 * (pix (16 * g + (y 0).val)).toNat + (y 0).val

/-- The cell of a byte and a lane, as a natural. -/
theorem cell_toNat' {v : BitVec 32} (hv : v.toNat < 256) {l : ℕ} (hl : l < 16) : (IntOp.addi (v <<< 4) (BitVec.ofNat 32 l)).toNat = 16 * v.toNat + l := by
  have := cell_toNat hv hl
  rwa [show IntOp.shli .vector v 4#32 = v <<< 4 from if_pos (by decide)] at this

section
variable (hpix : Bytes pix) (u : ℕ) {F : FTy → Type} {w : Vec F S16 .i32} (hw : ∀ y, w y = packAt pix (16 * u + (y 0).val))
include hpix hw

/-- A packed word is made of one lane's pixels of four groups. -/
theorem packed_word (y : S16.Idx) : w y = pix (16 * (4 * u) + (y 0).val) ||| pix (16 * (4 * u + 1) + (y 0).val) <<< 8
    ||| pix (16 * (4 * u + 2) + (y 0).val) <<< 16 ||| pix (16 * (4 * u + 3) + (y 0).val) <<< 24 := by
  have hy : (y 0).val < 16 := (y 0).isLt
  rw [hw]; unfold packAt
  have h1 : (16 * u + (y 0).val) / 16 = u := by omega
  have h2 : (16 * u + (y 0).val) % 16 = (y 0).val := by omega
  rw [h1, h2]
  rw [show 16 * (4 * u) + (y 0).val = 64 * u + (y 0).val by omega, show 16 * (4 * u + 1) + (y 0).val = 64 * u + 16 + (y 0).val by omega,
    show 16 * (4 * u + 2) + (y 0).val = 64 * u + 32 + (y 0).val by omega, show 16 * (4 * u + 3) + (y 0).val = 64 * u + 48 + (y 0).val by omega]

/-- The first list of cells taken from a packed vector names the first group's pixels. -/
theorem names₀ : Names pix (4 * u) (k0_pay133 (F := F) lanes w) := by
  intro y
  have hy : (y 0).val < 16 := (y 0).isLt
  show (IntOp.addi (IntOp.andi (IntOp.shli .vector (w y) 4#32) 4080#32) (BitVec.ofNat 32 (y 0).val)).toNat = _
  rw [show IntOp.shli .vector (w y) 4#32 = w y <<< 4 from if_pos (by decide), packed_word hpix u hw]
  show (IntOp.addi ((_ : BitVec 32) <<< 4 &&& 4080#32) _).toNat = _
  rw [unpack₀ (hpix _) (hpix _) (hpix _) (hpix _)]
  exact cell_toNat' (hpix _) hy
/-- The second list names the second group's. -/
theorem names₁ : Names pix (4 * u + 1) (k0_pay134 (F := F) lanes w) := by
  intro y
  have hy : (y 0).val < 16 := (y 0).isLt
  show (IntOp.addi (IntOp.andi (IntOp.shrui .vector (w y) 4#32) 4080#32) (BitVec.ofNat 32 (y 0).val)).toNat = _
  rw [show IntOp.shrui .vector (w y) 4#32 = w y >>> 4 from if_pos (by decide), packed_word hpix u hw]
  show (IntOp.addi ((_ : BitVec 32) >>> 4 &&& 4080#32) _).toNat = _
  rw [unpack₁ (hpix _) (hpix _) (hpix _) (hpix _)]
  exact cell_toNat' (hpix _) hy
/-- The third list names the third group's. -/
theorem names₂ : Names pix (4 * u + 2) (addi (k0_pay131 (F := F) w) lanes) := by
  intro y
  have hy : (y 0).val < 16 := (y 0).isLt
  show (IntOp.addi (IntOp.andi (IntOp.shrui .vector (w y) 12#32) 4080#32) (BitVec.ofNat 32 (y 0).val)).toNat = _
  rw [show IntOp.shrui .vector (w y) 12#32 = w y >>> 12 from if_pos (by decide), packed_word hpix u hw]
  show (IntOp.addi ((_ : BitVec 32) >>> 12 &&& 4080#32) _).toNat = _
  rw [unpack₂ (hpix _) (hpix _) (hpix _) (hpix _)]
  exact cell_toNat' (hpix _) hy
/-- The fourth list names the fourth group's. -/
theorem names₃ : Names pix (4 * u + 3) (addi (k0_pay132 (F := F) w) lanes) := by
  intro y
  have hy : (y 0).val < 16 := (y 0).isLt
  show (IntOp.addi (IntOp.andi (IntOp.shrui .vector (w y) 20#32) 4080#32) (BitVec.ofNat 32 (y 0).val)).toNat = _
  rw [show IntOp.shrui .vector (w y) 20#32 = w y >>> 20 from if_pos (by decide), packed_word hpix u hw]
  show (IntOp.addi ((_ : BitVec 32) >>> 20 &&& 4080#32) _).toNat = _
  rw [unpack₃ (hpix _) (hpix _) (hpix _) (hpix _)]
  exact cell_toNat' (hpix _) hy
end

/-- Cells that name pixels lie within the table. -/
theorem chk_names (hpix : Bytes pix) {g : ℕ} {ix : IVec S16 32} (h : Names pix g ix) : k0_chk65 ix := by
  intro a y
  obtain rfl : a = 0 := Fin.eq_zero a
  show (ix y).toNat < 4096
  have h1 := hpix (16 * g + (y 0).val); have h2 : (y 0).val < 16 := (y 0).isLt
  rw [h]; omega

/-- Read from the spread table through such a list, each lane gets its pixel's entry. -/
theorem loadIdx_lut {F : FTy → Type} {g : ℕ} {ix : IVec S16 32} (h : Names pix g ix) (lut : ℕ → BitVec 32)
    (hin : ∀ a y, ((![ix] : Fin 1 → IVec S16 32) a y).toNat < S4096.size a) (y : S16.Idx) :
    loadIdx (F := F) (e := .i32) (lutAt lut) ![ix] hin y = lut (pix (16 * g + (y 0).val)).toNat := by
  show lut ((ix y).toNat / 16) = _
  have h2 : (y 0).val < 16 := (y 0).isLt
  rw [h]; congr 1; omega

end Cert.Proof.Eq
-- ==== Proof.Trips.lean ====
/-
  The trips of the kernel's counted loops, each stated once: the counting trip (four vectors of sixteen pixels counted into the
  per-lane histogram, their bytes packed into words) and the lookup trip (one vector of packed words unpacked, looked up in the
  table, stored), with what the thread holds before and after; then the two loops over them. Every printed loop body of the
  kernel is one of these two by definition, at its own buffers and offsets.
-/
module

public import proofs.«01_k».proof.Proof.Held
public import proofs.«01_k».proof.Proof.Spec

@[expose] public section

noncomputable section

namespace Cert.Proof.Eq

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (i : grid0.Coords)

-- the operations of a vector subcore at grid coordinates `i`
local notation "TE" => TpuEff nD τ sig (Elt F) Λ₀ (Proc.scVector (Fin.castLE hcore0 (i 0)) (Fin.castLE hsub0 (i 1)))

/-- One sixteen-pixel vector of an input chunk counted: loaded at offsets `o`, each pixel's cell of the per-lane
    histogram incremented; the vector returned. -/
def countVec (buf : Memref sig .scVector .vmem S32x512 .i32) (hist : Memref sig .scVector .vmem S4096 .i32) (v2 v5 : IVec S16 32)
    (o : Fin 2 → Nat) (ho : ∀ a, o a + S1x16.size a ≤ S32x512.size a) : Prog TE (Vec F S16 .i32) := do
  let x : Vec F S1x16 .i32 ← Prog.lift (.load buf (Rect.unit (s := S32x512) o S1x16.size ho).toLoadRect (View.loadsAt_vmem h_S1x16))
  have hw : k0_chk1 (k0_pay4 v2 x) := (← Prog.lift (TpuEff.assume (k0_chk1 (k0_pay4 v2 x)) (k0_chk1.dec (k0_pay4 v2 x)))).down
  SparseCore.vectorStoreIdx hist ![k0_pay4 v2 x] v5 (fun _ => 1#1) true (k0_idx1_inb (k0_pay4 v2 x) hw) (View.stores_vmem_bits_univ h_S4096 rfl)
  pure (k0_pay3 x)

/-- A trip of a counting loop: four vectors counted, their bytes packed into one vector of words. -/
def countTrip (buf : Memref sig .scVector .vmem S32x512 .i32) (packed : Memref sig .scVector .vmem S65536 .i32)
    (hist : Memref sig .scVector .vmem S4096 .i32) (v2 v5 : IVec S16 32)
    (o₀ o₁ o₂ o₃ : Fin 2 → Nat) (h₀ : ∀ a, o₀ a + S1x16.size a ≤ S32x512.size a) (h₁ : ∀ a, o₁ a + S1x16.size a ≤ S32x512.size a)
    (h₂ : ∀ a, o₂ a + S1x16.size a ≤ S32x512.size a) (h₃ : ∀ a, o₃ a + S1x16.size a ≤ S32x512.size a)
    (p : Fin 1 → Nat) (hp : ∀ a, p a + S16.size a ≤ S65536.size a) : Prog TE PUnit := do
  let a ← countVec i buf hist v2 v5 o₀ h₀
  let b ← countVec i buf hist v2 v5 o₁ h₁
  let c ← countVec i buf hist v2 v5 o₂ h₂
  let d ← countVec i buf hist v2 v5 o₃ h₃
  let _ ← Prog.lift (.load packed (Rect.unit (s := S65536) p S16.size hp).toLoadRect (View.loadsAt_vmem h_S16))
  Prog.lift (.store packed (Rect.unit (s := S65536) p S16.size hp) (k0_pay259 a b c d 8#32) Finset.univ (View.stores_vmem_bits_univ h_S16 rfl) (.inl rfl))
  pure ⟨⟩

/-- One sixteen-pixel vector of an output chunk: the table looked up at `ix`, stored at offsets `o`. -/
def lookVec (out : Memref sig .scVector .vmem S16x512 .i32) (lut : Memref sig .scVector .vmem S4096 .i32) (ix : IVec S16 32)
    (o : Fin 2 → Nat) (ho : ∀ a, o a + S1x16.size a ≤ S16x512.size a) : Prog TE PUnit := do
  have hw : k0_chk65 ix := (← Prog.lift (TpuEff.assume (k0_chk65 ix) (k0_chk65.dec ix))).down
  let y : Vec F S16 .i32 ← SparseCore.vectorLoadIdx lut ![ix] (k0_idx65_inb ix hw) (View.loads_vmem h_S4096)
  let _ ← Prog.lift (.load out (Rect.unit (s := S16x512) o S1x16.size ho).toLoadRect (View.loadsAt_vmem h_S1x16))
  Prog.lift (.store out (Rect.unit (s := S16x512) o S1x16.size ho) (shapeCast S1x16 y shapeCasts_S16_S1x16) Finset.univ (View.stores_vmem_bits_univ h_S1x16 rfl) (.inl rfl))
  pure ⟨⟩

/-- A trip of a lookup loop: one vector of packed words read, its four byte vectors looked up and stored. -/
def lookTrip (out : Memref sig .scVector .vmem S16x512 .i32) (packed : Memref sig .scVector .vmem S65536 .i32)
    (lut : Memref sig .scVector .vmem S4096 .i32) (v2 : IVec S16 32)
    (p : Fin 1 → Nat) (hp : ∀ a, p a + S16.size a ≤ S65536.size a)
    (o₀ o₁ o₂ o₃ : Fin 2 → Nat) (h₀ : ∀ a, o₀ a + S1x16.size a ≤ S16x512.size a) (h₁ : ∀ a, o₁ a + S1x16.size a ≤ S16x512.size a)
    (h₂ : ∀ a, o₂ a + S1x16.size a ≤ S16x512.size a) (h₃ : ∀ a, o₃ a + S1x16.size a ≤ S16x512.size a) : Prog TE PUnit := do
  let w : Vec F S16 .i32 ← Prog.lift (.load packed (Rect.unit (s := S65536) p S16.size hp).toLoadRect (View.loadsAt_vmem h_S16))
  lookVec i out lut (k0_pay133 v2 w) o₀ h₀
  lookVec i out lut (k0_pay134 v2 w) o₁ h₁
  lookVec i out lut (addi (k0_pay131 w) v2) o₂ h₂
  lookVec i out lut (addi (k0_pay132 w) v2) o₃ h₃

/-! ## What the thread holds -/

local notation "𝕄" => MT nD τ sig (HIx 1) (Elt F) ℕ UU ℕ

/-- The vector subcore at grid coordinates `i`. -/
abbrev tile (d : Dev nD) : Thread nD τ := V d (Fin.castLE hcore0 (i 0)) (Fin.castLE hsub0 (i 1))

variable (d : Dev nD)

/-- The packed words below `n` are the plane's. -/
def PackedTo (packed : Memref sig .scVector .vmem S65536 .i32) (pix : ℕ → BitVec 32) (n : ℕ) : sProp 𝕄 :=
  iprop(∃ P : S65536.Idx → BitVec 32, ⌜∀ x, (x 0).val < n → P x = packAt pix (x 0).val⌝ ∗ Held (F := F) (tile i d) packed P)

/-- During the counting of chunk `j`, `u` groups of four vectors of the plane counted. -/
def Counting (buf : Memref sig .scVector .vmem S32x512 .i32) (packed : Memref sig .scVector .vmem S65536 .i32)
    (hist : Memref sig .scVector .vmem S4096 .i32) (pix : ℕ → BitVec 32) (j u : ℕ) : sProp 𝕄 :=
  iprop(Held (F := F) (tile i d) buf (chunkAt pix j) ∗ Held (F := F) (tile i d) hist (histAt pix (4 * u)) ∗ PackedTo i d packed pix (16 * u))

/-! The row and column of the vectors of trip `t`. -/
theorem off4 : ∀ t : Fin k0_t3_loop.trips, k0_off4 t = ![t.val / 8, 64 * (t.val % 8)] := by decide +kernel
/-- The place of a trip's second vector of pixels. -/
theorem off5 : ∀ t : Fin k0_t3_loop.trips, k0_off5 t = ![t.val / 8, 64 * (t.val % 8) + 16] := by decide +kernel
/-- The place of its third. -/
theorem off6 : ∀ t : Fin k0_t3_loop.trips, k0_off6 t = ![t.val / 8, 64 * (t.val % 8) + 32] := by decide +kernel
/-- The place of its fourth. -/
theorem off7 : ∀ t : Fin k0_t3_loop.trips, k0_off7 t = ![t.val / 8, 64 * (t.val % 8) + 48] := by decide +kernel

section
variable {i d} {pix : ℕ → BitVec 32} (hpix : Bytes pix)
  {buf : Memref sig .scVector .vmem S32x512 .i32} {packed : Memref sig .scVector .vmem S65536 .i32} {hist : Memref sig .scVector .vmem S4096 .i32}
include hpix

/-- One vector counted. -/
theorem countVec_run (j g : ℕ) {o : Fin 2 → Nat} (ho : ∀ a, o a + S1x16.size a ≤ S32x512.size a) {r cl : ℕ} (hro : o = ![r, cl])
    (e : 16384 * j + (512 * r + cl) = 16 * g) :
    iprop(Held (F := F) (tile i d) buf (chunkAt pix j) ∗ Held (F := F) (tile i d) hist (histAt pix g))
      ⊢ run (tile i d) (countVec i buf hist lanes k0_pay1 o ho)
          (fun v => iprop(⌜∀ y, v y = pix (16 * g + (y 0).val)⌝ ∗ Held (F := F) (tile i d) buf (chunkAt pix j) ∗ Held (F := F) (tile i d) hist (histAt pix (g + 1)))) := by
  have hx : ∀ y : S1x16.Idx, chunkAt pix j ((Rect.unit (s := S32x512) o S1x16.size ho).emb y) = pix (16 * g + (y 1).val) := by
    intro y
    have h0 : (y 0).val = 0 := by have : (y 0).val < 1 := (y 0).isLt; omega
    unfold chunkAt
    rw [Rect.emb_apply, Rect.emb_apply]
    congr 1
    subst hro
    show 16384 * j + (512 * (r + 1 * (y 0).val) + (cl + 1 * (y 1).val)) = _
    omega
  unfold countVec
  simp only [Prog.lift, Prog.bind_op, Prog.bind_ret, Prog.pure_eq_ret]
  iintro ⟨HA, HH⟩
  iapply (held_load (c := tile i d) (m := buf)) $$ HA
  iintro %X %hX HA
  have hX' : ∀ y : S1x16.Idx, X y = pix (16 * g + (y 1).val) := fun y => (hX y).trans (hx y)
  iapply (run_assume (c := tile i d) (chk_count (F := F) hpix g hX'))
  iapply (held_storeIdx (c := tile i d) (m := hist)) $$ HH
  iintro HH
  rw [storeIdx_hist hpix g hX']
  iapply (le_wp_ret _ _ _ _ _)
  isplitr
  · ipureintro; exact fun y => pay3_apply g hX' y
  · isplitl [HA] <;> iassumption

/-- A counting trip: four vectors counted, their sixteen words packed. -/
theorem countTrip_run (j u : ℕ) {o₀ o₁ o₂ o₃ : Fin 2 → Nat} (h₀ : ∀ a, o₀ a + S1x16.size a ≤ S32x512.size a) (h₁ : ∀ a, o₁ a + S1x16.size a ≤ S32x512.size a)
    (h₂ : ∀ a, o₂ a + S1x16.size a ≤ S32x512.size a) (h₃ : ∀ a, o₃ a + S1x16.size a ≤ S32x512.size a)
    {p : Fin 1 → Nat} (hp : ∀ a, p a + S16.size a ≤ S65536.size a) {r cl : ℕ} (e₀ : o₀ = ![r, cl]) (e₁ : o₁ = ![r, cl + 16])
    (e₂ : o₂ = ![r, cl + 32]) (e₃ : o₃ = ![r, cl + 48]) (e : 16384 * j + (512 * r + cl) = 64 * u) (ep : p = ![16 * u]) :
    Counting (F := F) i d buf packed hist pix j u
      ⊢ run (tile i d) (countTrip i buf packed hist lanes k0_pay1 o₀ o₁ o₂ o₃ h₀ h₁ h₂ h₃ p hp) (fun _ => Counting (F := F) i d buf packed hist pix j (u + 1)) := by
  unfold Counting PackedTo countTrip
  iintro ⟨HA, HH, %P, %hP, HP⟩
  iapply (run_head (countVec_run (F := F) (i := i) (d := d) hpix j (4 * u) h₀ e₀ (by omega))) $$ [HA HH]
  · isplitl [HA] <;> iassumption
  iintro %a ⟨%ha, HA, HH⟩
  iapply (run_head (countVec_run (F := F) (i := i) (d := d) hpix j (4 * u + 1) h₁ e₁ (by omega))) $$ [HA HH]
  · isplitl [HA] <;> iassumption
  iintro %b ⟨%hb, HA, HH⟩
  iapply (run_head (countVec_run (F := F) (i := i) (d := d) hpix j (4 * u + 2) h₂ e₂ (by omega))) $$ [HA HH]
  · isplitl [HA] <;> iassumption
  iintro %b' ⟨%hb', HA, HH⟩
  iapply (run_head (countVec_run (F := F) (i := i) (d := d) hpix j (4 * u + 3) h₃ e₃ (by omega))) $$ [HA HH]
  · isplitl [HA] <;> iassumption
  iintro %c ⟨%hc, HA, HH⟩
  simp only [Prog.lift, Prog.bind_op, Prog.bind_ret, Prog.pure_eq_ret]
  iapply (held_load (c := tile i d) (m := packed)) $$ HP
  iintro %X %hX HP
  have hemb : ∀ x, ((Rect.unit (s := S65536) p S16.size hp).emb x 0).val = 16 * u + (x 0).val := by
    intro x; rw [Rect.emb_apply]; subst ep; show 16 * u + 1 * (x 0).val = _; omega
  iapply (held_store (c := tile i d) (m := packed) (g' := fun x => if 16 * u ≤ (x 0).val ∧ (x 0).val < 16 * (u + 1) then packAt pix (x 0).val else P x) ?h1 ?h2) $$ HP
  case h1 =>
    intro x
    have hx : (x 0).val < 16 := (x 0).isLt
    rw [pay259_apply u ha hb hb' hc x, if_pos (by rw [hemb]; omega), hemb]
  case h2 =>
    intro y hy
    rw [if_neg]
    intro hc
    apply hy
    rw [Rect.mem_set_unit]
    intro a
    obtain rfl : a = 0 := Fin.eq_zero a
    subst ep
    show 16 * u ≤ (y 0).val ∧ (y 0).val < 16 * u + 16
    omega
  iintro HP
  iapply (le_wp_ret _ _ _ _ _)
  isplitl [HA]; · iexact HA
  isplitl [HH]
  · rw [show 4 * (u + 1) = 4 * u + 3 + 1 by omega]; iexact HH
  · iexists _
    isplitr [HP]
    rotate_left
    · iexact HP
    · ipureintro
      intro x hx
      by_cases h : 16 * u ≤ (x 0).val
      · exact if_pos ⟨h, hx⟩
      · exact (if_neg fun hh => h hh.1).trans (hP x (by omega))

/-- The counting loop of chunk `j`. -/
theorem countLoop_run (j : ℕ) {p : Fin k0_t3_loop.trips → Fin 1 → Nat} (hp : ∀ t a, p t a + S16.size a ≤ S65536.size a) (ep : ∀ t, p t = ![16 * t.val + 4096 * j]) :
    Counting (F := F) i d buf packed hist pix j (256 * j)
      ⊢ run (tile i d) (Scf.Loop.for k0_t3_loop k0_t3_ok PUnit.unit fun t _ => countTrip i buf packed hist lanes k0_pay1 (k0_off4 t) (k0_off5 t) (k0_off6 t) (k0_off7 t)
            (k0_off4_inb t) (k0_off5_inb t) (k0_off6_inb t) (k0_off7_inb t) (p t) (hp t))
          (fun _ => Counting (F := F) i d buf packed hist pix j (256 * (j + 1))) := by
  exact loop_run (c := tile i d) (fun k _ => Counting (F := F) i d buf packed hist pix j (256 * j + k)) (fun t _ => countTrip_run hpix j (256 * j + t.val) _ _ _ _ (hp t)
      (r := t.val / 8) (cl := 64 * (t.val % 8)) (off4 t) (off5 t) (off6 t) (off7 t) (by omega) (by rw [ep]; congr 1; omega))
end

/-! ## The lookup -/

/-- The first `n` pixels of output chunk `k` (rows `16 k` to `16 k + 15` of the plane) looked up. -/
def LookTo (out : Memref sig .scVector .vmem S16x512 .i32) (pix lut : ℕ → BitVec 32) (k n : ℕ) : sProp 𝕄 :=
  iprop(∃ O : S16x512.Idx → BitVec 32, ⌜∀ x, 512 * (x 0).val + (x 1).val < n → O x = lut (pix (8192 * k + (512 * (x 0).val + (x 1).val))).toNat⌝ ∗ Held (F := F) (tile i d) out O)

/-- During the lookup of chunk `k`, `t` groups of four vectors done. -/
def Looking (out : Memref sig .scVector .vmem S16x512 .i32) (packed : Memref sig .scVector .vmem S65536 .i32)
    (tab : Memref sig .scVector .vmem S4096 .i32) (pix lut : ℕ → BitVec 32) (k t : ℕ) : sProp 𝕄 :=
  iprop(LookTo (F := F) i d out pix lut k (64 * t) ∗ PackedTo (F := F) i d packed pix 65536 ∗ Held (F := F) (tile i d) tab (lutAt lut))

/-! The row and column of the vectors of trip `t`. -/
theorem off104 : ∀ t : Fin k0_t22_loop.trips, k0_off104 t = ![t.val / 8, 64 * (t.val % 8)] := by decide +kernel
/-- The place of a trip's second vector of results. -/
theorem off105 : ∀ t : Fin k0_t22_loop.trips, k0_off105 t = ![t.val / 8, 64 * (t.val % 8) + 16] := by decide +kernel
/-- The place of its third. -/
theorem off106 : ∀ t : Fin k0_t22_loop.trips, k0_off106 t = ![t.val / 8, 64 * (t.val % 8) + 32] := by decide +kernel
/-- The place of its fourth. -/
theorem off107 : ∀ t : Fin k0_t22_loop.trips, k0_off107 t = ![t.val / 8, 64 * (t.val % 8) + 48] := by decide +kernel

section
variable {i d} {pix lut : ℕ → BitVec 32} (hpix : Bytes pix)
  {out : Memref sig .scVector .vmem S16x512 .i32} {packed : Memref sig .scVector .vmem S65536 .i32} {tab : Memref sig .scVector .vmem S4096 .i32}
include hpix

/-- One vector looked up and stored. -/
theorem lookVec_run (k g n : ℕ) {ix : IVec S16 32} (hix : Names pix g ix) {o : Fin 2 → Nat} (ho : ∀ a, o a + S1x16.size a ≤ S16x512.size a)
    {r cl : ℕ} (hro : o = ![r, cl]) (e : 512 * r + cl = n) (eg : 8192 * k + n = 16 * g) :
    iprop(LookTo (F := F) i d out pix lut k n ∗ Held (F := F) (tile i d) tab (lutAt lut))
      ⊢ run (tile i d) (lookVec i out tab ix o ho) (fun _ => iprop(LookTo (F := F) i d out pix lut k (n + 16) ∗ Held (F := F) (tile i d) tab (lutAt lut))) := by
  unfold LookTo lookVec
  simp only [Prog.lift, Prog.bind_op, Prog.bind_ret, Prog.pure_eq_ret]
  iintro ⟨⟨%O, %hO, HO⟩, HT⟩
  iapply (run_assume (c := tile i d) (chk_names hpix hix))
  iapply (held_loadIdx (c := tile i d) (m := tab)) $$ HT
  iintro %Y %hY HT
  iapply (held_load (c := tile i d) (m := out)) $$ HO
  iintro %X %hX HO
  have hcl : cl + 16 ≤ 512 := by have := ho 1; subst hro; exact this
  have hy1 : ∀ y : S16x512.Idx, (y 1).val < 512 := fun y => (y 1).isLt
  have hemb : ∀ x, 512 * ((Rect.unit (s := S16x512) o S1x16.size ho).emb x 0).val + ((Rect.unit (s := S16x512) o S1x16.size ho).emb x 1).val = n + (x 1).val := by
    intro x
    have h0 : (x 0).val = 0 := by have : (x 0).val < 1 := (x 0).isLt; omega
    rw [Rect.emb_apply, Rect.emb_apply]; subst hro
    show 512 * (r + 1 * (x 0).val) + (cl + 1 * (x 1).val) = _
    omega
  iapply (held_store (c := tile i d) (m := out) (g' := fun x => if n ≤ 512 * (x 0).val + (x 1).val ∧ 512 * (x 0).val + (x 1).val < n + 16
      then lut (pix (8192 * k + (512 * (x 0).val + (x 1).val))).toNat else O x) ?h1 ?h2) $$ HO
  case h1 =>
    intro x
    have hx : (x 1).val < 16 := (x 1).isLt
    rw [if_pos (by rw [hemb]; omega), hemb, shapeCast_addUnit_apply (n := 1) ![16] Y shapeCasts_S16_S1x16 x]
    refine Eq.trans ?_ ((hY _).trans (loadIdx_lut hix lut _ _)).symm
    show lut _ = lut (pix (16 * g + (x 1).val)).toNat
    congr 3; omega
  case h2 =>
    intro y hy
    rw [if_neg]
    intro hc
    apply hy
    rw [Rect.mem_set_unit]
    have := hy1 y
    intro a
    subst hro
    match a with
    | ⟨0, _⟩ => show r ≤ (y 0).val ∧ (y 0).val < r + 1; omega
    | ⟨1, _⟩ => show cl ≤ (y 1).val ∧ (y 1).val < cl + 16; omega
  iintro HO
  iapply (le_wp_ret _ _ _ _ _)
  isplitl [HO]
  · iexists _
    isplitr [HO]
    rotate_left
    · iexact HO
    · ipureintro
      intro x hx
      by_cases h : n ≤ 512 * (x 0).val + (x 1).val
      · exact if_pos ⟨h, hx⟩
      · exact (if_neg fun hh => h hh.1).trans (hO x (by omega))
  · iexact HT

/-- A lookup trip: one vector of packed words, four vectors of pixels. -/
theorem lookTrip_run (k t : ℕ) (ht : k < 32) (ht' : t < 128) {p : Fin 1 → Nat} (hp : ∀ a, p a + S16.size a ≤ S65536.size a)
    {o₀ o₁ o₂ o₃ : Fin 2 → Nat} (h₀ : ∀ a, o₀ a + S1x16.size a ≤ S16x512.size a) (h₁ : ∀ a, o₁ a + S1x16.size a ≤ S16x512.size a)
    (h₂ : ∀ a, o₂ a + S1x16.size a ≤ S16x512.size a) (h₃ : ∀ a, o₃ a + S1x16.size a ≤ S16x512.size a)
    {r cl : ℕ} (ep : p = ![16 * (128 * k + t)]) (e₀ : o₀ = ![r, cl]) (e₁ : o₁ = ![r, cl + 16])
    (e₂ : o₂ = ![r, cl + 32]) (e₃ : o₃ = ![r, cl + 48]) (e : 512 * r + cl = 64 * t) :
    Looking (F := F) i d out packed tab pix lut k t
      ⊢ run (tile i d) (lookTrip i out packed tab lanes p hp o₀ o₁ o₂ o₃ h₀ h₁ h₂ h₃) (fun _ => Looking (F := F) i d out packed tab pix lut k (t + 1)) := by
  unfold Looking PackedTo lookTrip
  simp only [Prog.lift, Prog.bind_op, Prog.bind_ret, Prog.pure_eq_ret]
  iintro ⟨HO, ⟨%P, %hP, HP⟩, HT⟩
  iapply (held_load (c := tile i d) (m := packed)) $$ HP
  iintro %w %hw HP
  have hw' : ∀ y : S16.Idx, w y = packAt pix (16 * (128 * k + t) + (y 0).val) := by
    intro y
    have hy : (y 0).val < 16 := (y 0).isLt
    have hemb : ((Rect.unit (s := S65536) p S16.size hp).emb y 0).val = 16 * (128 * k + t) + (y 0).val := by
      rw [Rect.emb_apply]; subst ep; show 16 * (128 * k + t) + 1 * (y 0).val = _; omega
    rw [hw, hP _ (by rw [hemb]; omega), hemb]
  iapply (run_head (lookVec_run (F := F) (i := i) (d := d) hpix k (4 * (128 * k + t)) (64 * t) (names₀ hpix _ hw') h₀ e₀ (by omega) (by omega))) $$ [HO HT]
  · isplitl [HO] <;> iassumption
  iintro %_ ⟨HO, HT⟩
  iapply (run_head (lookVec_run (F := F) (i := i) (d := d) hpix k (4 * (128 * k + t) + 1) (64 * t + 16) (names₁ hpix _ hw') h₁ e₁ (by omega) (by omega))) $$ [HO HT]
  · isplitl [HO] <;> iassumption
  iintro %_ ⟨HO, HT⟩
  iapply (run_head (lookVec_run (F := F) (i := i) (d := d) hpix k (4 * (128 * k + t) + 2) (64 * t + 32) (names₂ hpix _ hw') h₂ e₂ (by omega) (by omega))) $$ [HO HT]
  · isplitl [HO] <;> iassumption
  iintro %_ ⟨HO, HT⟩
  iapply (run_wand (lookVec_run (F := F) (i := i) (d := d) hpix k (4 * (128 * k + t) + 3) (64 * t + 48) (names₃ hpix _ hw') h₃ e₃ (by omega) (by omega))) $$ [HO HT]
  · isplitl [HO] <;> iassumption
  iintro %_ ⟨HO, HT⟩
  isplitl [HO]
  · rw [show 64 * (t + 1) = 64 * t + 48 + 16 by omega]; iexact HO
  isplitl [HP]
  · iexists P
    isplitr
    · ipureintro; exact hP
    · iexact HP
  · iexact HT

/-- The lookup loop of chunk `k`. -/
theorem lookLoop_run (k : ℕ) (hk : k < 32) {p : Fin k0_t22_loop.trips → Fin 1 → Nat} (hp : ∀ t a, p t a + S16.size a ≤ S65536.size a) (ep : ∀ t, p t = ![16 * t.val + 2048 * k]) :
    Looking (F := F) i d out packed tab pix lut k 0
      ⊢ run (tile i d) (Scf.Loop.for k0_t22_loop k0_t22_ok PUnit.unit fun t _ => lookTrip i out packed tab lanes (p t) (hp t) (k0_off104 t) (k0_off105 t) (k0_off106 t) (k0_off107 t)
            (k0_off104_inb t) (k0_off105_inb t) (k0_off106_inb t) (k0_off107_inb t))
          (fun _ => Looking (F := F) i d out packed tab pix lut k 128) :=
  loop_run (c := tile i d) (fun t _ => Looking (F := F) i d out packed tab pix lut k t) (fun t _ => lookTrip_run hpix k t.val hk t.isLt (hp t) _ _ _ _
    (r := t.val / 8) (cl := 64 * (t.val % 8)) (by rw [ep]; congr 1; omega) (off104 t) (off105 t) (off106 t) (off107 t) (by omega))
end

end Cert.Proof.Eq
-- ==== Proof.Table.lean ====
/-
  From a plane's histogram to its lookup table: the sixteen lane counts of each value added up into scalar memory, the last
  value that occurs, the table's step, and the table, each as a plain function of the plane's pixels and with the run of the
  loop that computes it; and the loop that clears the histogram.
-/
module

public import proofs.«01_k».proof.Proof.Trips

@[expose] public section

noncomputable section

namespace Cert.Proof.Eq

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

/-! ## The functions -/

/-- How many of the first `n` pixels hold the value `v`. -/
def countTo (pix : ℕ → BitVec 32) (n v : ℕ) : ℕ := ((Finset.range n).filter fun m => (pix m).toNat = v).card

/-- The plane's histogram, as words. -/
def hist (pix : ℕ → BitVec 32) (v : ℕ) : BitVec 32 := BitVec.ofNat 32 (countTo pix 262144 v)

/-- The largest code `524288 v + h v` among the occurring values below `n`. -/
def encTo (h : ℕ → BitVec 32) : ℕ → BitVec 32
  | 0 => 0#32
  | n + 1 => Scalar.maxsi (encTo h n) (Scalar.select (Scalar.cmpi .ne (h n) 0#32) (Scalar.addi (Scalar.muli (BitVec.ofNat 32 n) 524288#32) (h n)) 0#32)

/-- The number of pixels below the value `n`. -/
def cumTo (h : ℕ → BitVec 32) : ℕ → BitVec 32
  | 0 => 0#32
  | n + 1 => Scalar.addi (cumTo h n) (h n)

/-- The table's step: the pixels that do not hold the last value, over 255. -/
def stepOf (h : ℕ → BitVec 32) : BitVec 32 := Scalar.divsi (Scalar.subi 262144#32 (Scalar.andi (encTo h 256) 524287#32)) 255#32
/-- Half of the step, in words. -/
def halfOf (h : ℕ → BitVec 32) : BitVec 32 := Scalar.divsi (stepOf h) 2#32
/-- The divisor, in words: the step, or one where it is less. -/
def safeOf (h : ℕ → BitVec 32) : BitVec 32 := Scalar.maxsi (stepOf h) 1#32
/-- Whether the step is zero. -/
def flagOf (h : ℕ → BitVec 32) : BitVec 1 := Scalar.cmpi .eq (stepOf h) 0#32

/-- The table's entry of the value `v`. -/
def tabOf (h : ℕ → BitVec 32) (v : ℕ) : BitVec 32 :=
  Scalar.select (flagOf h) (BitVec.ofNat 32 v)
    (Scalar.minsi 255#32 (Scalar.maxsi 0#32 (Scalar.divsi (Scalar.addi (cumTo h v) (halfOf h)) (safeOf h))))

/-- The plane's lookup table. -/
def tabAt (pix : ℕ → BitVec 32) : ℕ → BitVec 32 := tabOf (hist pix)

/-! ## The sixteen lanes of a value -/

/-- The lanes' counts of a value add up to the count over all pixels so far. -/
theorem sum_lanes (pix : ℕ → BitVec 32) (v g : ℕ) : ∑ l ∈ Finset.range 16, laneCount pix g l v = countTo pix (16 * g) v := by
  induction g with
  | zero => rfl
  | succ g ih =>
    simp only [laneCount_succ, Finset.sum_add_distrib, ih]
    unfold countTo
    rw [Finset.card_filter, Finset.card_filter, Nat.mul_succ, Finset.sum_range_add]

/-- The inclusive scan's last lane. -/
theorem scan_last (c : ℕ → ℕ) {w : IVec S16 32} (hw : ∀ y : S16.Idx, w y = BitVec.ofNat 32 (c (y 0).val)) :
    extractAt ![15] (scan .sum w) inpos_S16_p15 = BitVec.ofNat 32 (∑ l ∈ Finset.range 16, c l) := by
  have hl : ((List.finRange 16).filter fun k => decide (0 < k.val ∧ k.val ≤ 15)) = [1, 2, 3, 4, 5, 6, 7, 8, 9, 10, 11, 12, 13, 14, 15] := by decide
  unfold extractAt scan
  change List.foldl _ _ (List.filter (fun k : Fin 16 => decide (0 < k.val ∧ k.val ≤ 15)) (List.finRange 16)) = _
  rw [hl]
  have hk : ∀ (W : Fin 16 → BitVec 32) (_ : ∀ k, W k = BitVec.ofNat 32 (c k.val)) (ks : List (Fin 16)) (n : ℕ),
      List.foldl (fun (r : BitVec 32) (k : Fin 16) => r + W k) (BitVec.ofNat 32 n) ks = BitVec.ofNat 32 (n + (ks.map fun k => c k.val).sum) := by
    intro W hW ks
    induction ks with
    | nil => intro n; rfl
    | cons k ks ih =>
      intro n
      rw [List.foldl_cons, hW, ← BitVec.ofNat_add, ih, List.map_cons, List.sum_cons, Nat.add_assoc]
  rw [hw]
  refine (hk (fun k => w (Shape.ofLane k)) (fun k => hw _) _ (c 0)).trans (congrArg (BitVec.ofNat 32) ?_)
  simp only [Finset.sum_range_succ, Finset.sum_range_zero, List.map_cons, List.map_nil, List.sum_cons, List.sum_nil]
  show c 0 + (c 1 + (c 2 + (c 3 + (c 4 + (c 5 + (c 6 + (c 7 + (c 8 + (c 9 + (c 10 + (c 11 + (c 12 + (c 13 + (c 14 + (c 15 + 0))))))))))))))) = _
  omega

/-! ## The loops -/

variable {F : FTy → Type} [FloatOps F]

variable (i : grid0.Coords)

-- the operations of a vector subcore at grid coordinates `i`
local notation "TE" => TpuEff nD τ sig (Elt F) Λ₀ (Proc.scVector (Fin.castLE hcore0 (i 0)) (Fin.castLE hsub0 (i 1)))
local notation "𝕄" => MT nD τ sig (HIx 1) (Elt F) ℕ UU ℕ

/-- The loop that clears the per-lane histogram. -/
def clearLoop (hb : Memref sig .scVector .vmem S4096 .i32) (v6 : IVec S16 32) : Prog TE PUnit :=
  Scf.Loop.for k0_t2_loop k0_t2_ok PUnit.unit fun t _ => do
    let _ ← Prog.lift (.load hb (Rect.unit (s := S4096) (k0_off3 t) S16.size (k0_off3_inb t)).toLoadRect (View.loadsAt_vmem h_S16))
    Prog.lift (.store hb (Rect.unit (s := S4096) (k0_off3 t) S16.size (k0_off3_inb t)) v6 Finset.univ (View.stores_vmem_bits_univ h_S16 rfl) (.inl rfl))
    pure ⟨⟩

/-- The loop that adds up the lanes of each value. -/
def mergeLoop (hb : Memref sig .scVector .vmem S4096 .i32) (sm : Memref sig .scVector .smem S256 .i32) : Prog TE PUnit :=
  Scf.Loop.for k0_t19_loop k0_t19_ok PUnit.unit fun t _ => do
    let x : Vec F S16 .i32 ← Prog.lift (.load hb (Rect.unit (s := S4096) (k0_off98 t) S16.size (k0_off98_inb t)).toLoadRect (View.loadsAt_vmem h_S16))
    let _ ← smemLoad sm (Rect.unit (s := S256) (k0_off99 t) S1.size (k0_off99_inb t)) numel1_S1 rfl
    Prog.lift (.store sm (Rect.unit (s := S256) (k0_off99 t) S1.size (k0_off99_inb t)) (fun _ => extractAt ![15] (k0_pay275 (F := F) x) inpos_S16_p15) Finset.univ
      (View.stores_smem_one rfl numel1_S1) (.inl rfl))
    pure ⟨⟩

/-- The loop that finds the last value that occurs. -/
def encLoop (sm : Memref sig .scVector .smem S256 .i32) : Prog TE (BitVec 32) :=
  Scf.Loop.for k0_t20_loop k0_t20_ok 0#32 fun t acc => do
    let h : Elt F .i32 ← smemLoad sm (Rect.unit (s := S256) (k0_off100 t) S1.size (k0_off100_inb t)) numel1_S1 rfl
    pure (Scalar.maxsi acc (Scalar.select (Scalar.cmpi .ne h 0#32) (Scalar.addi (Scalar.muli (Scf.iv 0#32 1#32 t) 524288#32) h) 0#32))

/-- The loop that writes the table. -/
def tabLoop (sm : Memref sig .scVector .smem S256 .i32) (tb : Memref sig .scVector .vmem S4096 .i32) (half safe : BitVec 32) (flag : BitVec 1) : Prog TE (BitVec 32) :=
  Scf.Loop.for k0_t21_loop k0_t21_ok 0#32 fun t acc => do
    let h : Elt F .i32 ← smemLoad sm (Rect.unit (s := S256) (k0_off101 t) S1.size (k0_off101_inb t)) numel1_S1 rfl
    let _ ← Prog.lift (.load tb (Rect.unit (s := S4096) (k0_off102 t) S16.size (k0_off102_inb t)).toLoadRect (View.loadsAt_vmem h_S16))
    Prog.lift (.store tb (Rect.unit (s := S4096) (k0_off102 t) S16.size (k0_off102_inb t)) (k0_pay276 half safe flag t acc) Finset.univ (View.stores_vmem_bits_univ h_S16 rfl) (.inl rfl))
    pure (Scalar.addi acc h)

/-- The place of the sixteen counts that a trip merges. -/
theorem off98 : ∀ t : Fin k0_t19_loop.trips, k0_off98 t = ![16 * t.val] := by decide +kernel
/-- The place of the sixteen copies that a trip writes. -/
theorem off102 : ∀ t : Fin k0_t21_loop.trips, k0_off102 t = ![16 * t.val] := by decide +kernel
/-- The loop's counter is the trip's number. -/
theorem iv_trip : ∀ t : Fin k0_t20_loop.trips, Scf.iv 0#32 1#32 t.val = BitVec.ofNat 32 t.val := by decide +kernel

/-- The offset of one word. -/
theorem emb_word {n k : ℕ} {o : Fin 1 → ℕ} (ho : o = ![n]) {s : Fin 1 → ℕ} (h : ∀ a, o a + (⟨1, ![k]⟩ : Shape).size a ≤ (⟨1, s⟩ : Shape).size a) (x : (⟨1, ![k]⟩ : Shape).Idx) :
    ((Rect.unit (s := ⟨1, s⟩) o (⟨1, ![k]⟩ : Shape).size h).emb x 0).val = n + (x 0).val := by
  rw [Rect.emb_apply]; subst ho; show n + 1 * (x 0).val = _; omega

/-- A window of `k` words holds the places from its start on. -/
theorem mem_word {n k : ℕ} {o : Fin 1 → ℕ} (ho : o = ![n]) {s : Fin 1 → ℕ} (h : ∀ a, o a + (⟨1, ![k]⟩ : Shape).size a ≤ (⟨1, s⟩ : Shape).size a) (y : (⟨1, s⟩ : Shape).Idx)
    (h₁ : n ≤ (y 0).val) (h₂ : (y 0).val < n + k) : y ∈ (Rect.unit (s := ⟨1, s⟩) o (⟨1, ![k]⟩ : Shape).size h).set := by
  rw [Rect.mem_set_unit]
  intro a
  obtain rfl : a = 0 := Fin.eq_zero a
  subst ho
  exact ⟨h₁, h₂⟩

variable (d : Dev nD)

/-- The buffer reads `f` at every number below `n`. -/
def HeldTo {sp : Space} {s : Fin 1 → ℕ} (m : Memref sig .scVector sp ⟨1, s⟩ .i32) (f : ℕ → BitVec 32) (n : ℕ) : sProp 𝕄 :=
  iprop(∃ g : (⟨1, s⟩ : Shape).Idx → BitVec 32, ⌜∀ x, (x 0).val < n → g x = f (x 0).val⌝ ∗ Held (F := F) (tile i d) m g)

section
variable {i d} {pix h : ℕ → BitVec 32} {hb tb : Memref sig .scVector .vmem S4096 .i32} {sm : Memref sig .scVector .smem S256 .i32}

/-- Any contents are right up to the first place. -/
theorem HeldTo.start {sp : Space} {s : Fin 1 → ℕ} {m : Memref sig .scVector sp ⟨1, s⟩ .i32} {f : ℕ → BitVec 32} {g : (⟨1, s⟩ : Shape).Idx → BitVec 32} :
    Held (F := F) (tile i d) m g ⊢ HeldTo (F := F) i d m f 0 := by
  unfold HeldTo
  iintro H
  iexists g
  isplitr
  · ipureintro; intro x hx; exact absurd hx (Nat.not_lt_zero _)
  · iexact H

/-- Contents right up to the end are right. -/
theorem HeldTo.done {sp : Space} {s : Fin 1 → ℕ} {m : Memref sig .scVector sp ⟨1, s⟩ .i32} {f : ℕ → BitVec 32} {n : ℕ} (hn : s 0 ≤ n) :
    HeldTo (F := F) i d m f n ⊢ Held (F := F) (tile i d) m (fun x => f (x 0).val) := by
  unfold HeldTo
  iintro ⟨%g, %hg, H⟩
  iapply (held_congr (c := tile i d) (fun x => hg x (lt_of_lt_of_le (x 0).isLt hn)))
  iexact H

/-- A store of the next `k` words. -/
theorem heldTo_store {cs : CoreSpace} {s : Fin 1 → ℕ} {m : Memref sig .scVector cs ⟨1, s⟩ .i32} {f : ℕ → BitVec 32} {n k : ℕ} {o : Fin 1 → ℕ} (ho : o = ![n])
    {hi : ∀ a, o a + (⟨1, ![k]⟩ : Shape).size a ≤ (⟨1, s⟩ : Shape).size a} {w : (⟨1, ![k]⟩ : Shape).Idx → BitVec 32}
    {hx : (m.access (Rect.unit (s := ⟨1, s⟩) o (⟨1, ![k]⟩ : Shape).size hi)).Stores Finset.univ}
    {hm : (Finset.univ : Finset (Rect.unit (s := ⟨1, s⟩) o (⟨1, ![k]⟩ : Shape).size hi).shape.Idx) = Finset.univ ∨ ∀ a, (Rect.unit (s := ⟨1, s⟩) o (⟨1, ![k]⟩ : Shape).size hi).stride a = 1}
    {α : Type} {p : PUnit → Prog TE α} {Q : α → sProp (MT nD τ sig (HIx 1) (Elt F) ℕ UU ℕ)} (hw : ∀ x, w x = f (n + (x 0).val)) :
    HeldTo (F := F) i d m f n ⊢ iprop((HeldTo (F := F) i d m f (n + k) -∗ run (tile i d) (p ⟨⟩) Q)
      -∗ run (tile i d) (.op (.store m (Rect.unit (s := ⟨1, s⟩) o (⟨1, ![k]⟩ : Shape).size hi) w Finset.univ hx hm) p) Q) := by
  unfold HeldTo
  iintro ⟨%g, %hg, H⟩ Hk
  iapply (held_store (c := tile i d) (m := m) (g' := fun x => if n ≤ (x 0).val ∧ (x 0).val < n + k then f (x 0).val else g x) ?h1 ?h2) $$ H
  case h1 =>
    intro x
    have hx : (x 0).val < k := (x 0).isLt
    have e := emb_word ho hi x
    rw [if_pos (by rw [e]; omega), e]
    exact (hw x).symm
  case h2 =>
    intro y hy
    exact if_neg fun hc => hy (mem_word ho hi y hc.1 hc.2)
  iintro H
  iapply Hk
  iexists _
  isplitr [H]
  rotate_left
  · iexact H
  · ipureintro
    intro x hx
    by_cases hc : n ≤ (x 0).val
    · exact if_pos ⟨hc, hx⟩
    · exact (if_neg fun hh => hc hh.1).trans (hg x (by omega))

/-- A load beside a partly written buffer. -/
theorem heldTo_load {cs : CoreSpace} {s : Fin 1 → ℕ} {m : Memref sig .scVector cs ⟨1, s⟩ .i32} {f : ℕ → BitVec 32} {n : ℕ} {r : Rect ⟨1, s⟩} {hl : m.view.LoadsAt r.toLoadRect}
    {α : Type} {p : (r.shape.Idx → BitVec 32) → Prog TE α} {Q : α → sProp (MT nD τ sig (HIx 1) (Elt F) ℕ UU ℕ)} :
    HeldTo (F := F) i d m f n ⊢ iprop((∀ X, HeldTo (F := F) i d m f n -∗ run (tile i d) (p X) Q) -∗ run (tile i d) (.op (.load m r.toLoadRect hl) p) Q) := by
  unfold HeldTo
  iintro ⟨%g, %hg, H⟩ Hk
  iapply (held_load (c := tile i d) (m := m)) $$ H
  iintro %X %hX H
  iapply Hk
  iexists g
  isplitr
  · ipureintro; exact hg
  · iexact H

/-- A scalar load beside a partly written buffer. -/
theorem heldTo_smemLoad {s : Fin 1 → ℕ} {m : Memref sig .scVector .smem ⟨1, s⟩ .i32} {f : ℕ → BitVec 32} {n : ℕ} {r : Rect ⟨1, s⟩} {h1 : r.shape.numel = 1} {hp : EltTy.i32.packing = 1}
    {α : Type} {p : BitVec 32 → Prog TE α} {Q : α → sProp (MT nD τ sig (HIx 1) (Elt F) ℕ UU ℕ)} :
    HeldTo (F := F) i d m f n ⊢ iprop((∀ X, HeldTo (F := F) i d m f n -∗ run (tile i d) (p X) Q) -∗ run (tile i d) (smemLoad m r h1 hp >>= p) Q) := by
  unfold HeldTo
  iintro ⟨%g, %hg, H⟩ Hk
  iapply (held_smemLoad (c := tile i d) (m := m)) $$ H
  iintro %X %hX H
  iapply Hk
  iexists g
  isplitr
  · ipureintro; exact hg
  · iexact H

/-- The histogram cleared. -/
theorem clearLoop_run {g : S4096.Idx → BitVec 32} :
    Held (F := F) (tile i d) hb g ⊢ run (tile i d) (clearLoop i hb k0_pay2) (fun _ => Held (F := F) (tile i d) hb (histAt pix 0)) := by
  refine (HeldTo.start (f := fun _ => 0#32)).trans ((loop_run (c := tile i d) (fun t _ => HeldTo (F := F) i d hb (fun _ => 0#32) (16 * t)) ?_).trans
    (wp_mono _ _ _ fun _ => (HeldTo.done (show 4096 ≤ 16 * 256 by omega)).trans (held_congr (c := tile i d) fun _ => rfl)))
  intro t _
  simp only [Prog.lift, Prog.bind_op, Prog.bind_ret, Prog.pure_eq_ret]
  iintro H
  iapply (heldTo_load (i := i) (d := d) (m := hb)) $$ H
  iintro %_ H
  iapply (heldTo_store (i := i) (d := d) (m := hb) (k0_off3_eq t) (fun _ => rfl)) $$ H
  iintro H
  iapply (le_wp_ret _ _ _ _ _)
  iexact H

/-- The lanes of each value added up. -/
theorem mergeLoop_run {g : S256.Idx → BitVec 32} :
    iprop(Held (F := F) (tile i d) hb (histAt pix 16384) ∗ Held (F := F) (tile i d) sm g)
      ⊢ run (tile i d) (mergeLoop i hb sm) (fun _ => iprop(Held (F := F) (tile i d) hb (histAt pix 16384) ∗ Held (F := F) (tile i d) sm (fun x => hist pix (x 0).val))) := by
  refine (sep_mono .rfl (HeldTo.start (f := hist pix))).trans ((loop_run (c := tile i d) (fun t _ => iprop(Held (F := F) (tile i d) hb (histAt pix 16384) ∗ HeldTo (F := F) i d sm (hist pix) t)) ?_).trans
    (wp_mono _ _ _ fun _ => sep_mono .rfl (HeldTo.done (show 256 ≤ 256 by omega))))
  intro t _
  simp only [Prog.lift, Prog.bind_op, Prog.bind_ret, Prog.pure_eq_ret]
  iintro ⟨HH, HS⟩
  iapply (held_load (c := tile i d) (m := hb)) $$ HH
  iintro %X %hX HH
  iapply (heldTo_smemLoad (i := i) (d := d) (m := sm)) $$ HS
  iintro %_ HS
  have hX' : ∀ y : S16.Idx, X y = BitVec.ofNat 32 (laneCount pix 16384 (y 0).val t.val) := by
    intro y
    have hy : (y 0).val < 16 := (y 0).isLt
    rw [hX]; unfold histAt
    have e := emb_word (s := ![4096]) (off98 t) (k0_off98_inb t) y
    rw [e]
    congr 2 <;> omega
  iapply (heldTo_store (i := i) (d := d) (m := sm) (f := hist pix) (k0_off99_eq t) ?hw) $$ HS
  case hw =>
    intro x
    have h0 : (x 0).val = 0 := by have : (x 0).val < 1 := (x 0).isLt; omega
    refine (scan_last (fun l => laneCount pix 16384 l t.val) hX').trans ?_
    rw [sum_lanes, h0]; rfl
  iintro HS
  iapply (le_wp_ret _ _ _ _ _)
  isplitl [HH] <;> iassumption

/-- The only word of a window of one is the one at its start. -/
theorem first_word (n : ℕ) {o : Fin 1 → ℕ} (ho : o = ![n]) (hi : ∀ a, o a + S1.size a ≤ S256.size a) (h1 : 0 < S1.numel) :
    ((Rect.unit (s := S256) o S1.size hi).emb (Shape.Idx.first (s := S1) h1) 0).val = n := by
  have h0 : ((Shape.Idx.first (s := S1) h1) 0).val = 0 := by have : ((Shape.Idx.first (s := S1) h1) 0).val < 1 := ((Shape.Idx.first (s := S1) h1) 0).isLt; omega
  have e := emb_word (s := ![256]) (k := 1) ho hi (Shape.Idx.first (s := S1) h1)
  rw [h0] at e
  exact e

/-- The largest code. -/
theorem encLoop_run :
    Held (F := F) (tile i d) sm (fun x => h (x 0).val) ⊢ run (tile i d) (encLoop i sm) (fun v => iprop(⌜v = encTo h 256⌝ ∗ Held (F := F) (tile i d) sm (fun x => h (x 0).val))) := by
  have hs : Held (F := F) (tile i d) sm (fun x => h (x 0).val) ⊢ iprop(⌜(0#32 : BitVec 32) = encTo h 0⌝ ∗ Held (F := F) (tile i d) sm (fun x => h (x 0).val)) := by
    iintro H
    isplitr
    · ipureintro; rfl
    · iexact H
  refine hs.trans (loop_run (c := tile i d) (fun t (v : BitVec 32) => iprop(⌜v = encTo h t⌝ ∗ Held (F := F) (tile i d) sm (fun x => h (x 0).val))) ?_)
  intro t acc
  simp only [Prog.lift, Prog.bind_op, Prog.bind_ret, Prog.pure_eq_ret]
  iintro ⟨%ha, H⟩
  iapply (held_smemLoad (c := tile i d) (m := sm)) $$ H
  iintro %X %hX H
  iapply (le_wp_ret _ _ _ _ _)
  isplitr
  · ipureintro
    subst ha
    have hX' : X = h t.val := hX.trans (congrArg h (first_word t.val (k0_off100_eq t) _ _))
    rw [hX', iv_trip t]; rfl
  · iexact H

/-- The table written. -/
theorem tabLoop_run {g : S4096.Idx → BitVec 32} :
    iprop(Held (F := F) (tile i d) sm (fun x => h (x 0).val) ∗ Held (F := F) (tile i d) tb g)
      ⊢ run (tile i d) (tabLoop i sm tb (halfOf h) (safeOf h) (flagOf h))
        (fun _ => iprop(Held (F := F) (tile i d) sm (fun x => h (x 0).val) ∗ Held (F := F) (tile i d) tb (lutAt (tabOf h)))) := by
  have hs : iprop(Held (F := F) (tile i d) sm (fun x => h (x 0).val) ∗ Held (F := F) (tile i d) tb g)
      ⊢ iprop(⌜(0#32 : BitVec 32) = cumTo h 0⌝ ∗ Held (F := F) (tile i d) sm (fun x => h (x 0).val) ∗ HeldTo (F := F) i d tb (fun n => tabOf h (n / 16)) 0) := by
    iintro ⟨H, HT⟩
    isplitr
    · ipureintro; rfl
    isplitl [H]
    · iexact H
    · iapply (HeldTo.start (i := i) (d := d)); iexact HT
  refine hs.trans ((loop_run (c := tile i d) (fun t (v : BitVec 32) => iprop(⌜v = cumTo h t⌝ ∗ Held (F := F) (tile i d) sm (fun x => h (x 0).val)
    ∗ HeldTo (F := F) i d tb (fun n => tabOf h (n / 16)) (16 * t))) ?_).trans (wp_mono _ _ _ fun _ => ?_))
  · intro t acc
    simp only [Prog.lift, Prog.bind_op, Prog.bind_ret, Prog.pure_eq_ret]
    iintro ⟨%ha, H, HT⟩
    iapply (held_smemLoad (c := tile i d) (m := sm)) $$ H
    iintro %X %hX H
    have hX' : X = h t.val := hX.trans (congrArg h (first_word t.val (k0_off101_eq t) _ _))
    iapply (heldTo_load (i := i) (d := d) (m := tb)) $$ HT
    iintro %_ HT
    iapply (heldTo_store (i := i) (d := d) (m := tb) (f := fun n => tabOf h (n / 16)) (off102 t) ?hw) $$ HT
    case hw =>
      intro x
      have hx : (x 0).val < 16 := (x 0).isLt
      subst ha
      have e : k0_pay276 (halfOf h) (safeOf h) (flagOf h) t (cumTo h t.val) x = Scalar.select (flagOf h) (Scf.iv 0#32 1#32 t.val)
        (Scalar.minsi 255#32 (Scalar.maxsi 0#32 (Scalar.divsi (Scalar.addi (cumTo h t.val) (halfOf h)) (safeOf h)))) := by unfold k0_pay276 broadcast; rfl
      have e2 : (16 * t.val + (x 0).val) / 16 = t.val := by omega
      rw [e, iv_trip t]
      dsimp only
      rw [e2]; rfl
    iintro HT
    iapply (le_wp_ret _ _ _ _ _)
    isplitr
    · ipureintro; rw [hX', ha]; rfl
    isplitl [H] <;> iassumption
  · iintro ⟨%_, H, HT⟩
    isplitl [H]
    · iexact H
    · iapply (HeldTo.done (i := i) (d := d) (s := ![4096]) (f := fun n => tabOf h (n / 16)) (n := 16 * 256) (show 4096 ≤ 16 * 256 by omega))
      iexact HT
end

end Cert.Proof.Eq
-- ==== Proof.Copies.lean ====
/-
  The kernel's copies between the arrays and a vector subcore's buffers: the rows an array's window names, and the four steps
  of a copy (a chunk's copy in issued, awaited; a chunk's copy out issued, awaited), each stated once for any buffer,
  semaphore, plane and chunk, with the values moved.
-/
module

public import proofs.«01_k».proof.Proof.Table
public import Idealize.ShloMosaic.Lib.ViewIndex

@[expose] public section

noncomputable section

namespace Cert.Proof.Eq

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

/-! ## Rows of the arrays -/

/-- The array index of plane `p`, row `r`, column `c`. -/
def at3 (p r c : ℕ) (hp : p < 96) (hr : r < 512) (hc : c < 512) : S96x512x512.Idx := fun
  | ⟨0, _⟩ => ⟨p, hp⟩
  | ⟨1, _⟩ => ⟨r, hr⟩
  | ⟨2, _⟩ => ⟨c, hc⟩

/-- An index of the 96 planes is the one made of its own three coordinates. -/
theorem at3_self (x : S96x512x512.Idx) : at3 (x 0).val (x 1).val (x 2).val (x 0).isLt (x 1).isLt (x 2).isLt = x := by
  funext a
  match a with
  | ⟨0, _⟩ => rfl
  | ⟨1, _⟩ => rfl
  | ⟨2, _⟩ => rfl

/-- The pixels of plane `p`, row by row. -/
def pixOf (X : S96x512x512.Idx → BitVec 32) (p n : ℕ) : BitVec 32 :=
  if h : p < 96 ∧ n < 262144 then X (at3 p (n / 512) (n % 512) h.1 (by omega) (Nat.mod_lt _ (by decide))) else 0#32

/-- The pixel at row `r` and column `c` of plane `p` is number `512 r + c` of that plane. -/
theorem pixOf_at3 (X : S96x512x512.Idx → BitVec 32) {p r c : ℕ} (hp : p < 96) (hr : r < 512) (hc : c < 512) :
    pixOf X p (512 * r + c) = X (at3 p r c hp hr hc) := by
  unfold pixOf
  rw [dif_pos ⟨hp, by omega⟩]
  have h1 : (512 * r + c) / 512 = r := by omega
  have h2 : (512 * r + c) % 512 = c := by omega
  congr 1
  funext a
  match a with
  | ⟨0, _⟩ => rfl
  | ⟨1, _⟩ => exact Fin.ext h1
  | ⟨2, _⟩ => exact Fin.ext h2

/-- Where every word of the image is a byte, so is every pixel of a plane. -/
theorem pixOf_bytes {X : S96x512x512.Idx → BitVec 32} (hX : ∀ x, (X x).toNat < 256) (p : ℕ) : Bytes (pixOf X p) := by
  intro n
  unfold pixOf
  split
  · exact hX _
  · decide

/-- The kernel's result: every pixel looked up in its plane's table. -/
def equalized (X : S96x512x512.Idx → BitVec 32) : S96x512x512.Idx → BitVec 32 := fun x => tabAt (pixOf X (x 0).val) (X x).toNat

/-- The rows from `a` up to `b`, the rows of all planes numbered through. -/
def band (a b : ℕ) : Finset S96x512x512.Idx := Finset.univ.filter fun x => a ≤ 512 * (x 0).val + (x 1).val ∧ 512 * (x 0).val + (x 1).val < b

/-- A pixel lies in a band of rows where its row's number does. -/
theorem mem_band {a b : ℕ} {x : S96x512x512.Idx} : x ∈ band a b ↔ a ≤ 512 * (x 0).val + (x 1).val ∧ 512 * (x 0).val + (x 1).val < b := by
  unfold band; rw [Finset.mem_filter]; exact ⟨fun h => h.2, fun h => ⟨Finset.mem_univ _, h⟩⟩

/-- Two bands that meet make one. -/
theorem band_union {a b c : ℕ} (h₁ : a ≤ b) (h₂ : b ≤ c) : band a c = band a b ∪ band b c := by
  ext x; rw [Finset.mem_union, mem_band, mem_band, mem_band]; omega

/-- Two bands that meet share no row. -/
theorem band_disjoint (a b c : ℕ) : Disjoint (band a b) (band b c) := by
  rw [Finset.disjoint_left]; intro x h₁ h₂; rw [mem_band] at h₁ h₂; omega

/-- A band without rows is empty. -/
theorem band_empty (a : ℕ) : band a a = ∅ := by
  ext x; rw [mem_band]; simp only [Finset.notMem_empty, iff_false]; omega

/-- A window of `R` whole rows. -/
abbrev Win1 (R : ℕ) : Shape := ⟨3, ![1, R, 512]⟩
/-- A window of `R` whole rows. -/
abbrev Win (R : ℕ) : Shape := ⟨2, ![R, 512]⟩

/-- The rows an offset names, as a two-dimensional window. -/
abbrev winOf (M : Memref sig .scVector .hbm S96x512x512 .i32) {R : ℕ} (o : Fin 3 → ℕ) (ho : ∀ a, o a + (Win1 R).size a ≤ S96x512x512.size a)
    (hq : (Win1 R).Squeezes (Win R)) : Memref sig .scVector .hbm (Win R) .i32 :=
  (M.slice (Rect.unit (s := S96x512x512) o (Win1 R).size ho) (fun _ => rfl)).squeeze (Win R) hq

section
variable {M : Memref sig .scVector .hbm S96x512x512 .i32} {R p r : ℕ} {o : Fin 3 → ℕ} (hro : o = ![p, r, 0])
  (ho : ∀ a, o a + (Win1 R).size a ≤ S96x512x512.size a) (hq : (Win1 R).Squeezes (Win R))
include hro ho

/-- A window's plane is one of the 96. -/
theorem win_p : p < 96 := by subst hro; have := ho 0; exact Nat.lt_of_succ_le this
/-- A window's rows lie within its plane. -/
theorem win_r : r + R ≤ 512 := by subst hro; exact ho 1

/-- The words of a window are those of its band of rows. -/
theorem win_set : (winOf M o ho hq).view.set = M.view.setOn (band (512 * p + r) (512 * p + r + R)) := by
  have hr := win_r hro ho
  show ((M.view.slice (Rect.unit (s := S96x512x512) o (Win1 R).size ho)).reshape (Win R) _).set = _
  rw [View.set_reshape, View.set_slice]
  unfold View.setOn
  congr 1
  ext x
  rw [mem_band, Rect.mem_set_unit]
  have h1 : (x 1).val < 512 := (x 1).isLt
  have h2 : (x 2).val < 512 := (x 2).isLt
  subst hro
  constructor
  · intro h
    have e0 : p ≤ (x 0).val ∧ (x 0).val < p + 1 := h 0
    have e1 : r ≤ (x 1).val ∧ (x 1).val < r + R := h 1
    omega
  · intro h a
    match a with
    | ⟨0, _⟩ => show p ≤ (x 0).val ∧ (x 0).val < p + 1; omega
    | ⟨1, _⟩ => show r ≤ (x 1).val ∧ (x 1).val < r + R; omega
    | ⟨2, _⟩ => show 0 ≤ (x 2).val ∧ (x 2).val < 0 + 512; omega

/-- The array index under the window's index `y`. -/
theorem win_at (y : (Win R).Idx) : (Rect.unit (s := S96x512x512) o (Win1 R).size ho).emb (Shape.reshapeEquiv hq.numel_eq y)
    = at3 p (r + (y 0).val) (y 1).val (win_p hro ho) (Nat.lt_of_lt_of_le (Nat.add_lt_add_left (y 0).isLt r) (win_r hro ho)) (y 1).isLt := by
  have e := Shape.reshapeEquiv_cons_one (d := ![R, 512]) hq.numel_eq y
  rw [show Shape.reshapeEquiv hq.numel_eq y = (Fin.cons ⟨0, Nat.one_pos⟩ y : (Win1 R).Idx) from e]
  funext a
  apply Fin.ext
  rw [Rect.emb_apply]
  subst hro
  match a with
  | ⟨0, _⟩ => show p + 1 * 0 = p; omega
  | ⟨1, _⟩ => show r + 1 * (y 0).val = r + (y 0).val; omega
  | ⟨2, _⟩ => show 0 + 1 * (y 1).val = (y 1).val; omega

/-- What a window shows at a place is the array's word at that row and column of the plane. -/
theorem win_read {F : FTy → Type} (f : M.view.ty.Contents (Elt F)) (y : (Win R).Idx) : (winOf M o ho hq).view.read (Elt F) f y
    = M.view.read (Elt F) f (at3 p (r + (y 0).val) (y 1).val (win_p hro ho) (Nat.lt_of_lt_of_le (Nat.add_lt_add_left (y 0).isLt r) (win_r hro ho)) (y 1).isLt) := by
  rw [← win_at hro ho hq y]; rfl
end

/-! ## The steps -/

variable {F : FTy → Type} [FloatOps F]

variable (i : grid0.Coords)

-- the operations of a vector subcore at grid coordinates `i`
local notation "TE" => TpuEff nD τ sig (Elt F) Λ₀ (Proc.scVector (Fin.castLE hcore0 (i 0)) (Fin.castLE hsub0 (i 1)))
local notation "𝕄" => MT nD τ sig (HIx 1) (Elt F) ℕ UU ℕ

/-- A chunk's copy in issued. -/
def sendIn (M : Memref sig .scVector .hbm S96x512x512 .i32) (buf : Memref sig .scVector .vmem S32x512 .i32) (hbuf : buf.IsWhole) (sem : DmaSem sig)
    (o : Fin 3 → ℕ) (ho : ∀ a, o a + S1x32x512.size a ≤ S96x512x512.size a) : Prog TE PUnit :=
  Prog.lift (.enqueueDma (winOf (R := 32) M o ho squeezes_S1x32x512_S32x512) (.here buf) (.dma sem) ((View.wordExact_bits rfl).reshape _ _) hbuf.wordExact ⟨Or.inl rfl, trivial⟩)

/-- A chunk's copy in awaited. -/
def waitIn (M : Memref sig .scVector .hbm S96x512x512 .i32) (buf : Memref sig .scVector .vmem S32x512 .i32) (hbuf : buf.IsWhole) (sem : DmaSem sig)
    (o : Fin 3 → ℕ) (ho : ∀ a, o a + S1x32x512.size a ≤ S96x512x512.size a) : Prog TE PUnit :=
  Prog.lift (.waitDma2 sem (winOf (R := 32) M o ho squeezes_S1x32x512_S32x512) buf ((View.wordExact_bits rfl).reshape _ _) hbuf.wordExact)

/-- A chunk's copy out issued. -/
def sendOut (M : Memref sig .scVector .hbm S96x512x512 .i32) (buf : Memref sig .scVector .vmem S16x512 .i32) (hbuf : buf.IsWhole) (sem : DmaSem sig)
    (o : Fin 3 → ℕ) (ho : ∀ a, o a + S1x16x512.size a ≤ S96x512x512.size a) : Prog TE PUnit :=
  Prog.lift (.enqueueDma buf (.here (winOf (R := 16) M o ho squeezes_S1x16x512_S16x512)) (.dma sem) hbuf.wordExact ((View.wordExact_bits rfl).reshape _ _) ⟨Or.inl rfl, trivial⟩)

/-- A chunk's copy out awaited. -/
def waitOut (M : Memref sig .scVector .hbm S96x512x512 .i32) (buf : Memref sig .scVector .vmem S16x512 .i32) (hbuf : buf.IsWhole) (sem : DmaSem sig)
    (o : Fin 3 → ℕ) (ho : ∀ a, o a + S1x16x512.size a ≤ S96x512x512.size a) : Prog TE PUnit :=
  Prog.lift (.waitDma2 sem buf (winOf (R := 16) M o ho squeezes_S1x16x512_S16x512) hbuf.wordExact ((View.wordExact_bits rfl).reshape _ _))

variable (d : Dev nD)

/-- The rows from `a` up to `b` of the array, at the contents `f`. -/
def Rows (M : Memref sig .scVector .hbm S96x512x512 .i32) (f : Buf (Elt F) (M.view.loc (tile i d))) (a b : ℕ) : sProp 𝕄 :=
  M.view.loc (tile i d) ↦[M.view.setOn (band a b)]{fullShare} f

/-- What the thread owes while it runs, and that its waits are admissible. -/
def Owing (O : CellTallies nD τ sig (HIx 1)) (W : Waits sig (HIx 1)) : sProp 𝕄 :=
  iprop(Transfers.MayWaits (tile i d) (none : HIx 1) O ∗ ∃ W', ⌜∀ p ∈ W', p ∈ W ∨ p.2 = none⌝ ∗ owes (tile i d) O W')

/-- A buffer and its semaphore, no copy of it under way. -/
def Idle {s : Shape} (buf : Memref sig .scVector .vmem s .i32) (sem : DmaSem sig) : sProp 𝕄 :=
  iprop((∃ g, Held (F := F) (tile i d) buf g) ∗ semVal (tile i d, SemLoc.dma sem) 0)

/-- Chunk `j` of plane `p` on its way into the buffer. -/
def Coming (M : Memref sig .scVector .hbm S96x512x512 .i32) (f : Buf (Elt F) (M.view.loc (tile i d))) (buf : Memref sig .scVector .vmem S32x512 .i32) (sem : DmaSem sig) (p j : ℕ) : sProp 𝕄 :=
  Transfers.Flight countersEmb (tile i d) (SemLoc.dma sem) none buf.view.dmaCredit
    iprop(Held (F := F) (tile i d) buf (chunkAt (pixOf (M.view.read (Elt F) f) p) j) ∗ Rows (F := F) i d M f (512 * p + 32 * j) (512 * p + 32 * j + 32))

/-- Chunk `k` of plane `p` on its way out of the buffer; `g` is the whole result. -/
def Going (M : Memref sig .scVector .hbm S96x512x512 .i32) (g : Buf (Elt F) (M.view.loc (tile i d))) (buf : Memref sig .scVector .vmem S16x512 .i32) (sem : DmaSem sig) (p k : ℕ) : sProp 𝕄 :=
  Transfers.Flight countersEmb (tile i d) (SemLoc.dma sem) none (M.view.ref.dmaCredit S16x512 .i32)
    iprop((∃ v, Held (F := F) (tile i d) buf v) ∗ Rows (F := F) i d M g (512 * p + 16 * k) (512 * p + 16 * k + 16))

section
variable {i d} {M : Memref sig .scVector .hbm S96x512x512 .i32}

/-- Rows held are held in two bands. -/
theorem Rows.split {f : Buf (Elt F) (M.view.loc (tile i d))} {a b c : ℕ} (h₁ : a ≤ b) (h₂ : b ≤ c) :
    Rows (F := F) i d M f a c ⊣⊢ iprop(Rows (F := F) i d M f a b ∗ Rows (F := F) i d M f b c) := by
  unfold Rows
  rw [band_union h₁ h₂, show M.view.setOn (band a b ∪ band b c) = M.view.setOn (band a b) ∪ M.view.setOn (band b c) from Finset.map_union ..]
  exact pointsTo_union ((Finset.disjoint_map _).mpr (band_disjoint a b c))

/-- No rows are held for nothing. -/
theorem Rows.none (f : Buf (Elt F) (M.view.loc (tile i d))) (a : ℕ) : (iprop(emp) : sProp 𝕄) ⊢ Rows (F := F) i d M f a a := by
  unfold Rows
  rw [band_empty, show M.view.setOn ∅ = ∅ from Finset.map_empty _, pointsTo_empty]

/-- A chunk's copy in issued: its rows leave the rest. -/
theorem sendIn_run {f : Buf (Elt F) (M.view.loc (tile i d))} {buf : Memref sig .scVector .vmem S32x512 .i32} {hbuf : buf.IsWhole} {sem : DmaSem sig}
    {o : Fin 3 → ℕ} {ho : ∀ a, o a + S1x32x512.size a ≤ S96x512x512.size a} (p j e : ℕ) (hro : o = ![p, 32 * j, 0]) (he : 512 * p + 32 * j + 32 ≤ e) :
    iprop(Idle (F := F) i d buf sem ∗ Rows (F := F) i d M f (512 * p + 32 * j) e)
      ⊢ run (tile i d) (sendIn i M buf hbuf sem o ho) (fun _ => iprop(Coming (F := F) i d M f buf sem p j ∗ Rows (F := F) i d M f (512 * p + 32 * j + 32) e)) := by
  unfold Idle Coming sendIn
  iintro ⟨⟨⟨%g, HB⟩, Hs⟩, HR⟩
  ihave H := (Rows.split (F := F) (i := i) (d := d) (M := M) (f := f) (a := 512 * p + 32 * j) (b := 512 * p + 32 * j + 32) (c := e) (by omega) he).1 $$ HR
  icases H with ⟨HC, HR⟩
  unfold Held
  icases HB with ⟨%fb, %hfb, HB⟩
  unfold Rows
  rw [← win_set (M := M) hro ho squeezes_S1x32x512_S32x512]
  simp only [Prog.lift]
  iapply (Transfers.wp_dmaLocal countersEmb 𝒱₀ (tile i d) none (src := winOf (R := 32) M o ho squeezes_S1x32x512_S32x512) (dst := buf) (sm := SemLoc.dma sem) none _ rfl
    (View.amount_pos _ _ (show 0 < S32x512.numel by decide)) subset_rfl) $$ [HC HB Hs]
  · isplitl [HC]; · iexact HC
    isplitl [HB] <;> iassumption
  iintro HF
  iapply (le_wp_ret _ _ _ _ _)
  isplitl [HF]
  · iapply (Transfers.Flight_mono countersEmb (tile i d) ?_) $$ HF
    iintro ⟨HB, HC⟩
    isplitl [HB]
    · iexists _
      isplitr [HB]
      rotate_left
      · iexact HB
      · ipureintro
        rw [View.read_write_univ]
        funext y
        show (winOf (R := 32) M o ho squeezes_S1x32x512_S32x512).view.read (Elt F) f y = _
        refine (win_read (F := F) (M := M) (R := 32) hro ho squeezes_S1x32x512_S32x512 f y).trans ?_
        refine (pixOf_at3 (M.view.read (Elt F) f) (win_p (R := 32) hro ho) (Nat.lt_of_lt_of_le (Nat.add_lt_add_left (y 0).isLt (32 * j)) (win_r (R := 32) hro ho)) (y 1).isLt).symm.trans ?_
        unfold chunkAt
        congr 1; show 512 * (32 * j + _) + _ = 16384 * j + _; omega
    · iexact HC
  · iexact HR

/-- A chunk's copy in awaited: the buffer reads the chunk, its rows join the ones done. -/
theorem waitIn_run {f : Buf (Elt F) (M.view.loc (tile i d))} {buf : Memref sig .scVector .vmem S32x512 .i32} {hbuf : buf.IsWhole} {sem : DmaSem sig}
    {o : Fin 3 → ℕ} {ho : ∀ a, o a + S1x32x512.size a ≤ S96x512x512.size a} {O : CellTallies nD τ sig (HIx 1)} {W : Waits sig (HIx 1)} (p j a : ℕ) (ha : a ≤ 512 * p + 32 * j) :
    iprop(Coming (F := F) i d M f buf sem p j ∗ Rows (F := F) i d M f a (512 * p + 32 * j) ∗ Owing (F := F) i d O W)
      ⊢ run (tile i d) (waitIn i M buf hbuf sem o ho) (fun _ => iprop(Held (F := F) (tile i d) buf (chunkAt (pixOf (M.view.read (Elt F) f) p) j)
          ∗ semVal (tile i d, SemLoc.dma sem) 0 ∗ Rows (F := F) i d M f a (512 * p + 32 * j + 32) ∗ Owing (F := F) i d O W)) := by
  unfold Coming waitIn Owing
  simp only [Prog.lift]
  iintro ⟨HF, HR, #Hmw, %W', %hW', HO⟩
  ihave Hm := (Transfers.MayWaits.elim (SemLoc.dma sem)) $$ Hmw
  iapply (Transfers.wp_waitLocalO countersEmb 𝒱₀ (tile i d) none none rfl) $$ [HF HO Hm]
  · isplitl [HF]; · iexact HF
    isplitl [HO] <;> iassumption
  iintro ⟨⟨HB, HC⟩, Hs, HO⟩
  iapply (le_wp_ret _ _ _ _ _)
  isplitl [HB]; · iexact HB
  isplitl [Hs]; · iexact Hs
  isplitl [HR HC]
  · iapply (Rows.split (F := F) (i := i) (d := d) (M := M) (b := 512 * p + 32 * j) ha (by omega)).2
    isplitl [HR] <;> iassumption
  isplitr
  · iexact Hmw
  iexists _
  isplitr [HO]
  rotate_left
  · iexact HO
  · ipureintro
    intro q hq
    rcases Finset.mem_insert.mp hq with h | h
    · exact .inr (h ▸ rfl)
    · exact hW' q h

/-- A chunk's copy out issued: its rows leave the rest. -/
theorem sendOut_run {g : Buf (Elt F) (M.view.loc (tile i d))} {X : S96x512x512.Idx → BitVec 32} (hg : M.view.read (Elt F) g = equalized X)
    {buf : Memref sig .scVector .vmem S16x512 .i32} {hbuf : buf.IsWhole} {sem : DmaSem sig}
    {o : Fin 3 → ℕ} {ho : ∀ a, o a + S1x16x512.size a ≤ S96x512x512.size a} (p k e : ℕ) (hro : o = ![p, 16 * k, 0]) (he : 512 * p + 16 * k + 16 ≤ e) :
    iprop(LookTo (F := F) i d buf (pixOf X p) (tabAt (pixOf X p)) k 8192 ∗ semVal (tile i d, SemLoc.dma sem) 0 ∗ (∃ f, Rows (F := F) i d M f (512 * p + 16 * k) e))
      ⊢ run (tile i d) (sendOut i M buf hbuf sem o ho) (fun _ => iprop(Going (F := F) i d M g buf sem p k ∗ ∃ f, Rows (F := F) i d M f (512 * p + 16 * k + 16) e)) := by
  unfold Going sendOut LookTo
  iintro ⟨⟨%v, %hv, HB⟩, Hs, %f, HR⟩
  ihave H := (Rows.split (F := F) (i := i) (d := d) (M := M) (f := f) (a := 512 * p + 16 * k) (b := 512 * p + 16 * k + 16) (c := e) (by omega) he).1 $$ HR
  icases H with ⟨HC, HR⟩
  unfold Held
  icases HB with ⟨%fb, %hfb, HB⟩
  have hs := win_set (M := M) hro ho squeezes_S1x16x512_S16x512
  unfold Rows
  rw [← hs]
  simp only [Prog.lift]
  iapply (Transfers.wp_dmaLocal countersEmb 𝒱₀ (tile i d) none (src := buf) (dst := winOf (R := 16) M o ho squeezes_S1x16x512_S16x512) (sm := SemLoc.dma sem) none _ rfl
    (View.amount_pos _ _ (show 0 < S16x512.numel by decide)) subset_rfl) $$ [HC HB Hs]
  · isplitl [HB]; · iexact HB
    isplitl [HC] <;> iassumption
  iintro HF
  iapply (le_wp_ret _ _ _ _ _)
  isplitl [HF]
  · iapply (Transfers.Flight_mono countersEmb (tile i d) ?_) $$ HF
    iintro ⟨HC, HB⟩
    isplitl [HB]
    · iexists v
      iexists fb
      isplitr
      · ipureintro; exact hfb
      · iexact HB
    · iapply (Entails.of_eq (pointsTo_congr ?hc)) $$ HC
      case hc =>
        intro x hx
        obtain ⟨y, -, rfl⟩ := Finset.mem_map.mp hx
        apply View.eq_of_read_eq
        rw [View.read_write_univ, win_read hro ho squeezes_S1x16x512_S16x512 g y, hg]
        have h0 : (y 0).val < 16 := (y 0).isLt
        have h1 : (y 1).val < 512 := (y 1).isLt
        show buf.view.read (Elt F) fb y = _
        rw [hfb, hv y (by omega)]
        have e : 8192 * k + (512 * (y 0).val + (y 1).val) = 512 * (16 * k + (y 0).val) + (y 1).val := by omega
        rw [e, pixOf_at3 X (win_p hro ho) (Nat.lt_of_lt_of_le (Nat.add_lt_add_left (y 0).isLt (16 * k)) (win_r hro ho)) h1]
        rfl
  · iexists f; iexact HR

/-- A chunk's copy out awaited: its rows of the result are written. -/
theorem waitOut_run {g : Buf (Elt F) (M.view.loc (tile i d))} {buf : Memref sig .scVector .vmem S16x512 .i32} {hbuf : buf.IsWhole} {sem : DmaSem sig}
    {o : Fin 3 → ℕ} {ho : ∀ a, o a + S1x16x512.size a ≤ S96x512x512.size a} {O : CellTallies nD τ sig (HIx 1)} {W : Waits sig (HIx 1)} (p k a : ℕ) (ha : a ≤ 512 * p + 16 * k) :
    iprop(Going (F := F) i d M g buf sem p k ∗ Rows (F := F) i d M g a (512 * p + 16 * k) ∗ Owing (F := F) i d O W)
      ⊢ run (tile i d) (waitOut i M buf hbuf sem o ho) (fun _ => iprop(Idle (F := F) i d buf sem ∗ Rows (F := F) i d M g a (512 * p + 16 * k + 16) ∗ Owing (F := F) i d O W)) := by
  unfold Going waitOut Owing Idle
  simp only [Prog.lift]
  iintro ⟨HF, HR, #Hmw, %W', %hW', HO⟩
  ihave Hm := (Transfers.MayWaits.elim (SemLoc.dma sem)) $$ Hmw
  iapply (Transfers.wp_waitLocalO countersEmb 𝒱₀ (tile i d) none none rfl) $$ [HF HO Hm]
  · isplitl [HF]; · iexact HF
    isplitl [HO] <;> iassumption
  iintro ⟨⟨HB, HC⟩, Hs, HO⟩
  iapply (le_wp_ret _ _ _ _ _)
  isplitl [HB Hs]
  · isplitl [HB] <;> iassumption
  isplitl [HR HC]
  · iapply (Rows.split (F := F) (i := i) (d := d) (M := M) (b := 512 * p + 16 * k) ha (by omega)).2
    isplitl [HR] <;> iassumption
  isplitr
  · iexact Hmw
  iexists _
  isplitr [HO]
  rotate_left
  · iexact HO
  · ipureintro
    intro q hq
    rcases Finset.mem_insert.mp hq with h | h
    · exact .inr (h ▸ rfl)
    · exact hW' q h
end

end Cert.Proof.Eq
-- ==== Proof.Phases.lean ====
/-
  What a vector subcore holds between two operations of a plane, while it reads the plane (two input buffers taking turns,
  the histogram and the packed words growing) and while it writes it (two output buffers taking turns, the rows of the result
  growing), and what each operation does to it: a copy issued, a copy awaited, a loop run. The kernel's windows are chains of these.
-/
module

public import proofs.«01_k».proof.Proof.Copies

@[expose] public section

noncomputable section

namespace Cert.Proof.Eq

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

/-- The kernel's buffers and semaphores: the two arrays, the two input and two output buffers, the packed words, the histogram,
    the scalar histogram, the table, and a semaphore for each buffer of a copy. -/
structure Args where
  arg2 : Memref sig .scVector .hbm S96x512x512 .i32
  harg2 : arg2.IsWhole
  arg3 : Memref sig .scVector .hbm S96x512x512 .i32
  harg3 : arg3.IsWhole
  arg4 : Memref sig .scVector .vmem S32x512 .i32
  harg4 : arg4.IsWhole
  arg5 : Memref sig .scVector .vmem S32x512 .i32
  harg5 : arg5.IsWhole
  arg6 : Memref sig .scVector .vmem S16x512 .i32
  harg6 : arg6.IsWhole
  arg7 : Memref sig .scVector .vmem S16x512 .i32
  harg7 : arg7.IsWhole
  arg8 : Memref sig .scVector .vmem S65536 .i32
  harg8 : arg8.IsWhole
  arg9 : Memref sig .scVector .vmem S4096 .i32
  harg9 : arg9.IsWhole
  arg10 : Memref sig .scVector .smem S256 .i32
  harg10 : arg10.IsWhole
  arg11 : Memref sig .scVector .vmem S4096 .i32
  harg11 : arg11.IsWhole
  arg12 : DmaSems sig S_
  arg13 : DmaSems sig S_
  arg14 : DmaSems sig S_
  arg15 : DmaSems sig S_

/-- A program of the kernel at its buffers and semaphores. -/
abbrev Args.app {X : Type 1} (A : Args) (p : (arg2 : Memref sig .scVector .hbm S96x512x512 .i32) → arg2.IsWhole → (arg3 : Memref sig .scVector .hbm S96x512x512 .i32) → arg3.IsWhole →
    (arg4 : Memref sig .scVector .vmem S32x512 .i32) → arg4.IsWhole → (arg5 : Memref sig .scVector .vmem S32x512 .i32) → arg5.IsWhole →
    (arg6 : Memref sig .scVector .vmem S16x512 .i32) → arg6.IsWhole → (arg7 : Memref sig .scVector .vmem S16x512 .i32) → arg7.IsWhole →
    (arg8 : Memref sig .scVector .vmem S65536 .i32) → arg8.IsWhole → (arg9 : Memref sig .scVector .vmem S4096 .i32) → arg9.IsWhole →
    (arg10 : Memref sig .scVector .smem S256 .i32) → arg10.IsWhole → (arg11 : Memref sig .scVector .vmem S4096 .i32) → arg11.IsWhole →
    DmaSems sig S_ → DmaSems sig S_ → DmaSems sig S_ → DmaSems sig S_ → X) : X :=
  p A.arg2 A.harg2 A.arg3 A.harg3 A.arg4 A.harg4 A.arg5 A.harg5 A.arg6 A.harg6 A.arg7 A.harg7 A.arg8 A.harg8 A.arg9 A.harg9
    A.arg10 A.harg10 A.arg11 A.harg11 A.arg12 A.arg13 A.arg14 A.arg15

variable {F : FTy → Type} [FloatOps F]

variable (i : grid0.Coords)

-- the operations of a vector subcore at grid coordinates `i`
local notation "TE" => TpuEff nD τ sig (Elt F) Λ₀ (Proc.scVector (Fin.castLE hcore0 (i 0)) (Fin.castLE hsub0 (i 1)))
local notation "𝕄" => MT nD τ sig (HIx 1) (Elt F) ℕ UU ℕ

variable (d : Dev nD)

/-- The subcore's plane number `t`. -/
abbrev planeOf (t : ℕ) : ℕ := 6 * (i 1).val + 3 * (i 0).val + t

/-- The subcore's first row, and the row after its last. -/
abbrev firstRow : ℕ := 512 * planeOf i 0
abbrev lastRow : ℕ := 512 * planeOf i 3

/-- The arrays' contents (the input, and the result it is to become), and what the subcore owes. -/
structure Env (A : Args) where
  f : Buf (Elt F) (A.arg2.view.loc (tile i d))
  g : Buf (Elt F) (A.arg3.view.loc (tile i d))
  bytes : ∀ x, (show BitVec 32 from A.arg2.view.read (Elt F) f x).toNat < 256
  result : A.arg3.view.read (Elt F) g = equalized (A.arg2.view.read (Elt F) f)
  O : CellTallies nD τ sig (HIx 1)
  W : Waits sig (HIx 1)

variable {i d} {A : Args}

/-- The plane's pixels. -/
abbrev Env.pix (E : Env (F := F) i d A) (t : ℕ) : ℕ → BitVec 32 := pixOf (A.arg2.view.read (Elt F) E.f) (planeOf i t)

/-- The pixels of the tile's `t`-th plane are bytes. -/
theorem Env.pix_bytes (E : Env (F := F) i d A) (t : ℕ) : Bytes (E.pix t) := pixOf_bytes E.bytes _

/-! ## Reading a plane -/

/-- The state of an input buffer: idle, a chunk on its way in, a chunk there. -/
inductive InSlot | idle | coming (j : ℕ) | full (j : ℕ)

/-- What the subcore holds of an input buffer. -/
def InAt (E : Env (F := F) i d A) (t : ℕ) (buf : Memref sig .scVector .vmem S32x512 .i32) (sem : DmaSem sig) : InSlot → sProp 𝕄
  | .idle => Idle (F := F) i d buf sem
  | .coming j => Coming (F := F) i d A.arg2 E.f buf sem (planeOf i t) j
  | .full j => iprop(Held (F := F) (tile i d) buf (chunkAt (E.pix t) j) ∗ semVal (tile i d, SemLoc.dma sem) 0)

/-- While reading plane `t`: `x` and `y` the input buffers' states, `a` chunks arrived, `b` chunks asked for, `H` what else is held. -/
def ReadingOf (H : sProp 𝕄) (E : Env (F := F) i d A) (t : ℕ) (x y : InSlot) (a b : ℕ) : sProp 𝕄 :=
  iprop(InAt E t A.arg4 A.arg12.sem x ∗ InAt E t A.arg5 A.arg13.sem y
    ∗ Rows (F := F) i d A.arg2 E.f (firstRow i) (512 * planeOf i t + 32 * a) ∗ Rows (F := F) i d A.arg2 E.f (512 * planeOf i t + 32 * b) (lastRow i)
    ∗ H ∗ Owing (F := F) i d E.O E.W)

/-- The histogram and the packed words after `c` chunks. -/
abbrev Counted (E : Env (F := F) i d A) (t c : ℕ) : sProp 𝕄 :=
  iprop(Held (F := F) (tile i d) A.arg9 (histAt (E.pix t) (4 * (256 * c))) ∗ PackedTo (F := F) i d A.arg8 (E.pix t) (16 * (256 * c)))

/-- While reading plane `t`, `c` chunks counted. -/
abbrev Reading (E : Env (F := F) i d A) (t : ℕ) (x y : InSlot) (a b c : ℕ) : sProp 𝕄 := ReadingOf (Counted E t c) E t x y a b

section
variable (E : Env (F := F) i d A) {t : ℕ} {H : sProp (MT nD τ sig (HIx 1) (Elt F) ℕ UU ℕ)}

/-- A chunk asked for, into the first buffer; -/
theorem sendA {y : InSlot} {a : ℕ} (b : ℕ) {o : Fin 3 → ℕ} {ho : ∀ a, o a + S1x32x512.size a ≤ S96x512x512.size a} (hro : o = ![planeOf i t, 32 * b, 0]) (ht : t < 3 := by omega) (hb : b < 16 := by omega) :
    ReadingOf H E t .idle y a b ⊢ run (tile i d) (sendIn i A.arg2 A.arg4 A.harg4 A.arg12.sem o ho) (fun _ => ReadingOf H E t (.coming b) y a (b + 1)) := by
  simp only [ReadingOf, InAt]
  iintro ⟨HA, HB, H1, H2, H⟩
  iapply (run_wand (sendIn_run (F := F) (planeOf i t) b (lastRow i) hro (by unfold lastRow planeOf; omega))) $$ [HA H2]
  · isplitl [HA]
    · iexact HA
    · iexact H2
  iintro %_ ⟨HA, H2⟩
  isplitl [HA]; · iexact HA
  isplitl [HB]; · iexact HB
  isplitl [H1]; · iexact H1
  isplitl [H2]
  · rw [show 512 * planeOf i t + 32 * (b + 1) = 512 * planeOf i t + 32 * b + 32 by omega]; iexact H2
  iexact H

/-- and into the second. -/
theorem sendB {x : InSlot} {a : ℕ} (b : ℕ) {o : Fin 3 → ℕ} {ho : ∀ a, o a + S1x32x512.size a ≤ S96x512x512.size a} (hro : o = ![planeOf i t, 32 * b, 0]) (ht : t < 3 := by omega) (hb : b < 16 := by omega) :
    ReadingOf H E t x .idle a b ⊢ run (tile i d) (sendIn i A.arg2 A.arg5 A.harg5 A.arg13.sem o ho) (fun _ => ReadingOf H E t x (.coming b) a (b + 1)) := by
  simp only [ReadingOf, InAt]
  iintro ⟨HA, HB, H1, H2, H⟩
  iapply (run_wand (sendIn_run (F := F) (planeOf i t) b (lastRow i) hro (by unfold lastRow planeOf; omega))) $$ [HB H2]
  · isplitl [HB]
    · iexact HB
    · iexact H2
  iintro %_ ⟨HB, H2⟩
  isplitl [HA]; · iexact HA
  isplitl [HB]; · iexact HB
  isplitl [H1]; · iexact H1
  isplitl [H2]
  · rw [show 512 * planeOf i t + 32 * (b + 1) = 512 * planeOf i t + 32 * b + 32 by omega]; iexact H2
  iexact H

/-- A chunk's arrival in the first buffer awaited; -/
theorem waitA {y : InSlot} {b : ℕ} (j : ℕ) {o : Fin 3 → ℕ} {ho : ∀ a, o a + S1x32x512.size a ≤ S96x512x512.size a} :
    ReadingOf H E t (.coming j) y j b ⊢ run (tile i d) (waitIn i A.arg2 A.arg4 A.harg4 A.arg12.sem o ho) (fun _ => ReadingOf H E t (.full j) y (j + 1) b) := by
  simp only [ReadingOf, InAt]
  iintro ⟨HA, HB, H1, H2, HH, HO⟩
  iapply (run_wand (waitIn_run (F := F) (planeOf i t) j (firstRow i) (by unfold firstRow planeOf; omega))) $$ [HA H1 HO]
  · isplitl [HA]
    · iexact HA
    · isplitl [H1] <;> iassumption
  iintro %_ ⟨HA, Hs, H1, HO⟩
  isplitl [HA Hs]
  · isplitl [HA]
    · iexact HA
    · iexact Hs
  isplitl [HB]; · iexact HB
  isplitl [H1]
  · rw [show 512 * planeOf i t + 32 * (j + 1) = 512 * planeOf i t + 32 * j + 32 by omega]; iexact H1
  isplitl [H2]; · iexact H2
  isplitl [HH] <;> iassumption

/-- and in the second. -/
theorem waitB {x : InSlot} {b : ℕ} (j : ℕ) {o : Fin 3 → ℕ} {ho : ∀ a, o a + S1x32x512.size a ≤ S96x512x512.size a} :
    ReadingOf H E t x (.coming j) j b ⊢ run (tile i d) (waitIn i A.arg2 A.arg5 A.harg5 A.arg13.sem o ho) (fun _ => ReadingOf H E t x (.full j) (j + 1) b) := by
  simp only [ReadingOf, InAt]
  iintro ⟨HA, HB, H1, H2, HH, HO⟩
  iapply (run_wand (waitIn_run (F := F) (planeOf i t) j (firstRow i) (by unfold firstRow planeOf; omega))) $$ [HB H1 HO]
  · isplitl [HB]
    · iexact HB
    · isplitl [H1] <;> iassumption
  iintro %_ ⟨HB, Hs, H1, HO⟩
  isplitl [HA]; · iexact HA
  isplitl [HB Hs]
  · isplitl [HB]
    · iexact HB
    · iexact Hs
  isplitl [H1]
  · rw [show 512 * planeOf i t + 32 * (j + 1) = 512 * planeOf i t + 32 * j + 32 by omega]; iexact H1
  isplitl [H2]; · iexact H2
  isplitl [HH] <;> iassumption

/-- The chunk in the first buffer counted; -/
theorem countA {y : InSlot} {a b : ℕ} (j : ℕ) {p : Fin k0_t3_loop.trips → Fin 1 → Nat} (hp : ∀ t a, p t a + S16.size a ≤ S65536.size a) (ep : ∀ t, p t = ![16 * t.val + 4096 * j]) :
    Reading E t (.full j) y a b j ⊢ run (tile i d) (Scf.Loop.for k0_t3_loop k0_t3_ok PUnit.unit fun t _ => countTrip i A.arg4 A.arg8 A.arg9 lanes k0_pay1 (k0_off4 t) (k0_off5 t) (k0_off6 t) (k0_off7 t)
            (k0_off4_inb t) (k0_off5_inb t) (k0_off6_inb t) (k0_off7_inb t) (p t) (hp t)) (fun _ => Reading E t .idle y a b (j + 1)) := by
  simp only [Reading, ReadingOf, InAt, Idle]
  iintro ⟨⟨HA, Hs⟩, HB, H1, H2, ⟨HH, HP⟩, HO⟩
  iapply (run_wand (countLoop_run (F := F) (E.pix_bytes t) j hp ep)) $$ [HA HH HP]
  · unfold Counting
    isplitl [HA]; · iexact HA
    isplitl [HH] <;> iassumption
  unfold Counting
  iintro %_ ⟨HA, HH, HP⟩
  isplitl [HA Hs]
  · isplitl [HA]
    · iexists _; iexact HA
    · iexact Hs
  isplitl [HB]; · iexact HB
  isplitl [H1]; · iexact H1
  isplitl [H2]; · iexact H2
  isplitl [HH HP]
  · isplitl [HH] <;> iassumption
  · iexact HO

/-- and the one in the second. -/
theorem countB {x : InSlot} {a b : ℕ} (j : ℕ) {p : Fin k0_t3_loop.trips → Fin 1 → Nat} (hp : ∀ t a, p t a + S16.size a ≤ S65536.size a) (ep : ∀ t, p t = ![16 * t.val + 4096 * j]) :
    Reading E t x (.full j) a b j ⊢ run (tile i d) (Scf.Loop.for k0_t3_loop k0_t3_ok PUnit.unit fun t _ => countTrip i A.arg5 A.arg8 A.arg9 lanes k0_pay1 (k0_off4 t) (k0_off5 t) (k0_off6 t) (k0_off7 t)
            (k0_off4_inb t) (k0_off5_inb t) (k0_off6_inb t) (k0_off7_inb t) (p t) (hp t)) (fun _ => Reading E t x .idle a b (j + 1)) := by
  simp only [Reading, ReadingOf, InAt, Idle]
  iintro ⟨HA, ⟨HB, Hs⟩, H1, H2, ⟨HH, HP⟩, HO⟩
  iapply (run_wand (countLoop_run (F := F) (E.pix_bytes t) j hp ep)) $$ [HB HH HP]
  · unfold Counting
    isplitl [HB]; · iexact HB
    isplitl [HH] <;> iassumption
  unfold Counting
  iintro %_ ⟨HB, HH, HP⟩
  isplitl [HA]; · iexact HA
  isplitl [HB Hs]
  · isplitl [HB]
    · iexists _; iexact HB
    · iexact Hs
  isplitl [H1]; · iexact H1
  isplitl [H2]; · iexact H2
  isplitl [HH HP]
  · isplitl [HH] <;> iassumption
  · iexact HO
end

/-! ## Writing a plane -/

/-- The state of an output buffer: idle, a chunk of the result there, a chunk on its way out. -/
inductive OutSlot | idle | ready (k : ℕ) | going (k : ℕ)

/-- What the subcore holds of an output buffer. -/
def OutAt (E : Env (F := F) i d A) (t : ℕ) (buf : Memref sig .scVector .vmem S16x512 .i32) (sem : DmaSem sig) : OutSlot → sProp 𝕄
  | .idle => Idle (F := F) i d buf sem
  | .ready k => iprop(LookTo (F := F) i d buf (E.pix t) (tabAt (E.pix t)) k 8192 ∗ semVal (tile i d, SemLoc.dma sem) 0)
  | .going k => Going (F := F) i d A.arg3 E.g buf sem (planeOf i t) k

/-- While writing plane `t`: `x` and `y` the output buffers' states, `a` chunks written, `b` chunks sent. -/
def Writing (E : Env (F := F) i d A) (t : ℕ) (x y : OutSlot) (a b : ℕ) : sProp 𝕄 :=
  iprop(OutAt E t A.arg6 A.arg14.sem x ∗ OutAt E t A.arg7 A.arg15.sem y
    ∗ Rows (F := F) i d A.arg3 E.g (firstRow i) (512 * planeOf i t + 16 * a) ∗ (∃ f, Rows (F := F) i d A.arg3 f (512 * planeOf i t + 16 * b) (lastRow i))
    ∗ PackedTo (F := F) i d A.arg8 (E.pix t) 65536 ∗ Held (F := F) (tile i d) A.arg11 (lutAt (tabAt (E.pix t))) ∗ Owing (F := F) i d E.O E.W)

section
variable (E : Env (F := F) i d A) {t : ℕ}

/-- A chunk of the result computed, in the first buffer; -/
theorem lookA {y : OutSlot} {a b : ℕ} (k : ℕ) {p : Fin k0_t22_loop.trips → Fin 1 → Nat} (hp : ∀ t a, p t a + S16.size a ≤ S65536.size a) (ep : ∀ t, p t = ![16 * t.val + 2048 * k]) (hk : k < 32 := by omega) :
    Writing E t .idle y a b ⊢ run (tile i d) (Scf.Loop.for k0_t22_loop k0_t22_ok PUnit.unit fun t _ => lookTrip i A.arg6 A.arg8 A.arg11 lanes (p t) (hp t) (k0_off104 t) (k0_off105 t) (k0_off106 t) (k0_off107 t)
            (k0_off104_inb t) (k0_off105_inb t) (k0_off106_inb t) (k0_off107_inb t)) (fun _ => Writing E t (.ready k) y a b) := by
  simp only [Writing, OutAt, Idle]
  iintro ⟨⟨⟨%v, HA⟩, Hs⟩, HB, H1, H2, HP, HT, HO⟩
  iapply (run_wand (lookLoop_run (F := F) (lut := tabAt (E.pix t)) (E.pix_bytes t) k hk hp ep)) $$ [HA HP HT]
  · unfold Looking LookTo
    isplitl [HA]
    · iexists v
      isplitr
      · ipureintro; intro x hx; exact absurd hx (Nat.not_lt_zero _)
      · iexact HA
    isplitl [HP] <;> iassumption
  unfold Looking
  iintro %_ ⟨HA, HP, HT⟩
  isplitl [HA Hs]
  · isplitl [HA]
    · iexact HA
    · iexact Hs
  isplitl [HB]; · iexact HB
  isplitl [H1]; · iexact H1
  isplitl [H2]; · iexact H2
  isplitl [HP]; · iexact HP
  isplitl [HT] <;> iassumption

/-- and in the second. -/
theorem lookB {x : OutSlot} {a b : ℕ} (k : ℕ) {p : Fin k0_t22_loop.trips → Fin 1 → Nat} (hp : ∀ t a, p t a + S16.size a ≤ S65536.size a) (ep : ∀ t, p t = ![16 * t.val + 2048 * k]) (hk : k < 32 := by omega) :
    Writing E t x .idle a b ⊢ run (tile i d) (Scf.Loop.for k0_t22_loop k0_t22_ok PUnit.unit fun t _ => lookTrip i A.arg7 A.arg8 A.arg11 lanes (p t) (hp t) (k0_off104 t) (k0_off105 t) (k0_off106 t) (k0_off107 t)
            (k0_off104_inb t) (k0_off105_inb t) (k0_off106_inb t) (k0_off107_inb t)) (fun _ => Writing E t x (.ready k) a b) := by
  simp only [Writing, OutAt, Idle]
  iintro ⟨HA, ⟨⟨%v, HB⟩, Hs⟩, H1, H2, HP, HT, HO⟩
  iapply (run_wand (lookLoop_run (F := F) (lut := tabAt (E.pix t)) (E.pix_bytes t) k hk hp ep)) $$ [HB HP HT]
  · unfold Looking LookTo
    isplitl [HB]
    · iexists v
      isplitr
      · ipureintro; intro x hx; exact absurd hx (Nat.not_lt_zero _)
      · iexact HB
    isplitl [HP] <;> iassumption
  unfold Looking
  iintro %_ ⟨HB, HP, HT⟩
  isplitl [HA]; · iexact HA
  isplitl [HB Hs]
  · isplitl [HB]
    · iexact HB
    · iexact Hs
  isplitl [H1]; · iexact H1
  isplitl [H2]; · iexact H2
  isplitl [HP]; · iexact HP
  isplitl [HT] <;> iassumption

/-- A chunk of the result sent from the first buffer; -/
theorem putA {y : OutSlot} {a : ℕ} (k : ℕ) {o : Fin 3 → ℕ} {ho : ∀ a, o a + S1x16x512.size a ≤ S96x512x512.size a} (hro : o = ![planeOf i t, 16 * k, 0]) (ht : t < 3 := by omega) (hk : k < 32 := by omega) :
    Writing E t (.ready k) y a k ⊢ run (tile i d) (sendOut i A.arg3 A.arg6 A.harg6 A.arg14.sem o ho) (fun _ => Writing E t (.going k) y a (k + 1)) := by
  simp only [Writing, OutAt]
  iintro ⟨⟨HA, Hs⟩, HB, H1, H2, H⟩
  iapply (run_wand (sendOut_run (F := F) E.result (planeOf i t) k (lastRow i) hro (by unfold lastRow planeOf; omega))) $$ [HA Hs H2]
  · isplitl [HA]; · iexact HA
    isplitl [Hs] <;> iassumption
  iintro %_ ⟨HA, H2⟩
  isplitl [HA]; · iexact HA
  isplitl [HB]; · iexact HB
  isplitl [H1]; · iexact H1
  isplitl [H2]
  · rw [show 512 * planeOf i t + 16 * (k + 1) = 512 * planeOf i t + 16 * k + 16 by omega]; iexact H2
  iexact H

/-- and from the second. -/
theorem putB {x : OutSlot} {a : ℕ} (k : ℕ) {o : Fin 3 → ℕ} {ho : ∀ a, o a + S1x16x512.size a ≤ S96x512x512.size a} (hro : o = ![planeOf i t, 16 * k, 0]) (ht : t < 3 := by omega) (hk : k < 32 := by omega) :
    Writing E t x (.ready k) a k ⊢ run (tile i d) (sendOut i A.arg3 A.arg7 A.harg7 A.arg15.sem o ho) (fun _ => Writing E t x (.going k) a (k + 1)) := by
  simp only [Writing, OutAt]
  iintro ⟨HA, ⟨HB, Hs⟩, H1, H2, H⟩
  iapply (run_wand (sendOut_run (F := F) E.result (planeOf i t) k (lastRow i) hro (by unfold lastRow planeOf; omega))) $$ [HB Hs H2]
  · isplitl [HB]; · iexact HB
    isplitl [Hs] <;> iassumption
  iintro %_ ⟨HB, H2⟩
  isplitl [HA]; · iexact HA
  isplitl [HB]; · iexact HB
  isplitl [H1]; · iexact H1
  isplitl [H2]
  · rw [show 512 * planeOf i t + 16 * (k + 1) = 512 * planeOf i t + 16 * k + 16 by omega]; iexact H2
  iexact H

/-- A chunk's departure from the first buffer awaited; -/
theorem doneA {y : OutSlot} {b : ℕ} (k : ℕ) {o : Fin 3 → ℕ} {ho : ∀ a, o a + S1x16x512.size a ≤ S96x512x512.size a} :
    Writing E t (.going k) y k b ⊢ run (tile i d) (waitOut i A.arg3 A.arg6 A.harg6 A.arg14.sem o ho) (fun _ => Writing E t .idle y (k + 1) b) := by
  simp only [Writing, OutAt]
  iintro ⟨HA, HB, H1, H2, HP, HT, HO⟩
  iapply (run_wand (waitOut_run (F := F) (planeOf i t) k (firstRow i) (by unfold firstRow planeOf; omega))) $$ [HA H1 HO]
  · isplitl [HA]; · iexact HA
    isplitl [H1] <;> iassumption
  iintro %_ ⟨HA, H1, HO⟩
  isplitl [HA]; · iexact HA
  isplitl [HB]; · iexact HB
  isplitl [H1]
  · rw [show 512 * planeOf i t + 16 * (k + 1) = 512 * planeOf i t + 16 * k + 16 by omega]; iexact H1
  isplitl [H2]; · iexact H2
  isplitl [HP]; · iexact HP
  isplitl [HT] <;> iassumption

/-- and from the second. -/
theorem doneB {x : OutSlot} {b : ℕ} (k : ℕ) {o : Fin 3 → ℕ} {ho : ∀ a, o a + S1x16x512.size a ≤ S96x512x512.size a} :
    Writing E t x (.going k) k b ⊢ run (tile i d) (waitOut i A.arg3 A.arg7 A.harg7 A.arg15.sem o ho) (fun _ => Writing E t x .idle (k + 1) b) := by
  simp only [Writing, OutAt]
  iintro ⟨HA, HB, H1, H2, HP, HT, HO⟩
  iapply (run_wand (waitOut_run (F := F) (planeOf i t) k (firstRow i) (by unfold firstRow planeOf; omega))) $$ [HB H1 HO]
  · isplitl [HB]; · iexact HB
    isplitl [H1] <;> iassumption
  iintro %_ ⟨HB, H1, HO⟩
  isplitl [HA]; · iexact HA
  isplitl [HB]; · iexact HB
  isplitl [H1]
  · rw [show 512 * planeOf i t + 16 * (k + 1) = 512 * planeOf i t + 16 * k + 16 by omega]; iexact H1
  isplitl [H2]; · iexact H2
  isplitl [HP]; · iexact HP
  isplitl [HT] <;> iassumption
end

/-! ## Between planes -/

/-- The reading side: the input buffers idle, the rows of the input below plane `n` and from it on. -/
def ReadSide (E : Env (F := F) i d A) (n : ℕ) : sProp 𝕄 :=
  iprop(Idle (F := F) i d A.arg4 A.arg12.sem ∗ Idle (F := F) i d A.arg5 A.arg13.sem
    ∗ Rows (F := F) i d A.arg2 E.f (firstRow i) (512 * planeOf i n) ∗ Rows (F := F) i d A.arg2 E.f (512 * planeOf i n) (lastRow i))

/-- The writing side: the output buffers idle, the rows below plane `n` the result's, the others anything. -/
def WriteSide (E : Env (F := F) i d A) (n : ℕ) : sProp 𝕄 :=
  iprop(Idle (F := F) i d A.arg6 A.arg14.sem ∗ Idle (F := F) i d A.arg7 A.arg15.sem
    ∗ Rows (F := F) i d A.arg3 E.g (firstRow i) (512 * planeOf i n) ∗ ∃ f, Rows (F := F) i d A.arg3 f (512 * planeOf i n) (lastRow i))

/-- The buffer with anything in it. -/
def Any {sp : Space} {s : Shape} (m : Memref sig .scVector sp s .i32) : sProp 𝕄 := iprop(∃ v, Held (F := F) (tile i d) m v)

/-- With `n` planes done. -/
def Between (E : Env (F := F) i d A) (n : ℕ) : sProp 𝕄 :=
  iprop(ReadSide E n ∗ WriteSide E n ∗ Any (F := F) (i := i) (d := d) A.arg8 ∗ Any (F := F) (i := i) (d := d) A.arg9 ∗ Any (F := F) (i := i) (d := d) A.arg10 ∗ Any (F := F) (i := i) (d := d) A.arg11
    ∗ Owing (F := F) i d E.O E.W)

end Cert.Proof.Eq
-- ==== Proof.Windows.lean ====
/-
  The kernel's windows, in order: each a chain of the operations of a plane, from what the subcore holds before it to what it
  holds after; then a whole plane, the three planes, and the kernel's body on one vector subcore.
-/
module

public import proofs.«01_k».proof.Proof.Phases

@[expose] public section

noncomputable section

namespace Cert.Proof.Eq

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {i : grid0.Coords} {d : Dev nD} {A : Args} (E : Env (F := F) i d A) (t : Fin k0_t1_loop.trips)

/-! ## Reading -/

/-- The histogram cleared, the copies of the first chunks under way. -/
theorem clear_run {n : ℕ} {x y : InSlot} {a b : ℕ} :
    ReadingOf iprop(Any (F := F) (i := i) (d := d) A.arg9 ∗ PackedTo (F := F) i d A.arg8 (E.pix n) 0) E n x y a b
      ⊢ run (tile i d) (clearLoop i A.arg9 k0_pay2) (fun _ => Reading E n x y a b 0) := by
  simp only [Reading, ReadingOf, Any]
  iintro ⟨HA, HB, H1, H2, ⟨⟨%g, HH⟩, HP⟩, HO⟩
  iapply (run_wand (clearLoop_run (F := F) (pix := E.pix n))) $$ HH
  iintro %_ HH
  isplitl [HA]; · iexact HA
  isplitl [HB]; · iexact HB
  isplitl [H1]; · iexact H1
  isplitl [H2]; · iexact H2
  isplitl [HH HP]
  · isplitl [HH] <;> iassumption
  · iexact HO

/-- The lanes of a counted plane's histogram added up. -/
theorem merge_run {n : ℕ} {x y : InSlot} {a b : ℕ} :
    iprop(Reading E n x y a b 16 ∗ Any (F := F) (i := i) (d := d) A.arg10)
      ⊢ run (tile i d) (mergeLoop i A.arg9 A.arg10) (fun _ => iprop(Reading E n x y a b 16 ∗ Held (F := F) (tile i d) A.arg10 (fun z => hist (E.pix n) (z 0).val))) := by
  simp only [Reading, ReadingOf, Any]
  iintro ⟨⟨HA, HB, H1, H2, ⟨HH, HP⟩, HO⟩, %g, HM⟩
  iapply (run_wand (mergeLoop_run (F := F) (pix := E.pix n))) $$ [HH HM]
  · isplitl [HH] <;> iassumption
  iintro %_ ⟨HH, HM⟩
  isplitl [HA HB H1 H2 HH HP HO]
  · isplitl [HA]; · iexact HA
    isplitl [HB]; · iexact HB
    isplitl [H1]; · iexact H1
    isplitl [H2]; · iexact H2
    isplitl [HH HP]
    · isplitl [HH] <;> iassumption
    · iexact HO
  · iexact HM

/-- The last value that occurs. -/
theorem enc_run {n : ℕ} {R : sProp (MT nD τ sig (HIx 1) (Elt F) ℕ UU ℕ)} :
    iprop(R ∗ Held (F := F) (tile i d) A.arg10 (fun z => hist (E.pix n) (z 0).val))
      ⊢ run (tile i d) (encLoop i A.arg10) (fun v => iprop(⌜v = encTo (hist (E.pix n)) 256⌝ ∗ R ∗ Held (F := F) (tile i d) A.arg10 (fun z => hist (E.pix n) (z 0).val))) := by
  iintro ⟨HR, HM⟩
  iapply (run_wand (encLoop_run (F := F) (h := hist (E.pix n)))) $$ HM
  iintro %v ⟨%hv, HM⟩
  isplitr
  · ipureintro; exact hv
  isplitl [HR] <;> iassumption

/-- The reading's first stretch: two windows set off, the histogram is cleared and the first window is counted. -/
theorem part49_run (v1 : BitVec 32) : ReadingOf iprop(Any (F := F) (i := i) (d := d) A.arg9 ∗ PackedTo (F := F) i d A.arg8 (E.pix t.val) 0) E t.val .idle .idle 0 0
    ⊢ run (tile i d) (A.app (k0_part49 (F := F) i) v1 lanes k0_pay1 k0_pay2 0#32 1#32 t) (fun _ => Reading E t.val (.coming 2) (.coming 1) 1 3 1) := by
  rw [k0_part49_eq_skeleton]
  exact run_seq (sendA E 0 (k0_off1_eq i t) t.isLt) fun _ =>
    run_seq (sendB E 1 (k0_off2_eq i t) t.isLt) fun _ =>
    run_seq (clear_run E) fun _ =>
    run_seq (waitA E 0) fun _ =>
    run_seq (countA E 0 k0_off8_inb k0_off8_eq) fun _ =>
    run_seq (sendA E 2 (k0_off9_eq i t) t.isLt) fun _ => run_ret _ .rfl

/-- A stretch of the reading: which windows are on their way before it and after it, and how many are counted. -/
theorem part50_run : Reading E t.val (.coming 2) (.coming 1) 1 3 1 ⊢ run (tile i d) (A.app (k0_part50 (F := F) i) lanes k0_pay1 t) (fun _ => Reading E t.val (.coming 4) .idle 4 5 4) := by
  rw [k0_part50_eq_skeleton]
  exact run_seq (waitB E 1) fun _ =>
    run_seq (countB E 1 k0_off14_inb k0_off14_eq) fun _ =>
    run_seq (sendB E 3 (k0_off15_eq i t) t.isLt) fun _ =>
    run_seq (waitA E 2) fun _ =>
    run_seq (countA E 2 k0_off20_inb k0_off20_eq) fun _ =>
    run_seq (sendA E 4 (k0_off21_eq i t) t.isLt) fun _ =>
    run_seq (waitB E 3) fun _ =>
    run_seq (countB E 3 k0_off26_inb k0_off26_eq) fun _ => run_ret _ .rfl

/-- A stretch of the reading: which windows are on their way before it and after it, and how many are counted. -/
theorem part51_run : Reading E t.val (.coming 4) .idle 4 5 4 ⊢ run (tile i d) (A.app (k0_part51 (F := F) i) lanes k0_pay1 t) (fun _ => Reading E t.val (.coming 6) (.coming 7) 6 8 6) := by
  rw [k0_part51_eq_skeleton]
  exact run_seq (sendB E 5 (k0_off27_eq i t) t.isLt) fun _ =>
    run_seq (waitA E 4) fun _ =>
    run_seq (countA E 4 k0_off32_inb k0_off32_eq) fun _ =>
    run_seq (sendA E 6 (k0_off33_eq i t) t.isLt) fun _ =>
    run_seq (waitB E 5) fun _ =>
    run_seq (countB E 5 k0_off38_inb k0_off38_eq) fun _ =>
    run_seq (sendB E 7 (k0_off39_eq i t) t.isLt) fun _ => run_ret _ .rfl

/-- A stretch of the reading: which windows are on their way before it and after it, and how many are counted. -/
theorem part52_run : Reading E t.val (.coming 6) (.coming 7) 6 8 6 ⊢ run (tile i d) (A.app (k0_part52 (F := F) i) lanes k0_pay1 t) (fun _ => Reading E t.val .idle (.coming 9) 9 10 9) := by
  rw [k0_part52_eq_skeleton]
  exact run_seq (waitA E 6) fun _ =>
    run_seq (countA E 6 k0_off44_inb k0_off44_eq) fun _ =>
    run_seq (sendA E 8 (k0_off45_eq i t) t.isLt) fun _ =>
    run_seq (waitB E 7) fun _ =>
    run_seq (countB E 7 k0_off50_inb k0_off50_eq) fun _ =>
    run_seq (sendB E 9 (k0_off51_eq i t) t.isLt) fun _ =>
    run_seq (waitA E 8) fun _ =>
    run_seq (countA E 8 k0_off56_inb k0_off56_eq) fun _ => run_ret _ .rfl

/-- A stretch of the reading: which windows are on their way before it and after it, and how many are counted. -/
theorem part53_run : Reading E t.val .idle (.coming 9) 9 10 9 ⊢ run (tile i d) (A.app (k0_part53 (F := F) i) lanes k0_pay1 t) (fun _ => Reading E t.val (.coming 12) (.coming 11) 11 13 11) := by
  rw [k0_part53_eq_skeleton]
  exact run_seq (sendA E 10 (k0_off57_eq i t) t.isLt) fun _ =>
    run_seq (waitB E 9) fun _ =>
    run_seq (countB E 9 k0_off62_inb k0_off62_eq) fun _ =>
    run_seq (sendB E 11 (k0_off63_eq i t) t.isLt) fun _ =>
    run_seq (waitA E 10) fun _ =>
    run_seq (countA E 10 k0_off68_inb k0_off68_eq) fun _ =>
    run_seq (sendA E 12 (k0_off69_eq i t) t.isLt) fun _ => run_ret _ .rfl

/-- A stretch of the reading: which windows are on their way before it and after it, and how many are counted. -/
theorem part54_run : Reading E t.val (.coming 12) (.coming 11) 11 13 11 ⊢ run (tile i d) (A.app (k0_part54 (F := F) i) lanes k0_pay1 t) (fun _ => Reading E t.val (.coming 14) .idle 14 15 14) := by
  rw [k0_part54_eq_skeleton]
  exact run_seq (waitB E 11) fun _ =>
    run_seq (countB E 11 k0_off74_inb k0_off74_eq) fun _ =>
    run_seq (sendB E 13 (k0_off75_eq i t) t.isLt) fun _ =>
    run_seq (waitA E 12) fun _ =>
    run_seq (countA E 12 k0_off80_inb k0_off80_eq) fun _ =>
    run_seq (sendA E 14 (k0_off81_eq i t) t.isLt) fun _ =>
    run_seq (waitB E 13) fun _ =>
    run_seq (countB E 13 k0_off86_inb k0_off86_eq) fun _ => run_ret _ .rfl

/-- The last two chunks, and the table's step, half and guard. -/
theorem part55_run : iprop(Reading E t.val (.coming 14) .idle 14 15 14 ∗ Any (F := F) (i := i) (d := d) A.arg10)
    ⊢ run (tile i d) (A.app (k0_part55 (F := F) i) lanes k0_pay1 t) (fun r => iprop(⌜r = ⟨halfOf (hist (E.pix t.val)), safeOf (hist (E.pix t.val)), flagOf (hist (E.pix t.val)), 0#32⟩⌝
      ∗ Reading E t.val .idle .idle 16 16 16 ∗ Held (F := F) (tile i d) A.arg10 (fun z => hist (E.pix t.val) (z 0).val))) := by
  rw [k0_part55_eq_skeleton]
  refine run_seq (run_frame (sendB E 15 (k0_off87_eq i t) t.isLt)) fun _ =>
    run_seq (run_frame (waitA E 14)) fun _ =>
    run_seq (run_frame (countA E 14 k0_off92_inb k0_off92_eq)) fun _ =>
    run_seq (run_frame (waitB E 15)) fun _ =>
    run_seq (run_frame (countB E 15 k0_off97_inb k0_off97_eq)) fun _ =>
    run_seq (merge_run E) fun _ =>
    run_seq' (enc_run E) fun v => run_ret _ ?_
  iintro ⟨%hv, H⟩
  isplitr
  · ipureintro; rw [hv]; simp only [halfOf, safeOf, flagOf, stepOf]
  · iexact H

/-! ## Writing -/

/-- The table written; what is then held is what writing a plane starts from. -/
theorem table_run {n : ℕ} {h : ℕ → BitVec 32} (hh : h = hist (E.pix n)) :
    iprop(WriteSide E n ∗ PackedTo (F := F) i d A.arg8 (E.pix n) 65536 ∗ Held (F := F) (tile i d) A.arg10 (fun z => h (z 0).val) ∗ Any (F := F) (i := i) (d := d) A.arg11 ∗ Owing (F := F) i d E.O E.W)
      ⊢ run (tile i d) (tabLoop i A.arg10 A.arg11 (halfOf h) (safeOf h) (flagOf h))
        (fun _ => iprop(Writing E n .idle .idle 0 0 ∗ Any (F := F) (i := i) (d := d) A.arg10)) := by
  simp only [WriteSide, Writing, OutAt, Any]
  iintro ⟨⟨HA, HB, H1, H2⟩, HP, HM, ⟨%g, HT⟩, HO⟩
  iapply (run_wand (tabLoop_run (F := F) (h := h))) $$ [HM HT]
  · isplitl [HM] <;> iassumption
  iintro %_ ⟨HM, HT⟩
  isplitl [HA HB H1 H2 HP HT HO]
  · isplitl [HA]; · iexact HA
    isplitl [HB]; · iexact HB
    isplitl [H1]; · iexact H1
    isplitl [H2]; · iexact H2
    isplitl [HP]; · iexact HP
    isplitl [HT]
    · subst hh; iexact HT
    · iexact HO
  · iexists _; iexact HM

/-- The writing's first stretch, from the merged histogram on. -/
theorem part56_run : iprop(WriteSide E t.val ∗ PackedTo (F := F) i d A.arg8 (E.pix t.val) 65536 ∗ Held (F := F) (tile i d) A.arg10 (fun z => hist (E.pix t.val) (z 0).val) ∗ Any (F := F) (i := i) (d := d) A.arg11 ∗ Owing (F := F) i d E.O E.W)
    ⊢ run (tile i d) (A.app (k0_part56 (F := F) i) lanes t (halfOf (hist (E.pix t.val))) (safeOf (hist (E.pix t.val))) (flagOf (hist (E.pix t.val))) 0#32)
      (fun _ => iprop(Writing E t.val (.going 2) (.going 1) 1 3 ∗ Any (F := F) (i := i) (d := d) A.arg10)) := by
  rw [k0_part56_eq_skeleton]
  exact run_seq (table_run E rfl) fun _ =>
    run_seq (run_frame (lookA E 0 k0_off103_inb k0_off103_eq)) fun _ =>
    run_seq (run_frame (putA E 0 (k0_off108_eq i t) t.isLt)) fun _ =>
    run_seq (run_frame (lookB E 1 k0_off109_inb k0_off109_eq)) fun _ =>
    run_seq (run_frame (putB E 1 (k0_off114_eq i t) t.isLt)) fun _ =>
    run_seq (run_frame (doneA E 0)) fun _ =>
    run_seq (run_frame (lookA E 2 k0_off115_inb k0_off115_eq)) fun _ =>
    run_seq (run_frame (putA E 2 (k0_off120_eq i t) t.isLt)) fun _ => run_ret _ .rfl

/-- A stretch of the writing: which windows are on their way out before it and after it, and how many are filled. -/
theorem part57_run : Writing E t.val (.going 2) (.going 1) 1 3 ⊢ run (tile i d) (A.app (k0_part57 (F := F) i) lanes t) (fun _ => Writing E t.val (.going 4) .idle 4 5) := by
  rw [k0_part57_eq_skeleton]
  exact run_seq (doneB E 1) fun _ =>
    run_seq (lookB E 3 k0_off121_inb k0_off121_eq) fun _ =>
    run_seq (putB E 3 (k0_off126_eq i t) t.isLt) fun _ =>
    run_seq (doneA E 2) fun _ =>
    run_seq (lookA E 4 k0_off127_inb k0_off127_eq) fun _ =>
    run_seq (putA E 4 (k0_off132_eq i t) t.isLt) fun _ =>
    run_seq (doneB E 3) fun _ => run_ret _ .rfl

/-- A stretch of the writing: which windows are on their way out before it and after it, and how many are filled. -/
theorem part58_run (c : BitVec 32) : Writing E t.val (.going 4) .idle 4 5 ⊢ run (tile i d) (A.app (k0_part58 (F := F) i) lanes t c) (fun _ => Writing E t.val (.going 6) (.going 7) 6 8) := by
  rw [k0_part58_eq_skeleton]
  exact run_seq (lookB E 5 k0_off133_inb k0_off133_eq) fun _ =>
    run_seq (putB E 5 (k0_off138_eq i t) t.isLt) fun _ =>
    run_seq (doneA E 4) fun _ =>
    run_seq (lookA E 6 k0_off139_inb k0_off139_eq) fun _ =>
    run_seq (putA E 6 (k0_off144_eq i t) t.isLt) fun _ =>
    run_seq (doneB E 5) fun _ =>
    run_seq (lookB E 7 k0_off145_inb k0_off145_eq) fun _ =>
    run_seq (putB E 7 (k0_off150_eq i t) t.isLt) fun _ => run_ret _ .rfl

/-- A stretch of the writing: which windows are on their way out before it and after it, and how many are filled. -/
theorem part59_run : Writing E t.val (.going 6) (.going 7) 6 8 ⊢ run (tile i d) (A.app (k0_part59 (F := F) i) lanes t) (fun _ => Writing E t.val .idle (.going 9) 9 10) := by
  rw [k0_part59_eq_skeleton]
  exact run_seq (doneA E 6) fun _ =>
    run_seq (lookA E 8 k0_off151_inb k0_off151_eq) fun _ =>
    run_seq (putA E 8 (k0_off156_eq i t) t.isLt) fun _ =>
    run_seq (doneB E 7) fun _ =>
    run_seq (lookB E 9 k0_off157_inb k0_off157_eq) fun _ =>
    run_seq (putB E 9 (k0_off162_eq i t) t.isLt) fun _ =>
    run_seq (doneA E 8) fun _ => run_ret _ .rfl

/-- A stretch of the writing: which windows are on their way out before it and after it, and how many are filled. -/
theorem part60_run (c : BitVec 32) : Writing E t.val .idle (.going 9) 9 10 ⊢ run (tile i d) (A.app (k0_part60 (F := F) i) lanes t c) (fun _ => Writing E t.val (.going 12) (.going 11) 11 13) := by
  rw [k0_part60_eq_skeleton]
  exact run_seq (lookA E 10 k0_off163_inb k0_off163_eq) fun _ =>
    run_seq (putA E 10 (k0_off168_eq i t) t.isLt) fun _ =>
    run_seq (doneB E 9) fun _ =>
    run_seq (lookB E 11 k0_off169_inb k0_off169_eq) fun _ =>
    run_seq (putB E 11 (k0_off174_eq i t) t.isLt) fun _ =>
    run_seq (doneA E 10) fun _ =>
    run_seq (lookA E 12 k0_off175_inb k0_off175_eq) fun _ =>
    run_seq (putA E 12 (k0_off180_eq i t) t.isLt) fun _ => run_ret _ .rfl

/-- A stretch of the writing: which windows are on their way out before it and after it, and how many are filled. -/
theorem part61_run : Writing E t.val (.going 12) (.going 11) 11 13 ⊢ run (tile i d) (A.app (k0_part61 (F := F) i) lanes t) (fun _ => Writing E t.val (.going 14) .idle 14 15) := by
  rw [k0_part61_eq_skeleton]
  exact run_seq (doneB E 11) fun _ =>
    run_seq (lookB E 13 k0_off181_inb k0_off181_eq) fun _ =>
    run_seq (putB E 13 (k0_off186_eq i t) t.isLt) fun _ =>
    run_seq (doneA E 12) fun _ =>
    run_seq (lookA E 14 k0_off187_inb k0_off187_eq) fun _ =>
    run_seq (putA E 14 (k0_off192_eq i t) t.isLt) fun _ =>
    run_seq (doneB E 13) fun _ => run_ret _ .rfl

/-- A stretch of the writing: which windows are on their way out before it and after it, and how many are filled. -/
theorem part62_run (c : BitVec 32) : Writing E t.val (.going 14) .idle 14 15 ⊢ run (tile i d) (A.app (k0_part62 (F := F) i) lanes t c) (fun _ => Writing E t.val (.going 16) (.going 17) 16 18) := by
  rw [k0_part62_eq_skeleton]
  exact run_seq (lookB E 15 k0_off193_inb k0_off193_eq) fun _ =>
    run_seq (putB E 15 (k0_off198_eq i t) t.isLt) fun _ =>
    run_seq (doneA E 14) fun _ =>
    run_seq (lookA E 16 k0_off199_inb k0_off199_eq) fun _ =>
    run_seq (putA E 16 (k0_off204_eq i t) t.isLt) fun _ =>
    run_seq (doneB E 15) fun _ =>
    run_seq (lookB E 17 k0_off205_inb k0_off205_eq) fun _ =>
    run_seq (putB E 17 (k0_off210_eq i t) t.isLt) fun _ => run_ret _ .rfl

/-- A stretch of the writing: which windows are on their way out before it and after it, and how many are filled. -/
theorem part63_run : Writing E t.val (.going 16) (.going 17) 16 18 ⊢ run (tile i d) (A.app (k0_part63 (F := F) i) lanes t) (fun _ => Writing E t.val .idle (.going 19) 19 20) := by
  rw [k0_part63_eq_skeleton]
  exact run_seq (doneA E 16) fun _ =>
    run_seq (lookA E 18 k0_off211_inb k0_off211_eq) fun _ =>
    run_seq (putA E 18 (k0_off216_eq i t) t.isLt) fun _ =>
    run_seq (doneB E 17) fun _ =>
    run_seq (lookB E 19 k0_off217_inb k0_off217_eq) fun _ =>
    run_seq (putB E 19 (k0_off222_eq i t) t.isLt) fun _ =>
    run_seq (doneA E 18) fun _ => run_ret _ .rfl

/-- A stretch of the writing: which windows are on their way out before it and after it, and how many are filled. -/
theorem part64_run (c : BitVec 32) : Writing E t.val .idle (.going 19) 19 20 ⊢ run (tile i d) (A.app (k0_part64 (F := F) i) lanes t c) (fun _ => Writing E t.val (.going 22) (.going 21) 21 23) := by
  rw [k0_part64_eq_skeleton]
  exact run_seq (lookA E 20 k0_off223_inb k0_off223_eq) fun _ =>
    run_seq (putA E 20 (k0_off228_eq i t) t.isLt) fun _ =>
    run_seq (doneB E 19) fun _ =>
    run_seq (lookB E 21 k0_off229_inb k0_off229_eq) fun _ =>
    run_seq (putB E 21 (k0_off234_eq i t) t.isLt) fun _ =>
    run_seq (doneA E 20) fun _ =>
    run_seq (lookA E 22 k0_off235_inb k0_off235_eq) fun _ =>
    run_seq (putA E 22 (k0_off240_eq i t) t.isLt) fun _ => run_ret _ .rfl

/-- A stretch of the writing: which windows are on their way out before it and after it, and how many are filled. -/
theorem part65_run : Writing E t.val (.going 22) (.going 21) 21 23 ⊢ run (tile i d) (A.app (k0_part65 (F := F) i) lanes t) (fun _ => Writing E t.val (.going 24) .idle 24 25) := by
  rw [k0_part65_eq_skeleton]
  exact run_seq (doneB E 21) fun _ =>
    run_seq (lookB E 23 k0_off241_inb k0_off241_eq) fun _ =>
    run_seq (putB E 23 (k0_off246_eq i t) t.isLt) fun _ =>
    run_seq (doneA E 22) fun _ =>
    run_seq (lookA E 24 k0_off247_inb k0_off247_eq) fun _ =>
    run_seq (putA E 24 (k0_off252_eq i t) t.isLt) fun _ =>
    run_seq (doneB E 23) fun _ => run_ret _ .rfl

/-- A stretch of the writing: which windows are on their way out before it and after it, and how many are filled. -/
theorem part66_run (c : BitVec 32) : Writing E t.val (.going 24) .idle 24 25 ⊢ run (tile i d) (A.app (k0_part66 (F := F) i) lanes t c) (fun _ => Writing E t.val (.going 26) (.going 27) 26 28) := by
  rw [k0_part66_eq_skeleton]
  exact run_seq (lookB E 25 k0_off253_inb k0_off253_eq) fun _ =>
    run_seq (putB E 25 (k0_off258_eq i t) t.isLt) fun _ =>
    run_seq (doneA E 24) fun _ =>
    run_seq (lookA E 26 k0_off259_inb k0_off259_eq) fun _ =>
    run_seq (putA E 26 (k0_off264_eq i t) t.isLt) fun _ =>
    run_seq (doneB E 25) fun _ =>
    run_seq (lookB E 27 k0_off265_inb k0_off265_eq) fun _ =>
    run_seq (putB E 27 (k0_off270_eq i t) t.isLt) fun _ => run_ret _ .rfl

/-- A stretch of the writing: which windows are on their way out before it and after it, and how many are filled. -/
theorem part67_run : Writing E t.val (.going 26) (.going 27) 26 28 ⊢ run (tile i d) (A.app (k0_part67 (F := F) i) lanes t) (fun _ => Writing E t.val .idle (.going 29) 29 30) := by
  rw [k0_part67_eq_skeleton]
  exact run_seq (doneA E 26) fun _ =>
    run_seq (lookA E 28 k0_off271_inb k0_off271_eq) fun _ =>
    run_seq (putA E 28 (k0_off276_eq i t) t.isLt) fun _ =>
    run_seq (doneB E 27) fun _ =>
    run_seq (lookB E 29 k0_off277_inb k0_off277_eq) fun _ =>
    run_seq (putB E 29 (k0_off282_eq i t) t.isLt) fun _ =>
    run_seq (doneA E 28) fun _ => run_ret _ .rfl

/-! ## A plane -/

/-- What the reading of a plane leaves aside. -/
abbrev Aside : sProp (MT nD τ sig (HIx 1) (Elt F) ℕ UU ℕ) := iprop(WriteSide E t.val ∗ Any (F := F) (i := i) (d := d) A.arg11)

/-- What its writing leaves aside. -/
abbrev Past : sProp (MT nD τ sig (HIx 1) (Elt F) ℕ UU ℕ) := iprop(ReadSide E (t.val + 1) ∗ Any (F := F) (i := i) (d := d) A.arg9)

/-- A plane started. -/
theorem plane_start : Between E t.val ⊢ iprop((ReadingOf iprop(Any (F := F) (i := i) (d := d) A.arg9 ∗ PackedTo (F := F) i d A.arg8 (E.pix t.val) 0) E t.val .idle .idle 0 0 ∗ Any (F := F) (i := i) (d := d) A.arg10) ∗ Aside E t) := by
  simp only [Between, ReadSide, ReadingOf, InAt]
  iintro ⟨⟨HA, HB, H1, H2⟩, HW, H8, H9, H10, H11, HO⟩
  isplitr [HW H11]
  · isplitr [H10]
    · isplitl [HA]; · iexact HA
      isplitl [HB]; · iexact HB
      isplitl [H1]; · iexact H1
      isplitl [H2]; · iexact H2
      isplitl [H8 H9]
      · isplitl [H9]; · iexact H9
        unfold Any PackedTo
        icases H8 with ⟨%v, H8⟩
        iexists v
        isplitr
        · ipureintro; intro x hx; exact absurd hx (Nat.not_lt_zero _)
        · iexact H8
      · iexact HO
    · iexact H10
  · isplitl [HW] <;> iassumption

/-- A tile's next plane begins 512 rows further. -/
theorem next_plane : 512 * planeOf i (t.val + 1) = 512 * planeOf i t.val + 512 := by unfold planeOf; omega

/-- A plane read and counted. -/
theorem plane_read {R : sProp (MT nD τ sig (HIx 1) (Elt F) ℕ UU ℕ)} : iprop((Reading E t.val .idle .idle 16 16 16 ∗ R) ∗ Aside E t)
    ⊢ iprop((WriteSide E t.val ∗ PackedTo (F := F) i d A.arg8 (E.pix t.val) 65536 ∗ R ∗ Any (F := F) (i := i) (d := d) A.arg11 ∗ Owing (F := F) i d E.O E.W) ∗ Past E t) := by
  simp only [Past, ReadSide, Reading, ReadingOf, InAt]
  rw [next_plane]
  iintro ⟨⟨⟨HA, HB, H1, H2, ⟨HH, HP⟩, HO⟩, HR⟩, HW, H11⟩
  isplitl [HW HP HR H11 HO]
  · isplitl [HW]; · iexact HW
    isplitl [HP]; · iexact HP
    isplitl [HR]; · iexact HR
    isplitl [H11] <;> iassumption
  isplitr [HH]
  · isplitl [HA]; · iexact HA
    isplitl [HB]; · iexact HB
    isplitl [H1] <;> iassumption
  · unfold Any; iexists _; iexact HH

/-- A plane written. -/
theorem plane_done : iprop((Writing E t.val .idle .idle 32 32 ∗ Any (F := F) (i := i) (d := d) A.arg10) ∗ Past E t) ⊢ Between E (t.val + 1) := by
  simp only [Past, Between, WriteSide, Writing, OutAt]
  rw [next_plane]
  iintro ⟨⟨⟨HA, HB, H1, H2, HP, HT, HO⟩, H10⟩, HR, H9⟩
  isplitl [HR]; · iexact HR
  isplitl [HA HB H1 H2]
  · isplitl [HA]; · iexact HA
    isplitl [HB]; · iexact HB
    isplitl [H1] <;> iassumption
  isplitl [HP]
  · unfold PackedTo Any; icases HP with ⟨%P, %hP, HP⟩; iexists P; iexact HP
  isplitl [H9]; · iexact H9
  isplitl [H10]; · iexact H10
  isplitl [HT]
  · unfold Any; iexists _; iexact HT
  · iexact HO

/-- A run whose result is known. -/
theorem run_seq_eq {c : Thread nD τ} {α β : Type} {P B R : sProp (MT nD τ sig (HIx 1) (Elt F) ℕ UU ℕ)} {p : Prog (TpuEff nD τ sig (Elt F) Λ₀ c.2) α} {r : α}
    {k : α → Prog (TpuEff nD τ sig (Elt F) Λ₀ c.2) β} {Q : β → sProp (MT nD τ sig (HIx 1) (Elt F) ℕ UU ℕ)}
    (h : P ⊢ run c p (fun x => iprop(⌜x = r⌝ ∗ B))) (hk : iprop(B ∗ R) ⊢ run c (k r) Q) : iprop(P ∗ R) ⊢ run c (p >>= k) Q := by
  refine run_seq' (run_frame h) fun x => ?_
  iintro ⟨⟨%hx, HB⟩, HR⟩
  rw [hx]
  iapply hk
  isplitl [HB] <;> iassumption

/-- A plane but for the last two waits. -/
theorem part68_run (v1 : BitVec 32) : Between E t.val ⊢ run (tile i d) (A.app (k0_part68 (F := F) i) v1 lanes k0_pay1 k0_pay2 0#32 1#32 t)
    (fun _ => iprop((Writing E t.val (.going 30) (.going 31) 30 32 ∗ Any (F := F) (i := i) (d := d) A.arg10) ∗ Past E t)) := by
  rw [k0_part68_eq_skeleton]
  refine (plane_start E t).trans <|
    run_seq (run_frame (run_frame (part49_run E t v1))) fun _ =>
    run_seq (run_frame (run_frame (part50_run E t))) fun _ =>
    run_seq (run_frame (run_frame (part51_run E t))) fun _ =>
    run_seq (run_frame (run_frame (part52_run E t))) fun _ =>
    run_seq (run_frame (run_frame (part53_run E t))) fun _ =>
    run_seq (run_frame (run_frame (part54_run E t))) fun _ =>
    run_seq_eq (part55_run E t) <| (plane_read E t).trans <|
    run_seq (run_frame (part56_run E t)) fun _ =>
    run_seq (run_frame (run_frame (part57_run E t))) fun _ =>
    run_seq (run_frame (run_frame (part58_run E t _))) fun _ =>
    run_seq (run_frame (run_frame (part59_run E t))) fun _ =>
    run_seq (run_frame (run_frame (part60_run E t _))) fun _ =>
    run_seq (run_frame (run_frame (part61_run E t))) fun _ =>
    run_seq (run_frame (run_frame (part62_run E t _))) fun _ =>
    run_seq (run_frame (run_frame (part63_run E t))) fun _ =>
    run_seq (run_frame (run_frame (part64_run E t _))) fun _ =>
    run_seq (run_frame (run_frame (part65_run E t))) fun _ =>
    run_seq (run_frame (run_frame (part66_run E t _))) fun _ =>
    run_seq (run_frame (run_frame (part67_run E t))) fun _ =>
    run_seq (run_frame (run_frame (lookA E 30 k0_off283_inb k0_off283_eq))) fun _ =>
    run_seq (run_frame (run_frame (putA E 30 (k0_off288_eq i t) t.isLt))) fun _ =>
    run_seq (run_frame (run_frame (doneB E 29))) fun _ =>
    run_seq (run_frame (run_frame (lookB E 31 k0_off289_inb k0_off289_eq))) fun _ =>
    run_seq (run_frame (run_frame (putB E 31 (k0_off294_eq i t) t.isLt))) fun _ =>
    run_ret _ .rfl

/-- A whole plane. -/
theorem plane_run (v1 : BitVec 32) (x : Unit) : Between E t.val ⊢ run (tile i d) (A.app (k0_t1_body (F := F) i) v1 lanes t x) (fun _ => Between E (t.val + 1)) :=
  run_seq (part68_run E t v1) fun _ =>
    run_seq (run_frame (run_frame (doneA E 30))) fun _ =>
    run_seq (run_frame (run_frame (doneB E 31))) fun _ => run_ret _ (plane_done E t)

/-- The three planes. -/
theorem body_run : Between E 0 ⊢ run (tile i d) (A.app (cc0__tec_body (F := F) i)) (fun _ => Between E 3) := by
  have e : iota .scVector S16 32 [0] iota_S16_d0_w32_scVector = lanes := by
    funext x; exact iota_single_apply ..
  rw [cc0__tec_body_eq_skeleton]
  unfold Args.app cc0__tec_body_skel
  rw [e]
  show Between E 0 ⊢ run (tile i d) (Scf.Loop.for k0_t1_loop k0_t1_ok PUnit.unit
    (A.app (k0_t1_body (F := F) i) (Scalar.addi (Scalar.muli (BitVec.ofNat 32 (i 1).val) 2#32) (BitVec.ofNat 32 (i 0).val)) lanes) >>= fun _ => pure PUnit.unit) _
  exact run_seq (B := Between E 3) (loop_run (c := tile i d) (fun n _ => Between E n) fun t x => plane_run E t _ x) fun _ => run_ret _ .rfl

end Cert.Proof.Eq
-- ==== Proof.Launch.lean ====
/-
  The launch of the kernel: what the call hands each SparseCore and each vector subcore (their planes of the input and of the
  result, whole rows), the subcore's task against it, and the program's main thread, whose two reshapes surround the call. The
  run leaves the argument as it was and the result at the equalised planes.
-/
module

public import proofs.«01_k».proof.Proof.Windows

@[expose] public section

noncomputable section

namespace Cert.Proof.Eq

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The facts that the launch asks of the program's text. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]

/-! ## The buffers and semaphores of the launch -/

/-- The kernel's buffers and semaphores, as the call names them. -/
abbrev args : Args where
  arg2 := Memref.whole main_v0_scv
  harg2 := Memref.isWhole_whole _
  arg3 := Memref.whole main_v1_scv
  harg3 := Memref.isWhole_whole _
  arg4 := Memref.whole cc0_scratch0
  harg4 := Memref.isWhole_whole _
  arg5 := Memref.whole cc0_scratch1
  harg5 := Memref.isWhole_whole _
  arg6 := Memref.whole cc0_scratch2
  harg6 := Memref.isWhole_whole _
  arg7 := Memref.whole cc0_scratch3
  harg7 := Memref.isWhole_whole _
  arg8 := Memref.whole cc0_scratch4
  harg8 := Memref.isWhole_whole _
  arg9 := Memref.whole cc0_scratch5
  harg9 := Memref.isWhole_whole _
  arg10 := Memref.whole cc0_scratch6
  harg10 := Memref.isWhole_whole _
  arg11 := Memref.whole cc0_scratch7
  harg11 := Memref.isWhole_whole _
  arg12 := cc0_scratch8
  arg13 := cc0_scratch9
  arg14 := cc0_scratch10
  arg15 := cc0_scratch11

abbrev aLoc (d : Dev nD) : Loc nD τ sig := (SparseCore.T d).loc main_arg0
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

variable (m : (ℓ : Loc nD τ sig) → Buf (Elt F) ℓ) (ρ : Dev nD → PrngReg)

/-! ## What the arrays hold -/

abbrev a' : DevRef τ sig := Proc.devRef .tc (main_arg0 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The reshape before the call, and the one after it. -/
abbrev opIn : HloOp τ sig (Elt F) := StableHlo.reshape main_arg0 main_v0 (rfl : (.i32 : EltTy) = .i32) shapeCasts_S32x3x512x512_S96x512x512
abbrev opOut : HloOp τ sig (Elt F) := StableHlo.reshape main_v1 main_v2 (rfl : (.i32 : EltTy) = .i32) shapeCasts_S96x512x512_S32x3x512x512

/-- The launch contents; after the first reshape; after the call; after the second reshape. -/
def V0 (d : Dev nD) : Valuation τ sig (Elt F) := fun b => m (d, b)
/-- The host's arrays after the first reshape. -/
def V1 (d : Dev nD) : Valuation τ sig (Elt F) := (opIn (F := F)).result (V0 m d)
/-- The planes the call reads. -/
def planes (d : Dev nD) : Buf (Elt F) (iLoc d) := V1 m d i'
/-- The planes the call leaves: each equalised. -/
def outs (d : Dev nD) : Buf (Elt F) (oLoc d) := equalized (planes m d)
def V2 (d : Dev nD) : Valuation τ sig (Elt F) := Function.update (V1 m d) o' (outs m d)
/-- The host's arrays after the last reshape. -/
def V3 (d : Dev nD) : Valuation τ sig (Elt F) := (opOut (F := F)).result (V2 m d)

/-- What the program returns. -/
def final (d : Dev nD) : Buf (Elt F) (rLoc d) := V3 m d r'

/-- The argument, as the words it holds. -/
def pixels (d : Dev nD) : S32x3x512x512.Idx → BitVec 32 := m (aLoc d)

/-- The planes that the kernel reads are the image reshaped. -/
theorem planes_eq (d : Dev nD) : planes m d = shapeCast S96x512x512 (pixels m d) shapeCasts_S32x3x512x512_S96x512x512 := by
  unfold planes V1
  rw [StableHlo.reshape_result]
  rfl

/-- The kernel's result is the equalised planes reshaped. -/
theorem final_eq (d : Dev nD) : final m d = shapeCast S32x3x512x512 (equalized (planes m d)) shapeCasts_S96x512x512_S32x3x512x512 := by
  have h : V2 m d o' = outs m d := Function.update_self _ _ _
  unfold final V3
  rw [StableHlo.reshape_result, h]
  rfl

/-- Every pixel is a byte. -/
def PreOK : Prop := ∀ (d : Dev nD) (x : S32x3x512x512.Idx), (pixels m d x).toNat < 256

variable {m}

/-- Every word of the planes is a byte. -/
theorem planes_bytes (h : PreOK m) (d : Dev nD) (x : S96x512x512.Idx) : (show BitVec 32 from planes m d x).toNat < 256 := by
  rw [planes_eq]; exact h d _

variable (m)

/-! ## What the call hands out and gets back -/

/-- The rows of one subcore's planes: the input's, and the result's at `f`. -/
def share (d : Dev nD) (c s : ℕ) (f : Buf (Elt F) (oLoc d)) : sProp 𝕄 :=
  iprop((iLoc d ↦[band (512 * (6 * s + 3 * c + 0)) (512 * (6 * s + 3 * c + 3))]{fullShare} planes m d)
    ∗ (oLoc d ↦[band (512 * (6 * s + 3 * c + 0)) (512 * (6 * s + 3 * c + 3))]{fullShare} f))

/-- Each SparseCore takes the rows of its sixteen subcores, each subcore its own; they come back with the result's equalised. -/
def P : (K (F := F)).Pay (nD := nD) (Val := Elt F) (Name := ℕ) (U := UU) where
  st := fun q d c => match q with | 0 => bigSep Finset.univ fun s : Fin ((K (F := F)).nSub 0) => share m d c.val s.val (m (oLoc d))
  dn := fun q d c => match q with | 0 => bigSep Finset.univ fun s : Fin ((K (F := F)).nSub 0) => share m d c.val s.val (outs m d)
  go := fun q d c s => match q with | 0 => share m d c.val s.val (m (oLoc d))
  td := fun q d c s => match q with | 0 => share m d c.val s.val (outs m d)
  x := fun _ _ => iprop(emp)

instance share_storable (d : Dev nD) (c s : ℕ) (f : Buf (Elt F) (oLoc d)) : BI.Storable (upEmb : UEmb _ 𝕄) (share m d c s f) := by
  unfold share; infer_instance

instance P_storable : (P (F := F) m).IsStorable where
  st q d c := match q with
    | 0 => (inferInstance : BI.Storable (upEmb : UEmb _ 𝕄) (bigSep Finset.univ fun s : Fin ((K (F := F)).nSub 0) => share m d c.val s.val (m (oLoc d))))
  dn q d c := match q with
    | 0 => (inferInstance : BI.Storable (upEmb : UEmb _ 𝕄) (bigSep Finset.univ fun s : Fin ((K (F := F)).nSub 0) => share m d c.val s.val (outs m d)))
  go q d c s := match q with | 0 => share_storable m d c.val s.val _
  td q d c s := match q with | 0 => share_storable m d c.val s.val _

/-- The planes and the result are dealt to the 32 tiles, three planes each, and gathered again. -/
theorem vecSplit : (K (F := F)).VecSplit' (P m) 0 := by
  intro d c
  show (bigSep Finset.univ fun s : Fin ((K (F := F)).nSub 0) => share m d c.val s.val (m (oLoc d))) ⊢ |={Set.univ}=> iprop(
      (bigSep Finset.univ fun s : Fin ((K (F := F)).nSub 0) => share m d c.val s.val (m (oLoc d)))
      ∗ ((bigSep Finset.univ fun s : Fin ((K (F := F)).nSub 0) => share m d c.val s.val (outs m d))
          -∗ (bigSep Finset.univ fun s : Fin ((K (F := F)).nSub 0) => share m d c.val s.val (outs m d))))
  iintro H; imodintro
  isplitl [H]; · iexact H
  iintro H; iexact H

/-! ## One subcore's task -/

/-- A separating conjunction parted by the members a one-to-one function names. -/
theorem bigSep_named {I J : Type} [DecidableEq I] [DecidableEq J] {s : Finset I} {t : Finset J} {f : J → I} (inj : Set.InjOn f t)
    (sub : ∀ j ∈ t, f j ∈ s) {Φ : I → sProp 𝕄} : bigSep s Φ = iprop(bigSep t (fun j => Φ (f j)) ∗ bigSep (s \ t.image f) Φ) := by
  have h : t.image f ∪ s \ t.image f = s :=
    Finset.union_sdiff_of_subset fun x mem => by obtain ⟨j, among, rfl⟩ := Finset.mem_image.mp mem; exact sub j among
  conv_lhs => rw [← h]
  rw [SparseCore.bigSep_union' Finset.disjoint_sdiff, bigSep_image_of_injOn inj]

section Tile
variable (i : grid0.Coords) (d : Dev nD)

/-- A buffer held whole, at some contents, is one with anything in it, and back. -/
theorem any_of {sp : Space} {s : Shape} {M : Memref sig .scVector sp s .i32} (h : M.view.set = Finset.univ) :
    (iprop(∃ f, M.view.loc (tile i d) ↦{fullShare} f) : sProp 𝕄) ⊢ iprop(∃ v, Held (F := F) (tile i d) M v) := by
  unfold Held
  iintro ⟨%f, H⟩
  iexists (M.view.read (Elt F) f); iexists f
  isplitr
  · ipureintro; rfl
  · rw [h]; iexact H

/-- A buffer held with some contents, all of its array, is that array owned whole. -/
theorem of_any {sp : Space} {s : Shape} {M : Memref sig .scVector sp s .i32} (h : M.view.set = Finset.univ) :
    iprop(∃ v, Held (F := F) (tile i d) M v) ⊢ (iprop(∃ f, M.view.loc (tile i d) ↦{fullShare} f) : sProp 𝕄) := by
  unfold Held
  iintro ⟨%v, %f, -, H⟩
  iexists f
  rw [h]; iexact H

/-- The scratch buffer `b` at some contents. -/
abbrev scr (b : Ref sig .scVector) : sProp 𝕄 := iprop(∃ f, (tile i d).loc b ↦{fullShare} f)

/-- The kernel's scratch buffers and DMA semaphores. -/
abbrev scratches : Finset (Ref sig .scVector) := {cc0_scratch0, cc0_scratch1, cc0_scratch2, cc0_scratch3, cc0_scratch4, cc0_scratch5, cc0_scratch6, cc0_scratch7}
abbrev dmaSems : Finset (DmaSem sig) := {cc0_scratch8.sem, cc0_scratch9.sem, cc0_scratch10.sem, cc0_scratch11.sem}

/-- The scratch buffers are among the subcore's own: they are them, at some contents, and the rest. -/
theorem ownBufs_V :
    (ownBufs (tile i d) : sProp 𝕄)
      = iprop((scr (F := F) i d cc0_scratch0 ∗ scr (F := F) i d cc0_scratch1 ∗ scr (F := F) i d cc0_scratch2 ∗ scr (F := F) i d cc0_scratch3
          ∗ scr (F := F) i d cc0_scratch4 ∗ scr (F := F) i d cc0_scratch5 ∗ scr (F := F) i d cc0_scratch6 ∗ scr (F := F) i d cc0_scratch7)
          ∗ bigSep (ownRefs (τ := τ) (tile i d).2 \ scratches.image ((tile i d).2.devRef)) fun b => iprop(∃ f, ((d, b) : Loc nD τ sig) ↦{fullShare} f)) := by
  unfold SparseCore.Cfg.ownBufs
  rw [bigSep_named (F := F) (t := scratches) (f := (tile i d).2.devRef) (Set.injOn_of_injective (Proc.devRef_injective _)) (fun b hb => by
    refine SparseCore.Cfg.mem_ownRefs_of_owner ?_
    simp only [Finset.mem_insert, Finset.mem_singleton] at hb
    rcases hb with rfl | rfl | rfl | rfl | rfl | rfl | rfl | rfl <;> rfl)]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The DMA semaphores are among the subcore's own: they are them, at zero, and the rest. -/
theorem ownSems0_V :
    (ownSems0 (tile i d) : sProp 𝕄)
      = iprop((semVal (tile i d, SemLoc.dma cc0_scratch8.sem) 0 ∗ semVal (tile i d, SemLoc.dma cc0_scratch9.sem) 0
          ∗ semVal (tile i d, SemLoc.dma cc0_scratch10.sem) 0 ∗ semVal (tile i d, SemLoc.dma cc0_scratch11.sem) 0)
          ∗ bigSep (ownCells (tile i d) \ dmaSems.image fun s => (tile i d, SemLoc.dma s)) fun g => semVal g 0) := by
  unfold SparseCore.Cfg.ownSems0
  rw [bigSep_named (F := F) (t := dmaSems) (f := fun s => ((tile i d, SemLoc.dma s) : GSem nD τ sig)) (fun a _ b _ h => by
      have := (Prod.mk.inj h).2; cases this; rfl) (fun b hb => by
    refine mem_ownCells.mpr ⟨rfl, ?_⟩
    simp only [Finset.mem_insert, Finset.mem_singleton] at hb
    rcases hb with rfl | rfl | rfl | rfl <;> (show (SemLoc.dma _ : SemLoc sig).isScoped .scVector = true; decide))]
  rw [SparseCore.bigSep_insert' (by decide), SparseCore.bigSep_insert' (by decide), SparseCore.bigSep_insert' (by decide), bigSep_singleton]

variable {m}

/-- The subcore's task at the launch's contents. -/
def env (hpre : PreOK m) (O : CellTallies nD τ sig (HIx 1)) (W : Waits sig (HIx 1)) : Env (F := F) i d args where
  f := planes m d
  g := outs m d
  bytes := planes_bytes hpre d
  result := by
    rw [show args.arg3.view.read (Elt F) (outs m d) = outs m d from View.read_whole _ _,
      show args.arg2.view.read (Elt F) (planes m d) = planes m d from View.read_whole _ _]
    rfl
  O := O
  W := W

/-- Rows of the planes, as the tile's first argument and as the host's array, are the same. -/
theorem rows_in (f : Buf (Elt F) (iLoc d)) (a b : ℕ) : Rows (F := F) i d args.arg2 f a b = (iLoc d ↦[band a b]{fullShare} f : sProp 𝕄) := by
  unfold Rows
  rw [show args.arg2.view.setOn (band a b) = band a b from Finset.map_refl]

/-- Rows of the result, as the tile's second argument and as the host's array, are the same. -/
theorem rows_out (f : Buf (Elt F) (oLoc d)) (a b : ℕ) : Rows (F := F) i d args.arg3 f a b = (oLoc d ↦[band a b]{fullShare} f : sProp 𝕄) := by
  unfold Rows
  rw [show args.arg3.view.setOn (band a b) = band a b from Finset.map_refl]

/-- The task of one subcore: from its share of the arrays to its share with the result's rows equalised. -/
theorem tile_body (hpre : PreOK m) (O : CellTallies nD τ sig (HIx 1)) (W : Waits sig (HIx 1)) (hO : ∀ g, O g none = 0) :
    iprop(levAts (K (F := F)).L (K (F := F)).lev ∗ emp ∗ share m d (i 0).val (i 1).val (m (oLoc d))
        ∗ scopedBufs (tile i d) ∗ scopedSems0 (tile i d) ∗ owes (tile i d) O W)
      ⊢ run (F := F) (tile i d) (args.app (cc0__tec_body (F := F) i))
          fun _ => iprop(share m d (i 0).val (i 1).val (outs m d) ∗ scopedBufs (tile i d) ∗ scopedSems0 (tile i d)
            ∗ ∃ W', ⌜∀ p ∈ W', p ∈ W ∨ p.2 = none⌝ ∗ owes (tile i d) O W') := by
  rw [(K (F := F)).scopedBufs_V facts d _ _, SparseCore.Cfg.scopedSems0_V (Val := Elt F) d _ _, ownBufs_V, ownSems0_V]
  have hb := body_run (env i d hpre O W)
  unfold Between ReadSide WriteSide Idle Any Owing at hb
  have hi : Rows (F := F) i d args.arg2 (env i d hpre O W).f (firstRow i) (512 * planeOf i 3)
      ⊢ (iLoc d ↦[band (512 * (6 * (i 1).val + 3 * (i 0).val + 0)) (512 * (6 * (i 1).val + 3 * (i 0).val + 3))]{fullShare} planes m d : sProp 𝕄) :=
    Entails.of_eq (rows_in i d (planes m d) _ _)
  have ho : Rows (F := F) i d args.arg3 (env i d hpre O W).g (firstRow i) (512 * planeOf i 3)
      ⊢ (oLoc d ↦[band (512 * (6 * (i 1).val + 3 * (i 0).val + 0)) (512 * (6 * (i 1).val + 3 * (i 0).val + 3))]{fullShare} outs m d : sProp 𝕄) :=
    by simp only [env]; exact Entails.of_eq (rows_out i d (outs m d) _ _)
  unfold share
  iintro ⟨#Hlv, -, ⟨Hi, Ho⟩, ⟨⟨H0, H1, H2, H3, H4, H5, H6, H7⟩, Hbufs⟩, ⟨⟨S0, S1, S2, S3⟩, Hsems⟩, HO⟩
  iapply (run_wand hb) $$ [Hi Ho H0 H1 H2 H3 H4 H5 H6 H7 S0 S1 S2 S3 HO]
  · isplitl [Hi H0 H1 S0 S1]
    · isplitl [H0 S0]
      · isplitl [H0]
        · iapply (any_of (F := F) i d (M := args.arg4) (View.set_whole _)); iexact H0
        · iexact S0
      isplitl [H1 S1]
      · isplitl [H1]
        · iapply (any_of (F := F) i d (M := args.arg5) (View.set_whole _)); iexact H1
        · iexact S1
      isplitr
      · iapply (Rows.none _ _); iempintro
      · rw [rows_in]; iexact Hi
    isplitl [Ho H2 H3 S2 S3]
    · isplitl [H2 S2]
      · isplitl [H2]
        · iapply (any_of (F := F) i d (M := args.arg6) (View.set_whole _)); iexact H2
        · iexact S2
      isplitl [H3 S3]
      · isplitl [H3]
        · iapply (any_of (F := F) i d (M := args.arg7) (View.set_whole _)); iexact H3
        · iexact S3
      isplitr
      · iapply (Rows.none _ _); iempintro
      · iexists (m (oLoc d)); rw [rows_out]; iexact Ho
    isplitl [H4]; · iapply (any_of (F := F) i d (M := args.arg8) (View.set_whole _)); iexact H4
    isplitl [H5]; · iapply (any_of (F := F) i d (M := args.arg9) (View.set_whole _)); iexact H5
    isplitl [H6]; · iapply (any_of (F := F) i d (M := args.arg10) (View.set_whole _)); iexact H6
    isplitl [H7]; · iapply (any_of (F := F) i d (M := args.arg11) (View.set_whole _)); iexact H7
    isplitr
    · iapply ((K (F := F)).mayWaits_none (thr := tile i d) hO); iexact Hlv
    · iexists W
      isplitr
      · ipureintro; exact fun p hp => Or.inl hp
      · iexact HO
  iintro %_ ⟨⟨⟨H0, S0⟩, ⟨H1, S1⟩, Hi, -⟩, ⟨⟨H2, S2⟩, ⟨H3, S3⟩, Ho, -⟩, H4, H5, H6, H7, -, HO⟩
  isplitl [Hi Ho]
  · isplitl [Hi]
    · iapply hi; iexact Hi
    · iapply ho; iexact Ho
  isplitl [H0 H1 H2 H3 H4 H5 H6 H7 Hbufs]
  · isplitr [Hbufs]
    · isplitl [H0]; · iapply (of_any (F := F) i d (M := args.arg4) (View.set_whole _)); iexact H0
      isplitl [H1]; · iapply (of_any (F := F) i d (M := args.arg5) (View.set_whole _)); iexact H1
      isplitl [H2]; · iapply (of_any (F := F) i d (M := args.arg6) (View.set_whole _)); iexact H2
      isplitl [H3]; · iapply (of_any (F := F) i d (M := args.arg7) (View.set_whole _)); iexact H3
      isplitl [H4]; · iapply (of_any (F := F) i d (M := args.arg8) (View.set_whole _)); iexact H4
      isplitl [H5]; · iapply (of_any (F := F) i d (M := args.arg9) (View.set_whole _)); iexact H5
      isplitl [H6]; · iapply (of_any (F := F) i d (M := args.arg10) (View.set_whole _)); iexact H6
      iapply (of_any (F := F) i d (M := args.arg11) (View.set_whole _)); iexact H7
    · iexact Hbufs
  isplitl [S0 S1 S2 S3 Hsems]
  · isplitr [Hsems]
    · isplitl [S0]; · iexact S0
      isplitl [S1]; · iexact S1
      isplitl [S2]; · iexact S2
      iexact S3
    · iexact Hsems
  iexact HO

end Tile

end Cert.Proof.Eq
-- ==== Proof.Program.lean ====
/-
  The program's run: the subcores' tasks as the call's obligations, the arrays cut into the subcores' shares and put together
  again, and the main thread — a reshape, the call, a reshape.
-/
module

public import proofs.«01_k».proof.Proof.Launch

@[expose] public section

noncomputable section

namespace Cert.Proof.Eq

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The task as the call's obligation -/

/-- A subcore's grid coordinates. -/
def coordsV (c : Fin (grid0.bound 0)) (s : Fin (grid0.bound 1)) : grid0.Coords :=
  fun | 0 => c | 1 => s | ⟨_ + 2, h⟩ => absurd h (Nat.not_lt.2 (Nat.le_add_left _ _))

/-- What the program runs on a vector subcore: the kernel's body at its coordinates. -/
theorem defs₀_vector (c : Fin τ.nSC) (s : Fin τ.nSub) :
    defs₀ (F := F) (.scVector c s) 0 ()
      = SparseCore.onTile hcore0 hsub0 (fun c s => args.app (cc0__tec_body (F := F) (coordsV c s))) ⟨⟩ c s := rfl

/-- A bound on what a tile has waited for may be widened to the one that the launch asks for. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable {m} in
/-- Every subcore's task meets its obligation. -/
theorem tileObl (hpre : PreOK m) : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]; simp only [SparseCore.onTile, hc, and_self, ↓reduceDIte]
  have hb := (tile_body (coordsV ⟨_, hc.1⟩ ⟨_, hc.2⟩) d hpre O W hO).trans (wp_mono frame _ _ fun _ => obl_post (q := 0))
  generalize args.app (cc0__tec_body (F := F) (coordsV ⟨((K (F := F)).core 0 c).val, hc.1⟩ ⟨((K (F := F)).sub 0 s).val, hc.2⟩)) = prog at hb ⊢
  exact hb

/-! ## The arrays, cut into the subcores' shares -/

/-- The rows of a subcore's planes. -/
abbrev rowsOf (p : Fin 2 × Fin 16) : Finset S96x512x512.Idx := band (512 * (6 * p.2.val + 3 * p.1.val + 0)) (512 * (6 * p.2.val + 3 * p.1.val + 3))

/-- Different tiles have no row in common. -/
theorem rows_apart : ∀ p ∈ (Finset.univ : Finset (Fin 2 × Fin 16)), ∀ q ∈ (Finset.univ : Finset (Fin 2 × Fin 16)), p ≠ q → Disjoint (rowsOf p) (rowsOf q) := by
  rintro ⟨c, s⟩ - ⟨c', s'⟩ - h
  rw [Finset.disjoint_left]
  intro x h₁ h₂
  rw [mem_band] at h₁ h₂
  dsimp only at h₁ h₂
  refine h (Prod.ext (Fin.ext ?_) (Fin.ext ?_)) <;> (have := c.isLt; have := c'.isLt; dsimp only; omega)

/-- The tiles' rows are all the rows. -/
theorem rows_all : (Finset.univ : Finset (Fin 2 × Fin 16)).biUnion rowsOf = Finset.univ := by
  ext x
  simp only [Finset.mem_biUnion, Finset.mem_univ, true_and, iff_true]
  have h0 : (x 0).val < 96 := (x 0).isLt
  have h1 : (x 1).val < 512 := (x 1).isLt
  refine ⟨(⟨(x 0).val / 3 % 2, by omega⟩, ⟨(x 0).val / 6, by omega⟩), ?_⟩
  rw [mem_band]
  dsimp only
  omega

/-- The two arrays whole are the shares of all the subcores. -/
theorem shares_eq (d : Dev nD) (f : Buf (Elt F) (oLoc d)) :
    (bigSep Finset.univ fun c : Fin ((K (F := F)).nCore 0) => bigSep Finset.univ fun s : Fin ((K (F := F)).nSub 0) => share m d c.val s.val f)
      = (iprop((iLoc d ↦{fullShare} planes m d) ∗ (oLoc d ↦{fullShare} f)) : sProp 𝕄) := by
  show (bigSep (Finset.univ : Finset (Fin 2)) fun c => bigSep (Finset.univ : Finset (Fin 16)) fun s => share m d c.val s.val f) = _
  have hi : (iLoc d ↦{fullShare} planes m d : sProp 𝕄) = bigSep Finset.univ fun p : Fin 2 × Fin 16 => iLoc d ↦[rowsOf p]{fullShare} planes m d := by
    rw [← pointsTo_biUnion Finset.univ (ℓ := iLoc d) rowsOf rows_apart, rows_all]; try rfl
  have ho : (oLoc d ↦{fullShare} f : sProp 𝕄) = bigSep Finset.univ fun p : Fin 2 × Fin 16 => oLoc d ↦[rowsOf p]{fullShare} f := by
    rw [← pointsTo_biUnion Finset.univ (ℓ := oLoc d) rowsOf rows_apart, rows_all]; try rfl
  rw [hi, ho, ← bigSep_sep', bigSep_univ_prod]
  rfl

/-- What the call takes, and what it brings back. -/
theorem st_eq (d : Dev nD) : (bigSep Finset.univ fun c : Fin ((K (F := F)).nCore 0) => (P m).st 0 d c)
    = iprop((iLoc d ↦{fullShare} planes m d) ∗ (oLoc d ↦{fullShare} m (oLoc d))) := shares_eq m d (m (oLoc d))
/-- What the tiles hand back, of all of them together. -/
theorem dn_eq (d : Dev nD) : (bigSep Finset.univ fun c : Fin ((K (F := F)).nCore 0) => (P m).dn 0 d c)
    = iprop((iLoc d ↦{fullShare} planes m d) ∗ (oLoc d ↦{fullShare} outs m d)) := shares_eq m d (outs m d)

/-! ## The launch element: the handshakes' rounds; nothing of the kernel's own -/

/-- The ghost state at launch: the handshakes' own, and no count. -/
def u₀ : UU := (initOf (K (F := F)).hsCells (K (F := F)).hsToks, 1)

/-- Nothing, many times, is nothing. -/
theorem none_emp {I : Type} (s : Finset I) : (bigSep s fun _ => iprop(emp)) = (iprop(emp) : sProp 𝕄) := bigSep_emp_const s

/-- The launch's ghost state gives the handshakes their parts. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [none_emp]; iempintro
  unfold P; dsimp only
  rw [show (bigSep Finset.univ fun _ : Thread nD τ => bigSep Finset.univ fun _ : Fin 1 => (iprop(emp) : sProp 𝕄)) = iprop(emp) from by
    rw [bigSep_congr fun _ _ => none_emp _, none_emp]]
  iempintro

/-! ## The main thread -/

/-- The program's arrays. -/
abbrev S4 : Finset (DevRef τ sig) := {a', i', o', r'}

/-- The host's four arrays, one by one. -/
theorem held_S4 (d : Dev nD) (W : Valuation τ sig (Elt F)) :
    (held (SparseCore.T d) S4 W : sProp 𝕄) = iprop((aLoc d ↦{fullShare} W a') ∗ (iLoc d ↦{fullShare} W i') ∗ (oLoc d ↦{fullShare} W o') ∗ (rLoc d ↦{fullShare} W r')) := by
  unfold held S4
  rw [SparseCore.bigSep_insert' (by decide), SparseCore.bigSep_insert' (by decide), SparseCore.bigSep_insert' (by decide), bigSep_singleton]

/-- The host's buffers are those four arrays. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (iLoc d ↦{fullShare} W main_v0) ∗ (oLoc d ↦{fullShare} W main_v1) ∗ (rLoc d ↦{fullShare} W main_v2)) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- At launch the host holds them as they are. -/
theorem unscoped_held (d : Dev nD) : (unscopedBufs d (fun b => m ((SparseCore.T d).loc b)) : sProp 𝕄) = held (SparseCore.T d) S4 (V0 m d) := by
  rw [unscopedBufs_eq, held_S4]; rfl

/-- The first reshape leaves the image. -/
theorem V1_a (d : Dev nD) : V1 m d a' = m (aLoc d) := (opIn (F := F)).result_of_not_mem (V0 m d) (b := a') (show a' ∉ ({i'} : Finset (DevRef τ sig)) by decide)
/-- The first reshape leaves the kernel's output. -/
theorem V1_o (d : Dev nD) : V1 m d o' = m (oLoc d) := (opIn (F := F)).result_of_not_mem (V0 m d) (b := o') (show o' ∉ ({i'} : Finset (DevRef τ sig)) by decide)
/-- After the kernel its output holds the equalised planes. -/
theorem V2_o (d : Dev nD) : V2 m d o' = outs m d := Function.update_self _ _ _
/-- The kernel changes no other array of the host. -/
theorem V2_ne (d : Dev nD) {b : DevRef τ sig} (h : b ≠ o') : V2 m d b = V1 m d b := Function.update_of_ne h _ _
/-- At the end the image is as it was. -/
theorem V3_a (d : Dev nD) : V3 m d a' = m (aLoc d) :=
  ((opOut (F := F)).result_of_not_mem (V2 m d) (b := a') (show a' ∉ ({r'} : Finset (DevRef τ sig)) by decide)).trans ((V2_ne m d (by decide)).trans (V1_a m d))

/-- The first reshape touches the four arrays only. -/
theorem in_sub : (opIn (F := F)).bufs ⊆ S4 := show ({a', i'} : Finset (DevRef τ sig)) ⊆ S4 by decide
/-- So does the last. -/
theorem out_sub : (opOut (F := F)).bufs ⊆ S4 := show ({o', r'} : Finset (DevRef τ sig)) ⊆ S4 by decide

/-- After the first reshape the main thread holds the argument, what the call takes, and the array of the result. -/
theorem held_V1 (d : Dev nD) : (held (SparseCore.T d) S4 ((opIn (F := F)).result (V0 m d)) : sProp 𝕄)
    = iprop((aLoc d ↦{fullShare} m (aLoc d)) ∗ (iLoc d ↦{fullShare} planes m d) ∗ (oLoc d ↦{fullShare} m (oLoc d)) ∗ (rLoc d ↦{fullShare} V1 m d r')) := by
  rw [held_S4, ← V1_a m d, ← V1_o m d]; rfl

/-- After the call. -/
theorem held_V2 (d : Dev nD) : (held (SparseCore.T d) S4 (V2 m d) : sProp 𝕄)
    = iprop((aLoc d ↦{fullShare} m (aLoc d)) ∗ (iLoc d ↦{fullShare} planes m d) ∗ (oLoc d ↦{fullShare} outs m d) ∗ (rLoc d ↦{fullShare} V1 m d r')) := by
  rw [held_S4, V2_o, V2_ne m d (b := a') (by decide), V2_ne m d (b := i') (by decide), V2_ne m d (b := r') (by decide), V1_a]; rfl

/-- What the main thread leaves: the argument as it was, the result. -/
abbrev FIN (d : Dev nD) : sProp 𝕄 := iprop((aLoc d ↦{fullShare} m (aLoc d)) ∗ (rLoc d ↦{fullShare} final m d))

/-- After the last reshape the host holds the image unchanged and the result. -/
theorem held_V3 (d : Dev nD) : (held (SparseCore.T d) S4 ((opOut (F := F)).result (V2 m d)) : sProp 𝕄) ⊢ FIN m d := by
  rw [held_S4, show (opOut (F := F)).result (V2 m d) a' = m (aLoc d) from V3_a m d]
  iintro ⟨Ha, -, -, Hr⟩
  isplitl [Ha]; · iexact Ha
  iexact Hr

/-- The main thread: a reshape, the call, a reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4) in_sub (V := V0 m d)) $$ [Hb Hheld]
  · isplitl [Hb]; · iexact Hb
    iexact Hheld
  iintro ⟨Hb, Hheld⟩
  rw [wp_ret]; imodintro
  ihave Hh := (Entails.of_eq (held_V1 m d)) $$ Hheld
  icases Hh with ⟨Ha, Hi, Ho, Hr⟩
  iapply ((K (F := F)).wp_run (D (F := F)) 𝒱 (EH := EH) (P := P m) κ d 0) $$ [Hst Ha Hi Ho Hr Hb Hts]
  isplitr; · iexact Hctx
  isplitl [Hst]; · iexact Hst
  isplitl [Hi Ho]
  · iapply (Entails.of_eq (st_eq m d).symm)
    isplitl [Hi]; · iexact Hi
    iexact Ho
  iintro ⟨Hst, Hdn⟩
  ihave Hdn' := (Entails.of_eq (dn_eq m d)) $$ Hdn
  icases Hdn' with ⟨Hi, Ho⟩
  iapply (wp_hlo_within 𝒱 (SparseCore.T d) none Set.univ (op := opOut) (S := S4) out_sub (V := V2 m d)) $$ [Hb Ha Hi Ho Hr]
  · isplitl [Hb]; · iexact Hb
    rw [held_V2]
    isplitl [Ha]; · iexact Ha
    isplitl [Hi]; · iexact Hi
    isplitl [Ho]; · iexact Ho
    iexact Hr
  iintro ⟨Hb, Hheld⟩
  ihave Hf := (held_V3 m d) $$ Hheld
  rw [wp_ret]; imodintro; imodintro
  isplitl [Hst]; · iexact Hst
  isplitl [Hf]; · iexact Hf
  isplitl [Hb] <;> iassumption

/-! ## The run -/

/-- What is claimed of the memory at the end: the image unchanged, and the result the equalised image. -/
def fq (d : Dev nD) (s' : Phys nD τ sig (Elt F)) : Prop := s'.mem.mem (aLoc d) = m (aLoc d) ∧ s'.mem.mem (rLoc d) = final m d

/-- An array held with some contents has them in memory. -/
theorem at_end {d : Dev nD} {s' : Phys nD τ sig (Elt F)} {ℓ : Loc nD τ sig} (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- What the host holds at the end gives the claim about the memory. -/
theorem hfin (d : Dev nD) (s' : Phys nD τ sig (Elt F)) : iprop(FIN m d ∗ SI s') ⊢ (⌜fq m d s'⌝ : sProp 𝕄) := by
  have h₁ : iprop(FIN m d ∗ SI s') ⊢ (⌜s'.mem.mem (aLoc d) = m (aLoc d)⌝ : sProp 𝕄) := by
    iintro ⟨⟨Ha, -⟩, HSI⟩
    iapply (at_end (d := d) (m (aLoc d)))
    isplitl [Ha] <;> iassumption
  have h₂ : iprop(FIN m d ∗ SI s') ⊢ (⌜s'.mem.mem (rLoc d) = final m d⌝ : sProp 𝕄) := by
    iintro ⟨⟨-, Hr⟩, HSI⟩
    iapply (at_end (d := d) (final m d))
    isplitl [Hr] <;> iassumption
  exact (BI.Laws.and_intro h₁ h₂).trans (BI.Laws.pure_and.1)

/-- What the run leaves: the argument as it was, the result, the semaphores at zero. -/
def QC : PUnit × MemSt nD τ sig (Elt F) → Prop :=
  fun r => (∀ c : Dev nD, r.2.mem (aLoc c) = m (aLoc c) ∧ r.2.mem (rLoc c) = final m c) ∧ r.2.sem = fun _ => 0

variable {m} in
/-- The kernel's run, of an image of bytes: it ends without fault, with the image as it was, the equalised image as its result and every semaphore at zero. -/
theorem run_main [∀ e, Nonempty (Elt F e)] (hpre : PreOK m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Eq
-- ==== Proof.Frames.lean ====
/-
  The frames: what the stated range gives about the image's words, and from it that the kernel runs — on words
  and on the ideal ones — leaving its argument and every semaphore as they were; and the same of the reference.
-/
module

public import proofs.«01_k».proof.Defs
public import proofs.«01_k».proof.Proof.Program
public import proofs.«01_k».proof.Proof.Gen.Kernel
public import proofs.«01_k».proof.Proof.Gen.Pre_in_range
public import proofs.«01_k».proof.Proof.Gen.ReferenceIdeal.Run
public import Idealize.ShloMosaic.Lib.ReduceAll
public import Idealize.ShloMosaic.Lib.WordCmp
public import Idealize.ShloMosaic.Lib.WordArith
public import Idealize.ShloMosaic.Lib.Claim
public import Idealize.ShloMosaic.Lib.Quiescent

@[expose] public section

noncomputable section

namespace Cert.Proof.Eq

open Idealize.ShloMosaic Idealize.ShloMosaic.StableHlo Idealize.SL.Sem

instance : Subsingleton Cert.Pre_in_range.S_.Idx := ⟨fun _ _ => funext fun a => a.elim0⟩

/-- A word between 0 and 255, read with its sign, is below 256. -/
theorem lt_of_range {x : BitVec 32} (h0 : IntOp.cmpi .sge x 0#32 = 1#1) (h1 : IntOp.cmpi .sle x 255#32 = 1#1) : x.toNat < 256 := by
  rw [WordCmp.cmpi_sge_eq, Idealize.ShloMosaic.WordArith.ofBool_eq_one_iff, decide_eq_true_iff] at h0
  rw [WordCmp.cmpi_sle_eq, Idealize.ShloMosaic.WordArith.ofBool_eq_one_iff, decide_eq_true_iff] at h1
  have e0 : (0#32 : BitVec 32).toInt = 0 := rfl
  have e1 : (255#32 : BitVec 32).toInt = 255 := rfl
  rw [e0] at h0
  rw [e1] at h1
  rw [BitVec.toInt_eq_toNat_cond] at h0 h1
  split at h0 <;> split at h1 <;> omega

/-- Where the stated range holds, every word of the image is below 256. -/
theorem bytes_of_range {F : FTy → Type} [FloatOps F] {x : IVec Cert.Pre_in_range.S32x3x512x512 32}
    (h : Cert.Pre_in_range.fn (F := F) x = fun _ => 1#1) (i : Cert.Pre_in_range.S32x3x512x512.Idx) : (x i).toNat < 256 := by
  have h1 := Host.reduce_andi_all _ _ _ _ (fun a => a.elim0) (congrFun h _) i
  obtain ⟨h0, h2⟩ := IntOp.andi_eq_one.1 h1
  refine lt_of_range (h0 : _) ?_
  exact h2

/-- The kernel's frame. -/
theorem frame_kernel : Cert.quiescent_Kernel := fun m ρ h =>
  (θ_run Cert.KernelIdeal.defs _ _).mono (fun _ h => ⟨fun c => (h.1 c).1, h.2⟩) (run_main (F := Bits) (m := m) ρ fun d x => bytes_of_range (h d) x)

/-- The ideal kernel's frame. -/
theorem frame_kernelIdeal : Cert.quiescent_KernelIdeal := fun m ρ h =>
  (θ_run Cert.KernelIdeal.defs _ _).mono (fun _ h => ⟨fun c => (h.1 c).1, h.2⟩) (run_main (F := Ideal) (m := m) ρ fun d x => bytes_of_range (h d) x)

/-- The reference's frame, of any image: it names no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- The reference's frame, of an image in range. -/
theorem frame_referenceIdeal_in_range : Cert.quiescent_ReferenceIdeal_pre_in_range := fun m ρ _ => frame_referenceIdeal m ρ trivial

end Cert.Proof.Eq

end
-- ==== Proof.Numbers.lean ====
/-
  The kernel's table in natural numbers: how many pixels hold each value and how many lie below it, the last value that
  occurs, the step, and each entry of the table as a clipped quotient of naturals — no word of the computation overflows.
-/
module

public import proofs.«01_k».proof.Proof.Table
public import Idealize.ShloMosaic.Lib.Routing.OpsSearch
public import Idealize.ShloMosaic.Lib.WordCmp

@[expose] public section

noncomputable section

namespace Cert.Proof.Eq

open Idealize.ShloMosaic

/-! ## Counts -/

/-- How many pixels of the plane hold the value `v`. -/
def pixelsAt (pix : ℕ → BitVec 32) (v : ℕ) : ℕ := countTo pix 262144 v

/-- How many pixels of the plane hold a value below `n`. -/
def pixelsBelow (pix : ℕ → BitVec 32) (n : ℕ) : ℕ := ∑ v ∈ Finset.range n, pixelsAt pix v

/-- The largest value below `n` whose count is not zero; zero if there is none. -/
def lastTo (c : ℕ → ℕ) : ℕ → ℕ
  | 0 => 0
  | n + 1 => if c n = 0 then lastTo c n else n

/-- The table's step, as a natural. -/
def stepN (pix : ℕ → BitVec 32) : ℕ := (262144 - pixelsAt pix (lastTo (pixelsAt pix) 256)) / 255

variable {pix : ℕ → BitVec 32}

/-- A value is borne by at most all pixels of a plane. -/
theorem pixelsAt_le (v : ℕ) : pixelsAt pix v ≤ 262144 := by
  unfold pixelsAt countTo
  exact le_of_le_of_eq (Finset.card_filter_le _ _) (Finset.card_range _)

/-- Bytes: every pixel of the plane holds a value below 256. -/
theorem pixelsBelow_all (h : Bytes pix) : pixelsBelow pix 256 = 262144 :=
  ((Finset.card_range 262144).symm.trans
    (Finset.card_eq_sum_card_fiberwise (f := fun n => (pix n).toNat) (t := Finset.range 256) fun n _ => Finset.mem_coe.2 (Finset.mem_range.2 (h n)))).symm

/-- At most all pixels of a plane lie below a value. -/
theorem pixelsBelow_le (h : Bytes pix) {n : ℕ} (hn : n ≤ 256) : pixelsBelow pix n ≤ 262144 :=
  (Finset.sum_le_sum_of_subset (Finset.range_subset_range.2 hn)).trans (pixelsBelow_all h).le

/-- The step is at most 1028. -/
theorem stepN_le : stepN pix ≤ 1028 := by
  unfold stepN
  omega

/-- The last non-empty bin among the first `n` is one of them. -/
theorem lastTo_lt (c : ℕ → ℕ) {n : ℕ} (hn : 0 < n) : lastTo c n < n := by
  induction n with
  | zero => omega
  | succ n ih =>
    unfold lastTo
    split
    · rcases Nat.eq_zero_or_pos n with rfl | h
      · exact Nat.one_pos
      · exact (ih h).trans (Nat.lt_succ_self n)
    · exact Nat.lt_succ_self n

/-- No value that occurs lies above the last one. -/
theorem le_lastTo (c : ℕ → ℕ) {n v : ℕ} (hv : v < n) (hc : c v ≠ 0) : v ≤ lastTo c n := by
  induction n with
  | zero => omega
  | succ n ih =>
    unfold lastTo
    split
    · next h0 => exact ih (lt_of_le_of_ne (Nat.le_of_lt_succ hv) fun e => hc (e ▸ h0))
    · exact Nat.le_of_lt_succ hv

/-- The last value occurs, unless it is zero. -/
theorem lastTo_occurs (c : ℕ → ℕ) (n : ℕ) : lastTo c n = 0 ∨ c (lastTo c n) ≠ 0 := by
  induction n with
  | zero => exact .inl rfl
  | succ n ih =>
    unfold lastTo
    split
    · exact ih
    · next h => exact .inr h

/-! ## The words -/

/-- The running count, as a word. -/
theorem cumTo_hist (n : ℕ) : cumTo (hist pix) n = BitVec.ofNat 32 (pixelsBelow pix n) := by
  induction n with
  | zero => rfl
  | succ n ih =>
    show IntOp.addi (cumTo (hist pix) n) (BitVec.ofNat 32 (pixelsAt pix n)) = _
    rw [ih, WordCmp.addi_ofNat]
    exact congrArg (BitVec.ofNat 32) (Finset.sum_range_succ _ n).symm

/-- The greater of two words that hold naturals holds the greater natural. -/
theorem maxsi_ofNat {a b : ℕ} (ha : a < 2 ^ 31) (hb : b < 2 ^ 31) : IntOp.maxsi (BitVec.ofNat 32 a) (BitVec.ofNat 32 b) = BitVec.ofNat 32 (max a b) := by
  unfold IntOp.maxsi
  rw [Routing.slt_ofNat32 hb ha]
  by_cases h : b < a
  · rw [if_pos (decide_eq_true h), max_eq_left h.le]
  · rw [if_neg fun e => h (of_decide_eq_true e), max_eq_right (Nat.le_of_not_lt h)]

/-- A word that holds a natural is zero where the natural is. -/
theorem ofNat_eq_zero_iff {a : ℕ} (ha : a < 2 ^ 32) : BitVec.ofNat 32 a = 0#32 ↔ a = 0 := by
  rw [← BitVec.toNat_inj, BitVec.toNat_ofNat, Nat.mod_eq_of_lt ha]
  rfl

/-- The largest code among the values below `n` is the last value's. -/
theorem encTo_hist {n : ℕ} (hn : n ≤ 256) :
    encTo (hist pix) n = BitVec.ofNat 32 (if n = 0 then 0 else 524288 * lastTo (pixelsAt pix) n + pixelsAt pix (lastTo (pixelsAt pix) n)) := by
  induction n with
  | zero => rfl
  | succ n ih =>
    have hc := pixelsAt_le (pix := pix) n
    show IntOp.maxsi (encTo (hist pix) n) (Scalar.select (IntOp.cmpi .ne (BitVec.ofNat 32 (pixelsAt pix n)) 0#32)
      (IntOp.addi (IntOp.muli (BitVec.ofNat 32 n) (BitVec.ofNat 32 524288)) (BitVec.ofNat 32 (pixelsAt pix n))) 0#32) = _
    rw [ih (by omega), WordCmp.muli_ofNat, WordCmp.addi_ofNat, WordCmp.cmpi_ne_eq, if_neg (Nat.succ_ne_zero n)]
    have hl : n ≠ 0 → lastTo (pixelsAt pix) n < n := fun h => lastTo_lt _ (Nat.pos_of_ne_zero h)
    have hb := pixelsAt_le (pix := pix) (lastTo (pixelsAt pix) n)
    by_cases h : pixelsAt pix n = 0
    · have e : lastTo (pixelsAt pix) (n + 1) = lastTo (pixelsAt pix) n := if_pos h
      have d : decide (BitVec.ofNat 32 (pixelsAt pix n) ≠ 0#32) = false := decide_eq_false fun q => q (by rw [h])
      rw [e, d]
      show IntOp.maxsi _ (BitVec.ofNat 32 0) = _
      rw [maxsi_ofNat (by split <;> omega) (by omega)]
      refine congrArg (BitVec.ofNat 32) ?_
      split
      · next h0 => subst h0; show 0 = 524288 * 0 + pixelsAt pix 0; omega
      · omega
    · have e : lastTo (pixelsAt pix) (n + 1) = n := if_neg h
      have d : decide (BitVec.ofNat 32 (pixelsAt pix n) ≠ 0#32) = true := decide_eq_true fun q => h ((ofNat_eq_zero_iff (by omega)).1 q)
      rw [e, d]
      show IntOp.maxsi _ (BitVec.ofNat 32 _) = _
      rw [maxsi_ofNat (by split <;> omega) (by omega)]
      refine congrArg (BitVec.ofNat 32) ?_
      split <;> omega

/-- The low nineteen bits of a word that holds a natural. -/
theorem andi_low {a : ℕ} (ha : a < 2 ^ 32) : IntOp.andi (BitVec.ofNat 32 a) 524287#32 = BitVec.ofNat 32 (a % 524288) := by
  apply BitVec.eq_of_toNat_eq
  show (BitVec.ofNat 32 a &&& 524287#32).toNat = _
  rw [BitVec.toNat_and, BitVec.toNat_ofNat, BitVec.toNat_ofNat, BitVec.toNat_ofNat, Nat.mod_eq_of_lt ha]
  show a &&& (2 ^ 19 - 1) = a % 2 ^ 19 % 2 ^ 32
  rw [Nat.and_two_pow_sub_one_eq_mod]
  omega

/-- The difference of words that hold naturals holds the naturals' difference. -/
theorem subi_ofNat {a b : ℕ} (hb : b ≤ a) (ha : a < 2 ^ 32) : IntOp.subi (BitVec.ofNat 32 a) (BitVec.ofNat 32 b) = BitVec.ofNat 32 (a - b) := by
  apply BitVec.eq_of_toNat_eq
  show (BitVec.ofNat 32 a - BitVec.ofNat 32 b).toNat = _
  rw [BitVec.toNat_sub, BitVec.toNat_ofNat, BitVec.toNat_ofNat, BitVec.toNat_ofNat]
  omega

/-- The kernel's step, computed in words from the histogram, holds the natural one. -/
theorem stepOf_hist : stepOf (hist pix) = BitVec.ofNat 32 (stepN pix) := by
  have hl := lastTo_lt (pixelsAt pix) (n := 256) (by omega)
  have hb := pixelsAt_le (pix := pix) (lastTo (pixelsAt pix) 256)
  show IntOp.divsi .scalar (IntOp.subi (BitVec.ofNat 32 262144) (IntOp.andi (encTo (hist pix) 256) 524287#32)) (BitVec.ofNat 32 255) = _
  rw [encTo_hist le_rfl, if_neg (by omega), andi_low (by omega),
    show (524288 * lastTo (pixelsAt pix) 256 + pixelsAt pix (lastTo (pixelsAt pix) 256)) % 524288 = pixelsAt pix (lastTo (pixelsAt pix) 256) by omega,
    subi_ofNat hb (by omega), Routing.divsi_word .scalar (by omega) (by omega) (by omega)]
  rfl

/-- So does half of it. -/
theorem halfOf_hist : halfOf (hist pix) = BitVec.ofNat 32 (stepN pix / 2) := by
  have hs := stepN_le (pix := pix)
  show IntOp.divsi .scalar (stepOf (hist pix)) (BitVec.ofNat 32 2) = _
  rw [stepOf_hist, Routing.divsi_word .scalar (by omega) (by omega) (by omega)]

/-- So does the divisor, the step or one. -/
theorem safeOf_hist : safeOf (hist pix) = BitVec.ofNat 32 (max (stepN pix) 1) := by
  have hs := stepN_le (pix := pix)
  show IntOp.maxsi (stepOf (hist pix)) (BitVec.ofNat 32 1) = _
  rw [stepOf_hist, maxsi_ofNat (by omega) (by omega)]

/-- An entry of the table, before the plane with one value is told apart. -/
def entryN (pix : ℕ → BitVec 32) (v : ℕ) : ℕ := min ((pixelsBelow pix v + stepN pix / 2) / max (stepN pix) 1) 255

/-- The table's entry of a value: the value itself where the step is zero, and otherwise the clipped quotient. -/
theorem tabAt_eq (h : Bytes pix) {v : ℕ} (hv : v < 256) :
    tabAt pix v = if stepN pix = 0 then BitVec.ofNat 32 v else BitVec.ofNat 32 (entryN pix v) := by
  have hs := stepN_le (pix := pix)
  have hc := pixelsBelow_le h hv.le
  have hq : (pixelsBelow pix v + stepN pix / 2) / max (stepN pix) 1 ≤ pixelsBelow pix v + stepN pix / 2 := Nat.div_le_self _ _
  show Scalar.select (IntOp.cmpi .eq (stepOf (hist pix)) 0#32) (BitVec.ofNat 32 v)
    (IntOp.minsi (BitVec.ofNat 32 255) (IntOp.maxsi (BitVec.ofNat 32 0)
      (IntOp.divsi .scalar (IntOp.addi (cumTo (hist pix) v) (halfOf (hist pix))) (safeOf (hist pix))))) = _
  rw [stepOf_hist, halfOf_hist, safeOf_hist, cumTo_hist, WordCmp.addi_ofNat, Routing.divsi_word .scalar (by omega) (by omega) (by omega),
    Routing.clip_word (by omega) (by omega) (by omega), Nat.max_zero, WordCmp.cmpi_eq_eq]
  by_cases h0 : stepN pix = 0
  · rw [if_pos h0, h0]
    rfl
  · rw [if_neg h0, decide_eq_false fun e => h0 ((ofNat_eq_zero_iff (by omega)).1 e)]
    rfl

end Cert.Proof.Eq

end
-- ==== Proof.Reading.lean ====
/-
  Array operations of the reference read at one element, at any sizes: folds of sums and of maxima, floor division of
  words that hold naturals, the running sum along the rows of a matrix, and the entry of each row that an index array names.
-/
module

public import Idealize.ShloMosaic.Lib.Routing.OpsSearch
public import Idealize.ShloMosaic.Lib.WordCmp
public import Idealize.ShloMosaic.Lib.ReduceAll

@[expose] public section

noncomputable section

namespace Cert.Proof.Eq

open Idealize.ShloMosaic Idealize.ShloMosaic.ValueIdx Idealize.ShloMosaic.Routing

/-- The word sum of words holding naturals holds the naturals' sum. -/
theorem fold_addi_ofNat {ι : Type} (S : Finset ι) (g : ι → BitVec 32) (f : ι → ℕ) (hg : ∀ k ∈ S, g k = BitVec.ofNat 32 (f k)) :
    S.fold IntOp.addi 0#32 g = BitVec.ofNat 32 (∑ k ∈ S, f k) := by
  classical
  induction S using Finset.induction_on with
  | empty => rfl
  | insert a S ha ih =>
    rw [Finset.fold_insert ha, Finset.sum_insert ha, ih fun k hk => hg k (Finset.mem_insert_of_mem hk), hg a (Finset.mem_insert_self a S)]
    exact (BitVec.ofNat_add _ _).symm

/-- The greater of two words, where the second is not the greater, is the first. -/
theorem maxsi_of_le {x y : BitVec 32} (h : y.toInt ≤ x.toInt) : IntOp.maxsi x y = x := by
  unfold IntOp.maxsi
  split
  · rfl
  · next hn =>
    refine BitVec.eq_of_toInt_eq (le_antisymm h ?_)
    have := mt (fun q => (BitVec.slt_iff_toInt_lt (x := y) (y := x)).2 q) hn
    omega

/-- No maximum of words is greater than a bound on all of them. -/
theorem fold_maxsi_le {ι : Type} (S : Finset ι) (g : ι → BitVec 32) (b : BitVec 32) (z : ℤ) (hb : b.toInt ≤ z) (h : ∀ k ∈ S, (g k).toInt ≤ z) :
    (S.fold IntOp.maxsi b g).toInt ≤ z := by
  classical
  induction S using Finset.induction_on with
  | empty => exact hb
  | insert a S ha ih =>
    rw [Finset.fold_insert ha]
    unfold IntOp.maxsi
    split
    · exact h a (Finset.mem_insert_self a S)
    · exact ih fun k hk => h k (Finset.mem_insert_of_mem hk)

/-- The maximum of words is the one that none exceeds. -/
theorem fold_maxsi_eq {ι : Type} (S : Finset ι) (g : ι → BitVec 32) (b : BitVec 32) {k₀ : ι} (hk : k₀ ∈ S) (hb : b.toInt ≤ (g k₀).toInt)
    (h : ∀ k ∈ S, (g k).toInt ≤ (g k₀).toInt) : S.fold IntOp.maxsi b g = g k₀ := by
  classical
  rw [← Finset.insert_erase hk, Finset.fold_insert (Finset.notMem_erase k₀ S)]
  exact maxsi_of_le (fold_maxsi_le _ g b _ hb fun k q => h k (Finset.mem_of_mem_erase q))

/-- A reduction along the rows of a matrix, read in row `p`: the fold over that row. -/
theorem reduce_rows {α : Type} {A N : ℕ} (f : α → α → α) [Std.Commutative f] [Std.Associative f] (x : (shape2 A N).Idx → α) (init : shape0.Idx → α)
    (h' : (shape2 A N).ReducesTo [1] (shape1 A)) (h : (shape2 A N).Reduces [1] (shape1 A)) (hu : 0 < shape0.numel) (p : Fin A) :
    Host.reduce f x init h' hu (ix1 p) = (Finset.univ : Finset (Fin N)).fold f (init (Shape.Idx.first hu)) fun k => x (ix2 p k) := by
  refine (Host.reduce_eq_fold_single f x init h' h hu (ix1 p)).trans ?_
  refine Finset.fold_congr fun k _ => congrArg x (funext fun a => Fin.ext ?_)
  match a with
  | ⟨0, _⟩ => rfl
  | ⟨1, _⟩ => rfl

/-- The sign of a word: zero at zero, minus one below, one above. -/
def signW (x : BitVec 32) : BitVec 32 := if x = 0 then 0 else if x.msb then -1 else 1

/-- Floor division as the reference spells it, the truncated quotient lowered by one where the signs differ and the remainder is not zero. -/
def floorDiv (x d : BitVec 32) : BitVec 32 :=
  Scalar.select (IntOp.andi (IntOp.cmpi .ne (signW x) (signW d)) (IntOp.cmpi .ne (IntOp.remsi .host x d) 0#32)) (IntOp.subi (IntOp.divsi .host x d) 1#32)
    (IntOp.divsi .host x d)

/-- On words that hold naturals, the divisor's not zero, it is the naturals' quotient. -/
theorem floorDiv_ofNat {a b : ℕ} (ha : a < 2 ^ 31) (h0 : 0 < b) (hb : b < 2 ^ 31) : floorDiv (BitVec.ofNat 32 a) (BitVec.ofNat 32 b) = BitVec.ofNat 32 (a / b) :=
  pyDiv0_ap (fun _ => BitVec.ofNat 32 a) (fun _ => BitVec.ofNat 32 b) rfl rfl ha h0 hb

/-- The running sum along each row of a matrix, read in row `w`, is the running sum of that row alone. -/
theorem window_row {A N M : ℕ} (x : IVec (shape2 A N) 32) (init : IVec shape0 32)
    (h : (shape2 A N).ReduceWindows (![1, N] : Fin 2 → ℕ) ![1, 1] ![0, M] ![0, 0] (shape2 A N))
    (h' : (shape2 1 N).ReduceWindows (![1, N] : Fin 2 → ℕ) ![1, 1] ![0, M] ![0, 0] (shape2 1 N)) (hu : 0 < shape0.numel) (w : Fin A) (j : Fin N) :
    Host.reduceWindow IntOp.addi ![1, N] ![1, 1] ![0, M] ![0, 0] x init h hu (ix2 w j)
      = Host.reduceWindow IntOp.addi ![1, N] ![1, 1] ![0, M] ![0, 0] (fun i : (shape2 1 N).Idx => x (ix2 w (i 1))) init h' hu (ix2 (0 : Fin 1) j) := by
  unfold Host.reduceWindow
  refine List.foldl_ext _ _ _ fun r n _ => congrArg (IntOp.addi r) ?_
  have hw : ((shape2 1 N).rowMajor.symm n 0).val = 0 := Nat.lt_one_iff.1 ((shape2 1 N).rowMajor.symm n 0).isLt
  have hw' : w.val < A := w.isLt
  dsimp only
  by_cases hin : M ≤ j.val * 1 + ((shape2 1 N).rowMajor.symm n 1).val ∧ j.val * 1 + ((shape2 1 N).rowMajor.symm n 1).val - M < N
  · rw [dif_pos fun a => ?_, dif_pos fun a => ?_]
    · refine congrArg x (funext fun a => Fin.ext ?_)
      match a with
      | ⟨0, _⟩ =>
        show w.val * 1 + ((shape2 1 N).rowMajor.symm n 0).val - 0 = w.val
        omega
      | ⟨1, _⟩ => rfl
    · match a with
      | ⟨0, _⟩ =>
        show 0 ≤ 0 * 1 + ((shape2 1 N).rowMajor.symm n 0).val ∧ 0 * 1 + ((shape2 1 N).rowMajor.symm n 0).val - 0 < 1
        omega
      | ⟨1, _⟩ => exact hin
    · match a with
      | ⟨0, _⟩ =>
        show 0 ≤ w.val * 1 + ((shape2 1 N).rowMajor.symm n 0).val ∧ w.val * 1 + ((shape2 1 N).rowMajor.symm n 0).val - 0 < A
        omega
      | ⟨1, _⟩ => exact hin
  · rw [dif_neg fun q => hin (q 1), dif_neg fun q => hin (q 1)]

/-- The running sum along the rows of a matrix of naturals: entry `(w, j)` holds the sum of row `w` up to and with column `j`. -/
theorem cumsum_row {A N M : ℕ} (hN : M + 1 = N) (x : IVec (shape2 A N) 32) (f : ℕ → ℕ) (w : Fin A) (hx : ∀ i : Fin N, x (ix2 w i) = BitVec.ofNat 32 (f i.val))
    (init : IVec shape0 32) (hinit : init ix0 = 0#32) (h : (shape2 A N).ReduceWindows (![1, N] : Fin 2 → ℕ) ![1, 1] ![0, M] ![0, 0] (shape2 A N))
    (h' : (shape2 1 N).ReduceWindows (![1, N] : Fin 2 → ℕ) ![1, 1] ![0, M] ![0, 0] (shape2 1 N)) (hu : 0 < shape0.numel) (j : Fin N) :
    Host.reduceWindow IntOp.addi ![1, N] ![1, 1] ![0, M] ![0, 0] x init h hu (ix2 w j) = BitVec.ofNat 32 (∑ v ∈ Finset.range (j.val + 1), f v) := by
  rw [window_row x init h h' hu w j]
  exact cumsum2 hN _ f hx init hinit h' hu j

/-- How the entry of each row that an index array names is read: rows go with rows, and the index names the column. -/
abbrev takeColsDims (A N n : ℕ) (wf : GatherDims.WF (shape2 A N) ⟨3, ![A, n, 1]⟩ (shape2 A n) [] [1] [0] [1] [0] 2 ![1, 1]) :
    GatherDims (shape2 A N) ⟨3, ![A, n, 1]⟩ (shape2 A n) where
  offsetDims := []
  collapsedSliceDims := [1]
  operandBatchingDims := [0]
  startIndicesBatchingDims := [0]
  startIndexMap := [1]
  indexVectorDim := 2
  sliceSizes := ![1, 1]
  wf := wf

/-- The entry of row `p` read at place `q`, where the index array holds the column `k` there. -/
theorem gather_cols {α : Type} {A N n : ℕ} (wf : GatherDims.WF (shape2 A N) ⟨3, ![A, n, 1]⟩ (shape2 A n) [] [1] [0] [1] [0] 2 ![1, 1])
    (x : (shape2 A N).Idx → α) (idx : IVec ⟨3, ![A, n, 1]⟩ 32) (p : Fin A) (q : Fin n) (k : Fin N) (hN : N ≤ 2 ^ 31)
    (hk : idx (ix3 p q (0 : Fin 1)) = BitVec.ofNat 32 k.val) : Host.gather (takeColsDims A N n wf) x idx (ix2 p q) = x (ix2 p k) := by
  have hkN := k.isLt
  unfold Host.gather
  refine congrArg x (funext fun a => Fin.ext ?_)
  show (takeColsDims A N n wf).start (ix2 p q) idx a + (takeColsDims A N n wf).batchCoord (ix2 p q) a + (takeColsDims A N n wf).offCoord (ix2 p q) a = _
  have ha : a = 0 ∨ a = 1 := by
    match a with
    | ⟨0, _⟩ => exact Or.inl rfl
    | ⟨1, _⟩ => exact Or.inr rfl
  rcases ha with rfl | rfl
  · rw [GatherDims.start_batching _ _ _ _ (List.mem_singleton.2 rfl),
      GatherDims.offCoord_eq_zero _ _ _ fun h => ((GatherDims.mem_sKept _ _).1 h).2 (List.mem_singleton.2 rfl), Nat.zero_add, Nat.add_zero]
    unfold GatherDims.batchCoord
    rw [dif_pos (List.mem_singleton.2 rfl)]
    rfl
  · have hm : (1 : Fin 2) ∈ (takeColsDims A N n wf).startIndexMap := List.mem_singleton.2 rfl
    rw [GatherDims.batchCoord_eq_zero _ _ _ fun h => Fin.zero_ne_one (List.mem_singleton.1 h).symm,
      GatherDims.offCoord_eq_zero _ _ _ fun h => ((GatherDims.mem_sKept _ _).1 h).1 (List.mem_singleton.2 rfl)]
    simp only [Nat.add_zero]
    unfold GatherDims.start
    rw [dif_pos hm]
    have hsi : (takeColsDims A N n wf).siIdx (ix2 p q) ⟨List.idxOf (1 : Fin 2) (takeColsDims A N n wf).startIndexMap, List.idxOf_lt_length_iff.2 hm⟩
        = ix3 p q (0 : Fin 1) := by
      funext b
      refine Fin.ext ?_
      match b with
      | ⟨0, _⟩ => rfl
      | ⟨1, _⟩ => rfl
      | ⟨2, _⟩ => rfl
    rw [hsi, hk, StableHlo.Predicate.toInt_ofNat_small _ (by omega)]
    show min ((k.val : ℤ)).toNat (N - 1) = k.val
    omega

end Cert.Proof.Eq
-- ==== Proof.Reference.lean ====
/-
  The reference's values, stage by stage, in natural numbers: each plane's histogram, its last value that occurs, its step,
  its running sums and its table, and the looked-up pixel — the same table as the kernel's.
-/
module

public import proofs.«01_k».proof.Proof.Numbers
public import proofs.«01_k».proof.Proof.Copies
public import proofs.«01_k».proof.Proof.Reading
public import proofs.«01_k».proof.Proof.Gen.ReferenceIdeal.Read
public import Idealize.ShloMosaic.Lib.IndicatorCount

@[expose] public section

noncomputable section

namespace Cert.Proof.Eq

open Cert.ReferenceIdeal Cert.ReferenceIdeal.Gen Cert.ReferenceIdeal.Read
open Idealize.ShloMosaic Idealize.ShloMosaic.ValueIdx Idealize.ShloMosaic.Routing

variable {F : FTy → Type} [FloatOps F]

/-- The image and its 96 planes have as many words. -/
theorem casts : S32x3x512x512.ShapeCasts Cert.KernelIdeal.S96x512x512 := Cert.KernelIdeal.Gen.shapeCasts_S32x3x512x512_S96x512x512

/-- The argument as 96 planes. -/
def planesR (x0 : S32x3x512x512.Idx → BitVec 32) : Cert.KernelIdeal.S96x512x512.Idx → BitVec 32 := shapeCast Cert.KernelIdeal.S96x512x512 x0 casts

/-- The pixels of plane `p`. -/
def rowPix (x0 : S32x3x512x512.Idx → BitVec 32) (p : ℕ) : ℕ → BitVec 32 := pixOf (planesR x0) p

variable (x0 : S32x3x512x512.Idx → BitVec 32)

/-- The image laid out plane by plane. -/
theorem v0_at (i : S96x262144.Idx) : val_main_v0 (F := F) x0 i = rowPix x0 (i 0).val (i 1).val := by
  have h0 : (i 0).val < 96 := (i 0).isLt
  have h1 : (i 1).val < 262144 := (i 1).isLt
  have hr : (i 1).val / 512 < 512 := by omega
  have hc : (i 1).val % 512 < 512 := Nat.mod_lt _ (by decide)
  have e : rowPix x0 (i 0).val (i 1).val = planesR x0 (at3 (i 0).val ((i 1).val / 512) ((i 1).val % 512) h0 hr hc) := by
    refine Eq.trans ?_ (pixOf_at3 (planesR x0) h0 hr hc)
    unfold rowPix
    rw [Nat.div_add_mod]
  rw [e, val_main_v0_apply]
  refine (shapeCast_apply x0 casts _ (idx_main_v0 i) ?_).symm
  rw [Shape.rowMajor_val_four, Shape.rowMajor_val_three]
  show ((((i 0).val * 262144 + (i 1).val) / 786432 * 3 + ((i 0).val * 262144 + (i 1).val) / 262144 % 3) * 512 + ((i 0).val * 262144 + (i 1).val) / 512 % 512) * 512
    + ((i 0).val * 262144 + (i 1).val) % 512 = ((i 0).val * 512 + (i 1).val / 512) * 512 + (i 1).val % 512
  omega

/-! ## The histogram -/

/-- A pixel compared with a value: one where it bears it, zero elsewhere. -/
theorem v7_at (i : S96x262144x256.Idx) :
    val_main_v7 (F := F) x0 i = (IntOp.cmpi .eq (rowPix x0 (i 0).val (i 1).val) (BitVec.ofNat 32 (i 2).val)).setWidth 32 := by
  rw [val_main_v7_apply, val_main_v6_apply, val_main_v4_apply, val_main_v2_apply, v0_at, val_main_v5_apply, val_main_v3_apply, val_main_v1_apply]

/-- Counting over the places of a plane. -/
theorem card_places (pix : ℕ → BitVec 32) {v : ℕ} (hv : v < 2 ^ 32) (n : ℕ) :
    ((Finset.univ : Finset (Fin n)).filter fun k => IntOp.cmpi .eq (pix k.val) (BitVec.ofNat 32 v) = 1#1).card = countTo pix n v := by
  have e : ((Finset.univ : Finset (Fin n)).filter fun k => IntOp.cmpi .eq (pix k.val) (BitVec.ofNat 32 v) = 1#1)
      = (Finset.univ : Finset (Fin n)).filter fun k => (pix k.val).toNat = v := by
    refine Finset.filter_congr fun k _ => ?_
    rw [WordCmp.cmpi_eq_eq, WordCmp.ofBool_eq_one_iff, decide_eq_true_eq, ← BitVec.toNat_inj, BitVec.toNat_ofNat, Nat.mod_eq_of_lt hv]
  rw [e, card_filter_fin n fun m => (pix m).toNat = v, Nat.count_eq_card_filter_range]
  rfl

/-- The histogram: how many pixels of the plane bear the value. -/
theorem v8_at (i : S96x256.Idx) : val_main_v8 (F := F) x0 i = BitVec.ofNat 32 (pixelsAt (rowPix x0 (i 0).val) (i 1).val) := by
  have hv : (i 1).val < 256 := (i 1).isLt
  have hR : S96x262144x256.Reduces [1] S96x256 := by decide
  unfold val_main_v8
  refine (Host.reduce_eq_fold_single IntOp.addi _ _ _ hR h_S_ i).trans ?_
  have e : (val_main_v7 (F := F) x0 ∘ hR.lift i)
      = fun k : Fin 262144 => (IntOp.cmpi .eq (rowPix x0 (i 0).val k.val) (BitVec.ofNat 32 (i 1).val)).setWidth 32 :=
    funext fun k => v7_at x0 (hR.lift i k)
  rw [e]
  refine (IndicatorCount.fold_addi_setWidth_eq_card _ _).trans ?_
  exact congrArg (BitVec.ofNat 32) (card_places (rowPix x0 (i 0).val) (by omega) 262144)

/-! ## The last value that occurs -/

/-- The last value that occurs in plane `p`. -/
def lastN (p : ℕ) : ℕ := lastTo (pixelsAt (rowPix x0 p)) 256

attribute [local irreducible] lastTo

/-- The last non-empty bin is one of the 256. -/
theorem lastN_lt (p : ℕ) : lastN x0 p < 256 := lastTo_lt _ (by decide)

/-- A bin's own number where it isn't empty, zero elsewhere. -/
theorem v11_at (i : S96x256.Idx) :
    val_main_v11 (F := F) x0 i = BitVec.ofNat 32 (if pixelsAt (rowPix x0 (i 0).val) (i 1).val = 0 then 0 else (i 1).val) := by
  rw [val_main_v11_apply, val_main_v10_apply, v8_at, val_main_v9_apply, val_main_call0_v1_apply, val_main_v1_apply, val_main_call0_v2_apply]
  show Scalar.select (IntOp.cmpi .ne _ 0#32) (BitVec.ofNat 32 (i 1).val) 0#32 = _
  have hle := pixelsAt_le (pix := rowPix x0 (i 0).val) (i 1).val
  rw [WordCmp.cmpi_ne_eq]
  by_cases h : pixelsAt (rowPix x0 (i 0).val) (i 1).val = 0
  · rw [if_pos h, h]
    rfl
  · rw [if_neg h, decide_eq_true (show BitVec.ofNat 32 (pixelsAt (rowPix x0 (i 0).val) (i 1).val) ≠ 0#32 from fun q => h ((ofNat_eq_zero_iff (by omega)).1 q))]
    rfl

/-- The greatest of them is the last non-empty bin. -/
theorem v12_at (i : S96.Idx) : val_main_v12 (F := F) x0 i = BitVec.ofNat 32 (lastN x0 (i 0).val) := by
  have hR : S96x256.Reduces [1] S96 := by decide
  have hl := lastN_lt x0 (i 0).val
  obtain ⟨p, rfl⟩ : ∃ p : Fin 96, i = ix1 p := ⟨i 0, eq_ix1 i⟩
  unfold val_main_v12
  refine (reduce_rows IntOp.maxsi (val_main_v11 (F := F) x0) _ _ hR h_S_ p).trans ?_
  refine (Finset.fold_congr fun k _ => v11_at x0 (ix2 p k)).trans ?_
  change lastN x0 p.val < 256 at hl
  show Finset.fold IntOp.maxsi _ (fun k : Fin 256 => BitVec.ofNat 32 (if pixelsAt (rowPix x0 p.val) k.val = 0 then 0 else k.val)) _
    = BitVec.ofNat 32 (lastN x0 p.val)
  have hlast : (if pixelsAt (rowPix x0 p.val) (lastN x0 p.val) = 0 then 0 else lastN x0 p.val) = lastN x0 p.val := by
    rcases lastTo_occurs (pixelsAt (rowPix x0 p.val)) 256 with h | h
    · unfold lastN
      rw [h, ite_self]
    · exact if_neg h
  refine (fold_maxsi_eq Finset.univ (fun k : Fin 256 => BitVec.ofNat 32 (if pixelsAt (rowPix x0 p.val) k.val = 0 then 0 else k.val)) _
    (k₀ := ⟨lastN x0 p.val, hl⟩) (Finset.mem_univ _) ?_ fun k _ => ?_).trans (congrArg (BitVec.ofNat 32) hlast)
  · refine le_trans (b := 0) (show (2147483648#32 : BitVec 32).toInt ≤ 0 by decide) ?_
    rw [StableHlo.Predicate.toInt_ofNat_small _ (by rw [hlast]; omega)]
    exact Int.natCast_nonneg _
  · have hk : k.val < 256 := k.isLt
    rw [StableHlo.Predicate.toInt_ofNat_small _ (by split <;> omega), StableHlo.Predicate.toInt_ofNat_small _ (by rw [hlast]; omega)]
    show ((if pixelsAt (rowPix x0 p.val) k.val = 0 then 0 else k.val : ℕ) : ℤ)
      ≤ ((if pixelsAt (rowPix x0 p.val) (lastN x0 p.val) = 0 then 0 else lastN x0 p.val : ℕ) : ℤ)
    rw [hlast]
    refine Int.ofNat_le.2 ?_
    split
    · exact Nat.zero_le _
    · next h => exact le_lastTo _ hk h

/-! ## Words that name a column are in range -/

/-- A bin's number isn't negative, so no wrapping changes it. -/
theorem wrap_word {k : ℕ} (hk : k < 256) :
    Scalar.select (IntOp.cmpi .slt (BitVec.ofNat 32 k) 0#32) (IntOp.addi (BitVec.ofNat 32 k) 256#32) (BitVec.ofNat 32 k) = BitVec.ofNat 32 k := by
  have h : IntOp.cmpi .slt (BitVec.ofNat 32 k) (BitVec.ofNat 32 0) = 0#1 := by
    rw [WordCmp.cmpi_slt_ofNat (by omega) (by decide), decide_eq_false (Nat.not_lt_zero k)]
    rfl
  show Scalar.select (IntOp.cmpi .slt (BitVec.ofNat 32 k) (BitVec.ofNat 32 0)) _ _ = _
  rw [h]
  rfl

/-- A bin's number passes the test of bounds. -/
theorem mask_word {k : ℕ} (hk : k < 256) :
    IntOp.andi (IntOp.cmpi .sge (BitVec.ofNat 32 k) 0#32) (IntOp.cmpi .sle (BitVec.ofNat 32 k) 255#32) = 1#1 := by
  show IntOp.andi (IntOp.cmpi .sge (BitVec.ofNat 32 k) (BitVec.ofNat 32 0)) (IntOp.cmpi .sle (BitVec.ofNat 32 k) (BitVec.ofNat 32 255)) = 1#1
  rw [WordCmp.cmpi_sge_ofNat (by omega) (by decide), WordCmp.cmpi_sle_ofNat (by omega) (by decide), decide_eq_true (Nat.zero_le k),
    decide_eq_true (show k ≤ 255 by omega)]
  rfl

/-! ## The count of the last value, and the step -/

/-- The place at which the histogram is read is the last non-empty bin. -/
theorem call1_v5_at (i : S96x1x1.Idx) : val_main_call1_v5 (F := F) x0 i = BitVec.ofNat 32 (lastN x0 (i 0).val) := by
  have h1 : (i 1).val = 0 := Nat.lt_one_iff.1 (i 1).isLt
  have h2 : (i 2).val = 0 := Nat.lt_one_iff.1 (i 2).isLt
  have e : (((i 0).val * 1 + (i 1).val) * 1 + (i 2).val) / 1 = (i 0).val := by omega
  rw [val_main_call1_v5_apply, val_main_call1_v4_apply, val_main_call1_v1_apply, val_main_call1_v3_apply, val_main_v13_apply, v12_at,
    val_main_call1_v0_apply, val_main_call1_v2_apply]
  refine (wrap_word (lastN_lt x0 _)).trans ?_
  show BitVec.ofNat 32 (lastN x0 ((((i 0).val * 1 + (i 1).val) * 1 + (i 2).val) / 1)) = _
  rw [e]

/-- That place is within bounds. -/
theorem call1_v12_at (i : S96x1.Idx) : val_main_call1_v12 (F := F) x0 i = 1#1 := by
  refine Host.reduce_andi_one _ _ _ _ i rfl fun j => ?_
  rw [val_main_call1_v11_apply, val_main_call1_v7_apply, val_main_call1_v10_apply, call1_v5_at, val_main_call1_v6_apply, val_main_call1_v9_apply,
    val_main_call1_v8_apply]
  exact mask_word (lastN_lt x0 _)

/-- The word read there is the histogram's. -/
theorem call1_v13_at (p : Fin 96) (q : Fin 1) :
    val_main_call1_v13 (F := F) x0 (ix2 p q) = BitVec.ofNat 32 (pixelsAt (rowPix x0 p.val) (lastN x0 p.val)) :=
  (gather_cols gather_S96x256_S96x1x1_S96x1_n_1_0_0_1_2_11_wf (val_main_v8 (F := F) x0) (val_main_call1_v5 (F := F) x0) p q
    ⟨lastN x0 p.val, lastN_lt x0 p.val⟩ (by omega) (call1_v5_at x0 (ix3 p q 0))).trans (v8_at x0 _)

/-- The count of the last non-empty bin. -/
theorem v14_at (i : S96x1.Idx) : val_main_v14 (F := F) x0 i = BitVec.ofNat 32 (pixelsAt (rowPix x0 (i 0).val) (lastN x0 (i 0).val)) := by
  obtain ⟨p, q, rfl⟩ : ∃ (p : Fin 96) (q : Fin 1), i = ix2 p q := ⟨i 0, i 1, eq_ix2 i⟩
  rw [val_main_v14_apply, call1_v12_at, call1_v13_at]
  rfl

/-- Every pixel of the argument is a byte. -/
def BytesR : Prop := ∀ i, (x0 i).toNat < 256

variable {x0}

/-- The pixels of each plane are bytes. -/
theorem rowPix_bytes (hx : BytesR x0) (p : ℕ) : Bytes (rowPix x0 p) := pixOf_bytes (fun _ => hx _) p

/-- The histogram's sum is the number of pixels. -/
theorem v15_at (hx : BytesR x0) (i : S96.Idx) : val_main_v15 (F := F) x0 i = 262144#32 := by
  have hR : S96x256.Reduces [1] S96 := by decide
  obtain ⟨p, rfl⟩ : ∃ p : Fin 96, i = ix1 p := ⟨i 0, eq_ix1 i⟩
  unfold val_main_v15
  refine (reduce_rows IntOp.addi (val_main_v8 (F := F) x0) _ _ hR h_S_ p).trans ?_
  refine (fold_addi_ofNat (Finset.univ : Finset (Fin 256)) _ (fun k => pixelsAt (rowPix x0 p.val) k.val) fun k _ => v8_at x0 (ix2 p k)).trans ?_
  refine congrArg (BitVec.ofNat 32) ?_
  rw [Fin.sum_univ_eq_sum_range fun v => pixelsAt (rowPix x0 p.val) v]
  exact pixelsBelow_all (rowPix_bytes hx _)

/-- The pixels outside of the last non-empty bin. -/
theorem v17_at (hx : BytesR x0) (i : S96x1.Idx) :
    val_main_v17 (F := F) x0 i = BitVec.ofNat 32 (262144 - pixelsAt (rowPix x0 (i 0).val) (lastN x0 (i 0).val)) := by
  rw [val_main_v17_apply, val_main_v16_apply, v15_at hx, v14_at]
  exact subi_ofNat (pixelsAt_le _) (by decide)

/-- The step is a floor division by 255. -/
theorem v18_div (i : S96x1.Idx) : val_main_v18 (F := F) x0 i = floorDiv (val_main_v17 (F := F) x0 i) 255#32 := by
  rw [val_main_v18_apply, val_main_call2_v11_apply, val_main_call2_v6_apply, val_main_call2_v10_apply, val_main_call2_v13_apply, val_main_call2_v2_apply,
    val_main_call2_v8_apply, val_main_call2_v5_apply, val_main_call2_v1_apply, val_main_call2_v7_apply, val_main_call2_v9_apply, val_main_call2_v12_apply]
  rfl

/-- The step. -/
theorem v18_at (hx : BytesR x0) (i : S96x1.Idx) : val_main_v18 (F := F) x0 i = BitVec.ofNat 32 (stepN (rowPix x0 (i 0).val)) := by
  rw [v18_div, v17_at hx]
  exact floorDiv_ofNat (by omega) (by decide) (by decide)

/-! ## The table -/

/-- The table's entry before it is clipped. -/
def rawN (pix : ℕ → BitVec 32) (v : ℕ) : ℕ := (pixelsBelow pix v + stepN pix / 2) / max (stepN pix) 1

/-- Before the first bin the quotient is zero. -/
theorem rawN_zero (pix : ℕ → BitVec 32) : rawN pix 0 = 0 := by
  show (0 + stepN pix / 2) / max (stepN pix) 1 = 0
  exact Nat.div_eq_of_lt (by omega)

/-- The quotients fit a word. -/
theorem rawN_lt {pix : ℕ → BitVec 32} (h : Bytes pix) {v : ℕ} (hv : v ≤ 256) : rawN pix v < 2 ^ 31 := by
  have h1 := pixelsBelow_le h hv
  have h2 := stepN_le (pix := pix)
  have h3 : rawN pix v ≤ pixelsBelow pix v + stepN pix / 2 := Nat.div_le_self _ _
  omega

/-- The running sum of the histogram: the pixels up to and with the value. -/
theorem v19_at (i : S96x256.Idx) : val_main_v19 (F := F) x0 i = BitVec.ofNat 32 (pixelsBelow (rowPix x0 (i 0).val) ((i 1).val + 1)) := by
  obtain ⟨p, v, rfl⟩ : ∃ (p : Fin 96) (v : Fin 256), i = ix2 p v := ⟨i 0, i 1, eq_ix2 i⟩
  exact cumsum_row (N := 256) (M := 255) (by omega) (val_main_v8 (F := F) x0) (pixelsAt (rowPix x0 p.val)) p (fun k => v8_at x0 (ix2 p k))
    (val_main_call3_call0_v0 (F := F)) (val_main_call3_call0_v0_apply _) reduceWindows_S96x256_S96x256_w1s1p0_0_w256s1p255_0 (by decide) h_S_ v

/-- The divisor: the step, or one where it is zero. -/
theorem v21_at (hx : BytesR x0) (i : S96x1.Idx) : val_main_v21 (F := F) x0 i = BitVec.ofNat 32 (max (stepN (rowPix x0 (i 0).val)) 1) := by
  have h := stepN_le (pix := rowPix x0 (i 0).val)
  rw [val_main_v21_apply, v18_at hx, val_main_v20_apply]
  exact maxsi_ofNat (by omega) (by decide)

/-- Half of the step is a floor division by two. -/
theorem v22_div (i : S96x1.Idx) : val_main_v22 (F := F) x0 i = floorDiv (val_main_v18 (F := F) x0 i) 2#32 := by
  rw [val_main_v22_apply, val_main_call4_v11_apply, val_main_call4_v6_apply, val_main_call4_v10_apply, val_main_call4_v13_apply, val_main_call4_v2_apply,
    val_main_call4_v8_apply, val_main_call4_v5_apply, val_main_call4_v1_apply, val_main_call4_v7_apply, val_main_call4_v9_apply, val_main_call4_v12_apply]
  rfl

/-- Half of the step. -/
theorem v22_at (hx : BytesR x0) (i : S96x1.Idx) : val_main_v22 (F := F) x0 i = BitVec.ofNat 32 (stepN (rowPix x0 (i 0).val) / 2) := by
  have h := stepN_le (pix := rowPix x0 (i 0).val)
  rw [v22_div, v18_at hx]
  exact floorDiv_ofNat (by omega) (by decide) (by decide)

/-- The running sum and half of the step. -/
theorem v24_at (hx : BytesR x0) (i : S96x256.Idx) :
    val_main_v24 (F := F) x0 i = BitVec.ofNat 32 (pixelsBelow (rowPix x0 (i 0).val) ((i 1).val + 1) + stepN (rowPix x0 (i 0).val) / 2) := by
  rw [val_main_v24_apply, v19_at, val_main_v23_apply, v22_at hx]
  exact (BitVec.ofNat_add _ _).symm

/-- The table is a floor division by the divisor. -/
theorem v25_div (i : S96x256.Idx) : val_main_v25 (F := F) x0 i = floorDiv (val_main_v24 (F := F) x0 i) (val_main_v21 (F := F) x0 (idx_main_call5_v0 i)) := by
  rw [val_main_v25_apply, val_main_call5_v10_apply, val_main_call5_v5_apply, val_main_call5_v9_apply, val_main_call5_v12_apply, val_main_call5_v1_apply,
    val_main_call5_v7_apply, val_main_call5_v4_apply, val_main_call5_v0_apply, val_main_call5_v6_apply, val_main_call5_v8_apply, val_main_call5_v11_apply]
  rfl

/-- The table before it is shifted. -/
theorem v25_at (hx : BytesR x0) (i : S96x256.Idx) : val_main_v25 (F := F) x0 i = BitVec.ofNat 32 (rawN (rowPix x0 (i 0).val) ((i 1).val + 1)) := by
  have hv : (i 1).val < 256 := (i 1).isLt
  have h1 := pixelsBelow_le (rowPix_bytes hx (i 0).val) (n := (i 1).val + 1) (by omega)
  have h2 := stepN_le (pix := rowPix x0 (i 0).val)
  rw [v25_div, v24_at hx, v21_at hx]
  exact floorDiv_ofNat (by omega) (Nat.lt_of_lt_of_le Nat.one_pos (le_max_right _ _)) (lt_of_le_of_lt (max_le (h2.trans (by omega)) (by omega : 1 ≤ 1028)) (by decide))

/-- The table shifted by one place, with a zero in front. -/
theorem v28_at (hx : BytesR x0) (i : S96x256.Idx) : val_main_v28 (F := F) x0 i = BitVec.ofNat 32 (rawN (rowPix x0 (i 0).val) (i 1).val) := by
  obtain ⟨p, v, rfl⟩ : ∃ (p : Fin 96) (v : Fin 256), i = ix2 p v := ⟨i 0, i 1, eq_ix2 i⟩
  unfold val_main_v28
  have hv := v.isLt
  rcases Nat.eq_zero_or_pos v.val with h | h
  · refine (concatenate_pair_apply_left (1 : Fin S96x256.rank) (val_main_v26 (F := F)) (val_main_v27 (F := F) x0) concatenates_S96x1_S96x255_S96x256_d1 (ix2 p v) rfl
      (ix2 p (0 : Fin 1)) fun b => ?_).trans ?_
    · match b with
      | ⟨0, _⟩ => rfl
      | ⟨1, _⟩ => exact h.symm
    · rw [val_main_v26_apply]
      show 0#32 = BitVec.ofNat 32 (rawN (rowPix x0 p.val) v.val)
      rw [h, rawN_zero]
  · refine (concatenate_pair_apply_right (1 : Fin S96x256.rank) (val_main_v26 (F := F)) (val_main_v27 (F := F) x0) concatenates_S96x1_S96x255_S96x256_d1 (ix2 p v) rfl
      rfl (ix2 p (⟨v.val - 1, by omega⟩ : Fin 255)) (fun b hb => ?_) ?_).trans ?_
    · match b, hb with
      | ⟨0, _⟩, _ => rfl
      | ⟨1, _⟩, hb => exact absurd rfl hb
    · show v.val - 1 + 1 = v.val
      omega
    · rw [val_main_v27_apply, v25_at hx]
      show BitVec.ofNat 32 (rawN (rowPix x0 p.val) (v.val - 1 + 1)) = BitVec.ofNat 32 (rawN (rowPix x0 p.val) v.val)
      rw [Nat.sub_add_cancel h]

/-- The table clipped to a byte. -/
theorem v29_at (hx : BytesR x0) (i : S96x256.Idx) : val_main_v29 (F := F) x0 i = BitVec.ofNat 32 (entryN (rowPix x0 (i 0).val) (i 1).val) := by
  have hv : (i 1).val < 256 := (i 1).isLt
  rw [val_main_v29_apply, val_main_call6_v4_apply, val_main_call6_v2_apply, val_main_call6_v1_apply, v28_at hx]
  refine (clip_word (lo := 0) (hi := 255) (rawN_lt (rowPix_bytes hx _) hv.le) (by omega) (by omega)).trans ?_
  rw [Nat.max_zero]
  rfl

/-! ## The pixels -/

/-- A pixel is the word of its own number. -/
theorem pix_word (p n : ℕ) : rowPix x0 p n = BitVec.ofNat 32 (rowPix x0 p n).toNat := by
  rw [BitVec.ofNat_toNat, BitVec.setWidth_eq]

/-- The place at which the table is read is the pixel's value. -/
theorem call7_v5_at (hx : BytesR x0) (i : S96x262144x1.Idx) :
    val_main_call7_v5 (F := F) x0 i = BitVec.ofNat 32 (rowPix x0 (i 0).val (i 1).val).toNat := by
  have h0 : (i 0).val < 96 := (i 0).isLt
  have h1 : (i 1).val < 262144 := (i 1).isLt
  have h2 : (i 2).val = 0 := Nat.lt_one_iff.1 (i 2).isLt
  have e0 : (((i 0).val * 262144 + (i 1).val) * 1 + (i 2).val) / 262144 = (i 0).val := by omega
  have e1 : (((i 0).val * 262144 + (i 1).val) * 1 + (i 2).val) % 262144 = (i 1).val := by omega
  have e : idx_main_call7_v5 i = ix2 (⟨(i 0).val, h0⟩ : Fin 96) (⟨(i 1).val, h1⟩ : Fin 262144) := by
    funext a
    match a with
    | ⟨0, _⟩ => exact Fin.ext e0
    | ⟨1, _⟩ => exact Fin.ext e1
  have ev : val_main_v0 (F := F) x0 (ix2 (⟨(i 0).val, h0⟩ : Fin 96) (⟨(i 1).val, h1⟩ : Fin 262144)) = BitVec.ofNat 32 (rowPix x0 (i 0).val (i 1).val).toNat := (v0_at x0 _).trans (pix_word _ _)
  rw [val_main_call7_v5_apply, e, val_main_call7_v4_apply, val_main_call7_v1_apply, val_main_call7_v3_apply, val_main_call7_v0_apply, val_main_call7_v2_apply, ev]
  exact wrap_word (rowPix_bytes hx _ _)

/-- That place is within bounds. -/
theorem call7_v12_at (hx : BytesR x0) (i : S96x262144.Idx) : val_main_call7_v12 (F := F) x0 i = 1#1 := by
  refine Host.reduce_andi_one _ _ _ _ i rfl fun j => ?_
  rw [val_main_call7_v11_apply, val_main_call7_v7_apply, val_main_call7_v10_apply, call7_v5_at hx, val_main_call7_v6_apply, val_main_call7_v9_apply,
    val_main_call7_v8_apply]
  exact mask_word (rowPix_bytes hx _ _)

/-- The word read there is the table's. -/
theorem call7_v13_at (hx : BytesR x0) (p : Fin 96) (n : Fin 262144) :
    val_main_call7_v13 (F := F) x0 (ix2 p n) = BitVec.ofNat 32 (entryN (rowPix x0 p.val) (rowPix x0 p.val n.val).toNat) :=
  (gather_cols gather_S96x256_S96x262144x1_S96x262144_n_1_0_0_1_2_11_wf (val_main_v29 (F := F) x0) (val_main_call7_v5 (F := F) x0) p n
    ⟨(rowPix x0 p.val n.val).toNat, rowPix_bytes hx _ _⟩ (by omega) (call7_v5_at hx (ix3 p n 0))).trans (v29_at hx _)

/-- The reference's pixel: its plane's table at its own value. -/
theorem v33_at (hx : BytesR x0) (i : S96x262144.Idx) :
    val_main_v33 (F := F) x0 i = tabAt (rowPix x0 (i 0).val) (rowPix x0 (i 0).val (i 1).val).toNat := by
  obtain ⟨p, n, rfl⟩ : ∃ (p : Fin 96) (n : Fin 262144), i = ix2 p n := ⟨i 0, i 1, eq_ix2 i⟩
  have hs := stepN_le (pix := rowPix x0 p.val)
  rw [val_main_v33_apply, val_main_call8_v0_apply, val_main_v31_apply, v18_at hx, val_main_v30_apply, v0_at, val_main_v32_apply, call7_v12_at hx,
    call7_v13_at hx]
  show Scalar.select (IntOp.cmpi .eq (BitVec.ofNat 32 (stepN (rowPix x0 p.val))) 0#32) (rowPix x0 p.val n.val)
    (BitVec.ofNat 32 (entryN (rowPix x0 p.val) (rowPix x0 p.val n.val).toNat)) = tabAt (rowPix x0 p.val) (rowPix x0 p.val n.val).toNat
  rw [tabAt_eq (rowPix_bytes hx _) (rowPix_bytes hx _ _), WordCmp.cmpi_eq_eq]
  by_cases h : stepN (rowPix x0 p.val) = 0
  · rw [if_pos h, h]
    exact pix_word _ _
  · rw [if_neg h, decide_eq_false (show ¬BitVec.ofNat 32 (stepN (rowPix x0 p.val)) = 0#32 from fun q => h ((ofNat_eq_zero_iff (by omega)).1 q))]
    rfl

/-- The reference's result is the equalised planes: what the kernel returns. -/
theorem v34_eq (hx : BytesR x0) : val_main_v34 (F := F) x0
    = shapeCast S32x3x512x512 (equalized (planesR x0)) Cert.KernelIdeal.Gen.shapeCasts_S96x512x512_S32x3x512x512 := by
  funext i
  have h0 : (i 0).val < 32 := (i 0).isLt
  have h1 : (i 1).val < 3 := (i 1).isLt
  have h2 : (i 2).val < 512 := (i 2).isLt
  have h3 : (i 3).val < 512 := (i 3).isLt
  have hp : (i 0).val * 3 + (i 1).val < 96 := by omega
  rw [val_main_v34_apply, v33_at hx]
  refine Eq.trans ?_ (shapeCast_apply (equalized (planesR x0)) Cert.KernelIdeal.Gen.shapeCasts_S96x512x512_S32x3x512x512 i
    (at3 ((i 0).val * 3 + (i 1).val) (i 2).val (i 3).val hp h2 h3) ?_).symm
  · have e0 : ((((i 0).val * 3 + (i 1).val) * 512 + (i 2).val) * 512 + (i 3).val) / 262144 = (i 0).val * 3 + (i 1).val := by omega
    have e1 : ((((i 0).val * 3 + (i 1).val) * 512 + (i 2).val) * 512 + (i 3).val) % 262144 = 512 * (i 2).val + (i 3).val := by omega
    show tabAt (rowPix x0 (((((i 0).val * 3 + (i 1).val) * 512 + (i 2).val) * 512 + (i 3).val) / 262144))
        (rowPix x0 (((((i 0).val * 3 + (i 1).val) * 512 + (i 2).val) * 512 + (i 3).val) / 262144)
          (((((i 0).val * 3 + (i 1).val) * 512 + (i 2).val) * 512 + (i 3).val) % 262144)).toNat
      = tabAt (rowPix x0 ((i 0).val * 3 + (i 1).val)) (planesR x0 (at3 ((i 0).val * 3 + (i 1).val) (i 2).val (i 3).val hp h2 h3)).toNat
    rw [e0, e1]
    exact congrArg (fun z : BitVec 32 => tabAt (rowPix x0 ((i 0).val * 3 + (i 1).val)) z.toNat) (pixOf_at3 (planesR x0) hp h2 h3)
  · rw [Shape.rowMajor_val_four, Shape.rowMajor_val_three]
    rfl

end Cert.Proof.Eq
-- ==== Proof.Algebraic.lean ====
/-
  The kernel and the reference return the same image: both end at the equalised planes of the argument.
-/
module

public import proofs.«01_k».proof.Proof.Frames
public import proofs.«01_k».proof.Proof.Reference

@[expose] public section

noncomputable section

namespace Cert.Proof.Eq

open Idealize.ShloMosaic Idealize.ShloMosaic.StableHlo Idealize.SL.Sem

/-- The reference's result, of an argument of bytes that is the kernel's, is the kernel's result. -/
theorem reference_final (m : (ℓ : Loc Cert.KernelIdeal.nD Cert.KernelIdeal.τ Cert.KernelIdeal.sig) → Buf (Elt Ideal) ℓ) (h : PreOK m) (c : Dev Cert.KernelIdeal.nD) :
    Cert.ReferenceIdeal.Read.val_main_v34 (F := Ideal) (pixels m c) = final m c := by
  refine (v34_eq (F := Ideal) (x0 := pixels m c) fun i => h c i).trans ?_
  rw [final_eq, planes_eq]
  rfl

/-- Over the ideal numbers the kernel and the reference, run on one image in range, return one image. -/
theorem algebraic : Cert.algebraic_KernelIdeal_ReferenceIdeal := fun m ρ m' ρ' h hm => by
  have hpre : PreOK m := fun d x => bytes_of_range (h d) x
  refine ⟨fun c => final m c, ?_, ?_⟩
  · exact (θ_run Cert.KernelIdeal.defs _ _).mono (fun _ q c => ⟨(q.1 c).2, (q.1 c).1⟩) (run_main (F := Ideal) (m := m) ρ hpre)
  · refine (θ_run Cert.ReferenceIdeal.defs _ _).mono (fun r q c => ⟨?_, (q c).2⟩) (Cert.ReferenceIdeal.Value.run m' ρ')
    refine ((q c).1.trans (Cert.ReferenceIdeal.Read.val_main_v34_eq (F := Ideal) (launchContents m' c))).trans ?_
    refine Eq.trans (congrArg (Cert.ReferenceIdeal.Read.val_main_v34 (F := Ideal)) ?_) (reference_final m hpre c)
    rw [launchContents_devRef]
    exact hm c

end Cert.Proof.Eq

end
-- ==== Proof.lean ====
/-
  The certificate: the kernel's and the reference's frames, and that the kernel computes the reference — from the modules
  beside this one.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Gen.ReferenceIdeal.Run
public import proofs.«01_k».proof.Proof.Gen.ReferenceIdeal.Read
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Pre_in_range.Gen.facts, Eq.frame_kernel, Eq.frame_kernelIdeal,
    Eq.frame_referenceIdeal, Eq.frame_referenceIdeal_in_range, trivial, Eq.algebraic⟩

end Cert.Proof

end
